-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)) (v2 : (c : Dev Cert.Kernel2Ideal.nD) → Buf (Elt Ideal) ((c.tc : Thread Cert.Kernel2Ideal.nD Cert.Kernel2Ideal.τ).loc Cert.Kernel2Ideal.main_v19_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_v19_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v108) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "half_k" .f32 0xC0B8AA3B#32 (((-4) * (Real.log 2)⁻¹ : ℝ) : EReal)

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v14_0)) (v1 : (c : Dev Cert.Kernel6Ideal.nD) → Buf (Elt Ideal) ((c.tc : Thread Cert.Kernel6Ideal.nD Cert.Kernel6Ideal.τ).loc Cert.Kernel6Ideal.main_v14_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_0) = v0 c
          ∧ r.2.mem ((c.tc : Thread Cert.Kernel6Ideal.nD Cert.Kernel6Ideal.τ).loc Cert.Kernel6Ideal.main_v14_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ preserves_Kernel6_Kernel6Ideal
    ∧ algebraic_Kernel6Ideal_Reference6Ideal (hKernel6Ideal := hKernel6Ideal) (hReference6Ideal := hReference6Ideal)
-- ==== Pre_finite.lean ====
abbrev S4x2048x1024 : Shape := ⟨3, ![4, 2048, 1024]⟩
abbrev S4x2048x11264 : Shape := ⟨3, ![4, 2048, 11264]⟩
abbrev S4x2048x2048 : Shape := ⟨3, ![4, 2048, 2048]⟩
abbrev S4x1x2048 : Shape := ⟨3, ![4, 1, 2048]⟩
abbrev S1x2048 : Shape := ⟨2, ![1, 2048]⟩
abbrev S1x1024x2048 : Shape := ⟨3, ![1, 1024, 2048]⟩
abbrev S1x2048x2048 : Shape := ⟨3, ![1, 2048, 2048]⟩
abbrev S1x2048x4 : Shape := ⟨3, ![1, 2048, 4]⟩
abbrev S1x2048x32 : Shape := ⟨3, ![1, 2048, 32]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x11264 : S_.BroadcastsInDim S4x2048x11264 (![] : Fin 0 → Fin S4x2048x11264.rank)
  reducesTo_S4x2048x11264_S_d0_1_2 : S4x2048x11264.ReducesTo [0, 1, 2] S_
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x1x2048 : S_.BroadcastsInDim S4x1x2048 (![] : Fin 0 → Fin S4x1x2048.rank)
  reducesTo_S4x1x2048_S_d0_1_2 : S4x1x2048.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1x2048x4 : S_.BroadcastsInDim S1x2048x4 (![] : Fin 0 → Fin S1x2048x4.rank)
  reducesTo_S1x2048x4_S_d0_1_2 : S1x2048x4.ReducesTo [0, 1, 2] S_
  bcast_S_S1x2048x32 : S_.BroadcastsInDim S1x2048x32 (![] : Fin 0 → Fin S1x2048x32.rank)
  reducesTo_S1x2048x32_S_d0_1_2 : S1x2048x32.ReducesTo [0, 1, 2] S_

variable [Facts]

def fn_part4 {F : FTy → Type} [FloatOps F] (main_arg13 : FVec F S1x2048x32 .f32) (main_v68 : IVec S_ 1) : IVec S_ 1 :=
  let main_v69 : FVec F S1x2048x32 .f32 := Host.absf main_arg13
  let main_cst_25 : FVec F S_ .f32 := constant S_ .f32 0x7F800000#32
  let main_v70 : FVec F S1x2048x32 .f32 := broadcastInDim S1x2048x32 ![] bcast_S_S1x2048x32 main_cst_25
  let main_v71 : IVec S1x2048x32 1 := cmpf .olt main_v69 main_v70
  let main_c_26 : IVec S_ 1 := constantI S_ 1 1#1
  let main_v72 : IVec S_ 1 := (fun x v => Host.reduce IntOp.andi x v reducesTo_S1x2048x32_S_d0_1_2 h_S_) main_v71 main_c_26
  let main_v73 : IVec S_ 1 := andi main_v68 main_v72
  main_v73

def fn_part3 {F : FTy → Type} [FloatOps F] (main_arg10 : FVec F S1x1024x2048 .f32) (main_arg11 : FVec F S1x2048x2048 .f32) (main_arg12 : FVec F S1x2048x4 .f32) (main_arg13 : FVec F S1x2048x32 .f32) (main_v48 : IVec S_ 1) (main_v51 : IVec S1x1024x2048 1) : IVec S_ 1 :=
  let main_c_18 : IVec S_ 1 := constantI S_ 1 1#1
  let main_v52 : IVec S_ 1 := (fun x v => Host.reduce IntOp.andi x v reducesTo_S1x1024x2048_S_d0_1_2 h_S_) main_v51 main_c_18
  let main_v53 : IVec S_ 1 := andi main_v48 main_v52
  let main_v54 : FVec F S1x1024x2048 .f32 := Host.absf main_arg10
  let main_cst_19 : FVec F S_ .f32 := constant S_ .f32 0x7F800000#32
  let main_v55 : FVec F S1x1024x2048 .f32 := broadcastInDim S1x1024x2048 ![] bcast_S_S1x1024x2048 main_cst_19
  let main_v56 : IVec S1x1024x2048 1 := cmpf .olt main_v54 main_v55
  let main_c_20 : IVec S_ 1 := constantI S_ 1 1#1
  let main_v57 : IVec S_ 1 := (fun x v => Host.reduce IntOp.andi x v reducesTo_S1x1024x2048_S_d0_1_2 h_S_) main_v56 main_c_20
  let main_v58 : IVec S_ 1 := andi main_v53 main_v57
  let main_v59 : FVec F S1x2048x2048 .f32 := Host.absf main_arg11
  let main_cst_21 : FVec F S_ .f32 := constant S_ .f32 0x7F800000#32
  let main_v60 : FVec F S1x2048x2048 .f32 := broadcastInDim S1x2048x2048 ![] bcast_S_S1x2048x2048 main_cst_21
  let main_v61 : IVec S1x2048x2048 1 := cmpf .olt main_v59 main_v60
  let main_c_22 : IVec S_ 1 := constantI S_ 1 1#1
  let main_v62 : IVec S_ 1 := (fun x v => Host.reduce IntOp.andi x v reducesTo_S1x2048x2048_S_d0_1_2 h_S_) main_v61 main_c_22
  let main_v63 : IVec S_ 1 := andi main_v58 main_v62
  let main_v64 : FVec F S1x2048x4 .f32 := Host.absf main_arg12
  let main_cst_23 : FVec F S_ .f32 := constant S_ .f32 0x7F800000#32
  let main_v65 : FVec F S1x2048x4 .f32 := broadcastInDim S1x2048x4 ![] bcast_S_S1x2048x4 main_cst_23
  let main_v66 : IVec S1x2048x4 1 := cmpf .olt main_v64 main_v65
  let main_c_24 : IVec S_ 1 := constantI S_ 1 1#1
  let main_v67 : IVec S_ 1 := (fun x v => Host.reduce IntOp.andi x v reducesTo_S1x2048x4_S_d0_1_2 h_S_) main_v66 main_c_24
  let main_v68 : IVec S_ 1 := andi main_v63 main_v67
  fn_part4 (F := F) main_arg13 main_v68

def fn_part2 {F : FTy → Type} [FloatOps F] (main_arg7 : FVec F S4x1x2048 .f32) (main_arg8 : FVec F S1x2048 .f32) (main_arg9 : FVec F S1x1024x2048 .f32) (main_arg10 : FVec F S1x1024x2048 .f32) (main_arg11 : FVec F S1x2048x2048 .f32) (main_arg12 : FVec F S1x2048x4 .f32) (main_arg13 : FVec F S1x2048x32 .f32) (main_v33 : IVec S_ 1) (main_v34 : FVec F S4x1x2048 .f32) : IVec S_ 1 :=
  let main_cst_11 : FVec F S_ .f32 := constant S_ .f32 0x7F800000#32
  let main_v35 : FVec F S4x1x2048 .f32 := broadcastInDim S4x1x2048 ![] bcast_S_S4x1x2048 main_cst_11
  let main_v36 : IVec S4x1x2048 1 := cmpf .olt main_v34 main_v35
  let main_c_12 : IVec S_ 1 := constantI S_ 1 1#1
  let main_v37 : IVec S_ 1 := (fun x v => Host.reduce IntOp.andi x v reducesTo_S4x1x2048_S_d0_1_2 h_S_) main_v36 main_c_12
  let main_v38 : IVec S_ 1 := andi main_v33 main_v37
  let main_v39 : FVec F S4x1x2048 .f32 := Host.absf main_arg7
  let main_cst_13 : FVec F S_ .f32 := constant S_ .f32 0x7F800000#32
  let main_v40 : FVec F S4x1x2048 .f32 := broadcastInDim S4x1x2048 ![] bcast_S_S4x1x2048 main_cst_13
  let main_v41 : IVec S4x1x2048 1 := cmpf .olt main_v39 main_v40
  let main_c_14 : IVec S_ 1 := constantI S_ 1 1#1
  let main_v42 : IVec S_ 1 := (fun x v => Host.reduce IntOp.andi x v reducesTo_S4x1x2048_S_d0_1_2 h_S_) main_v41 main_c_14
  let main_v43 : IVec S_ 1 := andi main_v38 main_v42
  let main_v44 : FVec F S1x2048 .f32 := Host.absf main_arg8
  let main_cst_15 : FVec F S_ .f32 := constant S_ .f32 0x7F800000#32
  let main_v45 : FVec F S1x2048 .f32 := broadcastInDim S1x2048 ![] bcast_S_S1x2048 main_cst_15
  let main_v46 : IVec S1x2048 1 := cmpf .olt main_v44 main_v45
  let main_c_16 : IVec S_ 1 := constantI S_ 1 1#1
  let main_v47 : IVec S_ 1 := (fun x v => Host.reduce IntOp.andi x v reducesTo_S1x2048_S_d0_1 h_S_) main_v46 main_c_16
  let main_v48 : IVec S_ 1 := andi main_v43 main_v47
  let main_v49 : FVec F S1x1024x2048 .f32 := Host.absf main_arg9
  let main_cst_17 : FVec F S_ .f32 := constant S_ .f32 0x7F800000#32
  let main_v50 : FVec F S1x1024x2048 .f32 := broadcastInDim S1x1024x2048 ![] bcast_S_S1x1024x2048 main_cst_17
  let main_v51 : IVec S1x1024x2048 1 := cmpf .olt main_v49 main_v50
  fn_part3 (F := F) main_arg10 main_arg11 main_arg12 main_arg13 main_v48 main_v51

def fn_part1 {F : FTy → Type} [FloatOps F] (main_arg3 : FVec F S4x2048x11264 .bf16) (main_arg4 : FVec F S4x2048x2048 .f32) (main_arg5 : FVec F S4x1x2048 .f32) (main_arg6 : FVec F S4x1x2048 .f32) (main_arg7 : FVec F S4x1x2048 .f32) (main_arg8 : FVec F S1x2048 .f32) (main_arg9 : FVec F S1x1024x2048 .f32) (main_arg10 : FVec F S1x1024x2048 .f32) (main_arg11 : FVec F S1x2048x2048 .f32) (main_arg12 : FVec F S1x2048x4 .f32) (main_arg13 : FVec F S1x2048x32 .f32) (main_v11 : IVec S_ 1) (main_v16 : IVec S_ 1) : IVec S_ 1 :=
  let main_v17 : IVec S_ 1 := andi main_v11 main_v16
  let main_v18 : FVec F S4x2048x11264 .f32 := (extf .f32 · bitsLt_bf16_f32) main_arg3
  let main_v19 : FVec F S4x2048x11264 .f32 := Host.absf main_v18
  let main_cst_5 : FVec F S_ .f32 := constant S_ .f32 0x7F800000#32
  let main_v20 : FVec F S4x2048x11264 .f32 := broadcastInDim S4x2048x11264 ![] bcast_S_S4x2048x11264 main_cst_5
  let main_v21 : IVec S4x2048x11264 1 := cmpf .olt main_v19 main_v20
  let main_c_6 : IVec S_ 1 := constantI S_ 1 1#1
  let main_v22 : IVec S_ 1 := (fun x v => Host.reduce IntOp.andi x v reducesTo_S4x2048x11264_S_d0_1_2 h_S_) main_v21 main_c_6
  let main_v23 : IVec S_ 1 := andi main_v17 main_v22
  let main_v24 : FVec F S4x2048x2048 .f32 := Host.absf main_arg4
  let main_cst_7 : FVec F S_ .f32 := constant S_ .f32 0x7F800000#32
  let main_v25 : FVec F S4x2048x2048 .f32 := broadcastInDim S4x2048x2048 ![] bcast_S_S4x2048x2048 main_cst_7
  let main_v26 : IVec S4x2048x2048 1 := cmpf .olt main_v24 main_v25
  let main_c_8 : IVec S_ 1 := constantI S_ 1 1#1
  let main_v27 : IVec S_ 1 := (fun x v => Host.reduce IntOp.andi x v reducesTo_S4x2048x2048_S_d0_1_2 h_S_) main_v26 main_c_8
  let main_v28 : IVec S_ 1 := andi main_v23 main_v27
  let main_v29 : FVec F S4x1x2048 .f32 := Host.absf main_arg5
  let main_cst_9 : FVec F S_ .f32 := constant S_ .f32 0x7F800000#32
  let main_v30 : FVec F S4x1x2048 .f32 := broadcastInDim S4x1x2048 ![] bcast_S_S4x1x2048 main_cst_9
  let main_v31 : IVec S4x1x2048 1 := cmpf .olt main_v29 main_v30
  let main_c_10 : IVec S_ 1 := constantI S_ 1 1#1
  let main_v32 : IVec S_ 1 := (fun x v => Host.reduce IntOp.andi x v reducesTo_S4x1x2048_S_d0_1_2 h_S_) main_v31 main_c_10
  let main_v33 : IVec S_ 1 := andi main_v28 main_v32
  let main_v34 : FVec F S4x1x2048 .f32 := Host.absf main_arg6
  fn_part2 (F := F) main_arg7 main_arg8 main_arg9 main_arg10 main_arg11 main_arg12 main_arg13 main_v33 main_v34

def fn {F : FTy → Type} [FloatOps F] (main_arg0 : FVec F S4x2048x1024 .bf16) (main_arg1 : FVec F S4x2048x1024 .bf16) (main_arg2 : FVec F S4x2048x1024 .bf16) (main_arg3 : FVec F S4x2048x11264 .bf16) (main_arg4 : FVec F S4x2048x2048 .f32) (main_arg5 : FVec F S4x1x2048 .f32) (main_arg6 : FVec F S4x1x2048 .f32) (main_arg7 : FVec F S4x1x2048 .f32) (main_arg8 : FVec F S1x2048 .f32) (main_arg9 : FVec F S1x1024x2048 .f32) (main_arg10 : FVec F S1x1024x2048 .f32) (main_arg11 : FVec F S1x2048x2048 .f32) (main_arg12 : FVec F S1x2048x4 .f32) (main_arg13 : FVec F S1x2048x32 .f32) : IVec S_ 1 :=
  let main_v0 : FVec F S4x2048x1024 .f32 := (extf .f32 · bitsLt_bf16_f32) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_c : IVec S_ 1 := constantI S_ 1 1#1
  let main_v4 : IVec S_ 1 := (fun x v => Host.reduce IntOp.andi x v reducesTo_S4x2048x1024_S_d0_1_2 h_S_) main_v3 main_c
  let main_c_0 : IVec S_ 1 := constantI S_ 1 1#1
  let main_v5 : IVec S_ 1 := andi main_c_0 main_v4
  let main_v6 : FVec F S4x2048x1024 .f32 := (extf .f32 · bitsLt_bf16_f32) main_arg1
  let main_v7 : FVec F S4x2048x1024 .f32 := Host.absf main_v6
  let main_cst_1 : FVec F S_ .f32 := constant S_ .f32 0x7F800000#32
  let main_v8 : FVec F S4x2048x1024 .f32 := broadcastInDim S4x2048x1024 ![] bcast_S_S4x2048x1024 main_cst_1
  let main_v9 : IVec S4x2048x1024 1 := cmpf .olt main_v7 main_v8
  let main_c_2 : IVec S_ 1 := constantI S_ 1 1#1
  let main_v10 : IVec S_ 1 := (fun x v => Host.reduce IntOp.andi x v reducesTo_S4x2048x1024_S_d0_1_2 h_S_) main_v9 main_c_2
  let main_v11 : IVec S_ 1 := andi main_v5 main_v10
  let main_v12 : FVec F S4x2048x1024 .f32 := (extf .f32 · bitsLt_bf16_f32) main_arg2
  let main_v13 : FVec F S4x2048x1024 .f32 := Host.absf main_v12
  let main_cst_3 : FVec F S_ .f32 := constant S_ .f32 0x7F800000#32
  let main_v14 : FVec F S4x2048x1024 .f32 := broadcastInDim S4x2048x1024 ![] bcast_S_S4x2048x1024 main_cst_3
  let main_v15 : IVec S4x2048x1024 1 := cmpf .olt main_v13 main_v14
  let main_c_4 : IVec S_ 1 := constantI S_ 1 1#1
  let main_v16 : IVec S_ 1 := (fun x v => Host.reduce IntOp.andi x v reducesTo_S4x2048x1024_S_d0_1_2 h_S_) main_v15 main_c_4
  fn_part1 (F := F) main_arg3 main_arg4 main_arg5 main_arg6 main_arg7 main_arg8 main_arg9 main_arg10 main_arg11 main_arg12 main_arg13 main_v11 main_v16
-- ==== Kernel.lean ====
abbrev S4x2048x2048 : Shape := ⟨3, ![4, 2048, 2048]⟩
abbrev S4x1x2048 : Shape := ⟨3, ![4, 1, 2048]⟩
abbrev S1x2048 : Shape := ⟨2, ![1, 2048]⟩
abbrev S1x2048x11296 : Shape := ⟨3, ![1, 2048, 11296]⟩
abbrev S1x32 : Shape := ⟨2, ![1, 32]⟩
abbrev S2048x11296 : Shape := ⟨2, ![2048, 11296]⟩
abbrev S11296x2048 : Shape := ⟨2, ![11296, 2048]⟩
abbrev S_ : Shape := ⟨0, ![]⟩
abbrev S1x128 : Shape := ⟨2, ![1, 128]⟩
abbrev S32 : Shape := ⟨1, ![32]⟩
abbrev S1 : Shape := ⟨1, ![1]⟩
abbrev S2 : Shape := ⟨1, ![2]⟩
abbrev S2048 : Shape := ⟨1, ![2048]⟩
abbrev S1x1x2048 : Shape := ⟨3, ![1, 1, 2048]⟩
abbrev S4x2048x11264 : Shape := ⟨3, ![4, 2048, 11264]⟩
abbrev S4x2048x128 : Shape := ⟨3, ![4, 2048, 128]⟩
abbrev S1x1024x2048 : Shape := ⟨3, ![1, 1024, 2048]⟩
abbrev S1024x2048 : Shape := ⟨2, ![1024, 2048]⟩
abbrev S32x2048 : Shape := ⟨2, ![32, 2048]⟩
abbrev S1x1024x1024 : Shape := ⟨3, ![1, 1024, 1024]⟩
abbrev S1x1024x128 : Shape := ⟨3, ![1, 1024, 128]⟩
abbrev S1024 : Shape := ⟨1, ![1024]⟩
abbrev S1024x1 : Shape := ⟨2, ![1024, 1]⟩
abbrev S1024x32 : Shape := ⟨2, ![1024, 32]⟩
abbrev S1024x96 : Shape := ⟨2, ![1024, 96]⟩
abbrev S1024x128 : Shape := ⟨2, ![1024, 128]⟩
abbrev S1024x1024 : Shape := ⟨2, ![1024, 1024]⟩

abbrev nBuf : Space → Nat
  | .hbm => 26
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S4x1x2048, .f32⟩
  | .hbm, ⟨2, _⟩ => ⟨S4x1x2048, .f32⟩
  | .hbm, ⟨3, _⟩ => ⟨S1x2048, .f32⟩
  | .hbm, ⟨4, _⟩ => ⟨S1x2048x11296, .f32⟩
  | .hbm, ⟨5, _⟩ => ⟨S1x32, .f32⟩
  | .hbm, ⟨6, _⟩ => ⟨S2048x11296, .f32⟩
  | .hbm, ⟨7, _⟩ => ⟨S11296x2048, .f32⟩
  | .hbm, ⟨8, _⟩ => ⟨S_, .f32⟩
  | .hbm, ⟨9, _⟩ => ⟨S1x128, .f32⟩
  | .hbm, ⟨10, _⟩ => ⟨S32, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S1x128, .f32⟩
  | .hbm, ⟨17, _⟩ => ⟨S2048, .f32⟩
  | .hbm, ⟨18, _⟩ => ⟨S1x1x2048, .f32⟩
  | .hbm, ⟨19, _⟩ => ⟨S_, .f32⟩
  | .hbm, ⟨20, _⟩ => ⟨S4x1x2048, .f32⟩
  | .hbm, ⟨21, _⟩ => ⟨S4x1x2048, .f32⟩
  | .hbm, ⟨22, _⟩ => ⟨S4x1x2048, .f32⟩
  | .hbm, ⟨23, _⟩ => ⟨S4x1x2048, .f32⟩
  | .hbm, ⟨24, _⟩ => ⟨S4x2048x11264, .bf16⟩
  | .hbm, ⟨25, _⟩ => ⟨S4x2048x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1024x2048, .f32⟩
  | .local _ .vmem, ⟨7, _⟩ => ⟨S1024x2048, .f32⟩
  | .local _ .vmem, ⟨8, _⟩ => ⟨S32x2048, .f32⟩
  | .local _ .vmem, ⟨9, _⟩ => ⟨S1x128, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x128, .f32⟩
  | .local _ .vmem, ⟨13, _⟩ => ⟨S1x1024x128, .f32⟩
  | .local _ .vmem, ⟨14, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 2, 11], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  let c5_i32 : BitVec 32 := 5#32
  let v1 : BitVec 1 := Scalar.cmpi .sge arg2 c5_i32
  let c32_i32 : BitVec 32 := 32#32
  let c0_i32 : BitVec 32 := 0#32
  let v2 : BitVec 32 := Scalar.select v1 c32_i32 c0_i32
  let v3 : BitVec 32 := Scalar.addi v0 v2
  v3
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg2 c1024_i32
  let c5_i32 : BitVec 32 := 5#32
  let v1 : BitVec 1 := Scalar.cmpi .sge arg2 c5_i32
  let c32_i32 : BitVec 32 := 32#32
  let c0_i32 : BitVec 32 := 0#32
  let v2 : BitVec 32 := Scalar.select v1 c32_i32 c0_i32
  let v3 : BitVec 32 := Scalar.addi v0 v2
  let v4 : BitVec 32 := v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c160_i32 : BitVec 32 := 160#32
  let c0_i32 : BitVec 32 := 0#32
  let c0_i32_0 : BitVec 32 := 0#32
  ![c160_i32.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S4x2048x2048 : Shape := ⟨3, ![4, 2048, 2048]⟩
abbrev S4x1x2048 : Shape := ⟨3, ![4, 1, 2048]⟩
abbrev S1x2048 : Shape := ⟨2, ![1, 2048]⟩
abbrev S1x2048x11296 : Shape := ⟨3, ![1, 2048, 11296]⟩
abbrev S1x32 : Shape := ⟨2, ![1, 32]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x11296 : Shape := ⟨2, ![2048, 11296]⟩
abbrev S4x2048x11296 : Shape := ⟨3, ![4, 2048, 11296]⟩
abbrev S4x2048x1024 : Shape := ⟨3, ![4, 2048, 1024]⟩
abbrev S4x2048x32 : Shape := ⟨3, ![4, 2048, 32]⟩
abbrev S32 : Shape := ⟨1, ![32]⟩
abbrev S1x1x32 : Shape := ⟨3, ![1, 1, 32]⟩
abbrev S4x2048x11264 : Shape := ⟨3, ![4, 2048, 11264]⟩
abbrev S4x2048x96 : Shape := ⟨3, ![4, 2048, 96]⟩
abbrev S4x2048x128 : Shape := ⟨3, ![4, 2048, 128]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x1x2048, .f32⟩
  | .hbm, ⟨2, _⟩ => ⟨S4x1x2048, .f32⟩
  | .hbm, ⟨3, _⟩ => ⟨S1x2048, .f32⟩
  | .hbm, ⟨4, _⟩ => ⟨S1x2048x11296, .f32⟩
  | .hbm, ⟨5, _⟩ => ⟨S1x32, .f32⟩
  | .hbm, ⟨6, _⟩ => ⟨S2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S2048x11296, .f32⟩
  | .hbm, ⟨31, _⟩ => ⟨S4x2048x11296, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x32, .f32⟩
  | .hbm, ⟨38, _⟩ => ⟨S4x2048x1024, .f32⟩
  | .hbm, ⟨39, _⟩ => ⟨S4x2048x1024, .f32⟩
  | .hbm, ⟨40, _⟩ => ⟨S4x2048x2048, .f32⟩
  | .hbm, ⟨41, _⟩ => ⟨S4x2048x2048, .f32⟩
  | .hbm, ⟨42, _⟩ => ⟨S32, .f32⟩
  | .hbm, ⟨43, _⟩ => ⟨S1x1x32, .f32⟩
  | .hbm, ⟨44, _⟩ => ⟨S4x2048x32, .f32⟩
  | .hbm, ⟨45, _⟩ => ⟨S4x2048x32, .f32⟩
  | .hbm, ⟨46, _⟩ => ⟨S4x2048x11264, .f32⟩
  | .hbm, ⟨47, _⟩ => ⟨S_, .f32⟩
  | .hbm, ⟨48, _⟩ => ⟨S4x2048x96, .f32⟩
  | .hbm, ⟨49, _⟩ => ⟨S4x2048x128, .f32⟩
  | .hbm, ⟨50, _⟩ => ⟨S4x2048x11264, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel2.lean ====
abbrev S4x2048x1024 : Shape := ⟨3, ![4, 2048, 1024]⟩
abbrev S4x2048x11264 : Shape := ⟨3, ![4, 2048, 11264]⟩
abbrev S4x2048x2048 : Shape := ⟨3, ![4, 2048, 2048]⟩
abbrev S4x1x2048 : Shape := ⟨3, ![4, 1, 2048]⟩
abbrev S1x2048 : Shape := ⟨2, ![1, 2048]⟩
abbrev S1x1024x2048 : Shape := ⟨3, ![1, 1024, 2048]⟩
abbrev S1x2048x2048 : Shape := ⟨3, ![1, 2048, 2048]⟩
abbrev S1x2048x4 : Shape := ⟨3, ![1, 2048, 4]⟩
abbrev S1x2048x32 : Shape := ⟨3, ![1, 2048, 32]⟩
abbrev S_ : Shape := ⟨0, ![]⟩
abbrev S2048x128 : Shape := ⟨2, ![2048, 128]⟩
abbrev S2048x4 : Shape := ⟨2, ![2048, 4]⟩
abbrev S1 : Shape := ⟨1, ![1]⟩
abbrev S2048x32 : Shape := ⟨2, ![2048, 32]⟩
abbrev S2048 : Shape := ⟨1, ![2048]⟩
abbrev S1x1x2048 : Shape := ⟨3, ![1, 1, 2048]⟩
abbrev S1024x2048 : Shape := ⟨2, ![1024, 2048]⟩
abbrev S2048x2048 : Shape := ⟨2, ![2048, 2048]⟩
abbrev S8192x2048 : Shape := ⟨2, ![8192, 2048]⟩
abbrev S4x2048x128 : Shape := ⟨3, ![4, 2048, 128]⟩
abbrev S1x256x1024 : Shape := ⟨3, ![1, 256, 1024]⟩
abbrev S1x256x2048 : Shape := ⟨3, ![1, 256, 2048]⟩
abbrev S256x2048 : Shape := ⟨2, ![256, 2048]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩

abbrev nBuf : Space → Nat
  | .hbm => 40
  | .vmem => 34
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S4x2048x11264, .bf16⟩
  | .hbm, ⟨4, _⟩ => ⟨S4x2048x2048, .f32⟩
  | .hbm, ⟨5, _⟩ => ⟨S4x1x2048, .f32⟩
  | .hbm, ⟨6, _⟩ => ⟨S4x1x2048, .f32⟩
  | .hbm, ⟨7, _⟩ => ⟨S4x1x2048, .f32⟩
  | .hbm, ⟨8, _⟩ => ⟨S1x2048, .f32⟩
  | .hbm, ⟨9, _⟩ => ⟨S1x1024x2048, .f32⟩
  | .hbm, ⟨10, _⟩ => ⟨S1x1024x2048, .f32⟩
  | .hbm, ⟨11, _⟩ => ⟨S1x2048x2048, .f32⟩
  | .hbm, ⟨12, _⟩ => ⟨S1x2048x4, .f32⟩
  | .hbm, ⟨13, _⟩ => ⟨S1x2048x32, .f32⟩
  | .hbm, ⟨14, _⟩ => ⟨S_, .f32⟩
  | .hbm, ⟨15, _⟩ => ⟨S2048x128, .f32⟩
  | .hbm, ⟨16, _⟩ => ⟨S2048x4, .f32⟩
  | .hbm, ⟨17, _⟩ => ⟨S_, .i32⟩
  | .hbm, ⟨18, _⟩ => ⟨S1, .i32⟩
  | .hbm, ⟨19, _⟩ => ⟨S2048x128, .f32⟩
  | .hbm, ⟨20, _⟩ => ⟨S2048x32, .f32⟩
  | .hbm, ⟨21, _⟩ => ⟨S_, .i32⟩
  | .hbm, ⟨22, _⟩ => ⟨S1, .i32⟩
  | .hbm, ⟨23, _⟩ => ⟨S2048x128, .f32⟩
  | .hbm, ⟨24, _⟩ => ⟨S2048, .f32⟩
  | .hbm, ⟨25, _⟩ => ⟨S1x1x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x1x2048, .f32⟩
  | .hbm, ⟨30, _⟩ => ⟨S4x1x2048, .f32⟩
  | .hbm, ⟨31, _⟩ => ⟨S1024x2048, .f32⟩
  | .hbm, ⟨32, _⟩ => ⟨S1024x2048, .bf16⟩
  | .hbm, ⟨33, _⟩ => ⟨S1024x2048, .f32⟩
  | .hbm, ⟨34, _⟩ => ⟨S1024x2048, .bf16⟩
  | .hbm, ⟨35, _⟩ => ⟨S2048x2048, .f32⟩
  | .hbm, ⟨36, _⟩ => ⟨S2048x2048, .bf16⟩
  | .hbm, ⟨37, _⟩ => ⟨S4x2048x2048, .f32⟩
  | .hbm, ⟨38, _⟩ => ⟨S8192x2048, .f32⟩
  | .hbm, ⟨39, _⟩ => ⟨S4x2048x128, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x2048, .f32⟩
  | .local _ .vmem, ⟨17, _⟩ => ⟨S1x256x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x1x2048, .f32⟩
  | .local _ .vmem, ⟨21, _⟩ => ⟨S1x1x2048, .f32⟩
  | .local _ .vmem, ⟨22, _⟩ => ⟨S1x1x2048, .f32⟩
  | .local _ .vmem, ⟨23, _⟩ => ⟨S1x1x2048, .f32⟩
  | .local _ .vmem, ⟨24, _⟩ => ⟨S1024x2048, .bf16⟩
  | .local _ .vmem, ⟨25, _⟩ => ⟨S1024x2048, .bf16⟩
  | .local _ .vmem, ⟨26, _⟩ => ⟨S2048x2048, .bf16⟩
  | .local _ .vmem, ⟨27, _⟩ => ⟨S2048x128, .f32⟩
  | .local _ .vmem, ⟨28, _⟩ => ⟨S1x256x2048, .f32⟩
  | .local _ .vmem, ⟨29, _⟩ => ⟨S1x256x2048, .f32⟩
  | .local _ .vmem, ⟨30, _⟩ => ⟨S256x2048, .f32⟩
  | .local _ .vmem, ⟨31, _⟩ => ⟨S256x2048, .f32⟩
  | .local _ .vmem, ⟨32, _⟩ => ⟨S1x256x128, .f32⟩
  | .local _ .vmem, ⟨33, _⟩ => ⟨S1x256x128, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v19_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_6 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_7 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2048x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference2Ideal.lean ====
abbrev S4x2048x1024 : Shape := ⟨3, ![4, 2048, 1024]⟩
abbrev S4x2048x11264 : Shape := ⟨3, ![4, 2048, 11264]⟩
abbrev S4x2048x2048 : Shape := ⟨3, ![4, 2048, 2048]⟩
abbrev S4x1x2048 : Shape := ⟨3, ![4, 1, 2048]⟩
abbrev S1x2048 : Shape := ⟨2, ![1, 2048]⟩
abbrev S1x1024x2048 : Shape := ⟨3, ![1, 1024, 2048]⟩
abbrev S1x2048x2048 : Shape := ⟨3, ![1, 2048, 2048]⟩
abbrev S1x2048x4 : Shape := ⟨3, ![1, 2048, 4]⟩
abbrev S1x2048x32 : Shape := ⟨3, ![1, 2048, 32]⟩
abbrev S_ : Shape := ⟨0, ![]⟩
abbrev S1024x2048 : Shape := ⟨2, ![1024, 2048]⟩
abbrev S2048x2048 : Shape := ⟨2, ![2048, 2048]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩
abbrev S2048x4 : Shape := ⟨2, ![2048, 4]⟩
abbrev S2048x32 : Shape := ⟨2, ![2048, 32]⟩
abbrev S8192x4 : Shape := ⟨2, ![8192, 4]⟩
abbrev S8192 : Shape := ⟨1, ![8192]⟩
abbrev S8192x1 : Shape := ⟨2, ![8192, 1]⟩
abbrev S8192x32 : Shape := ⟨2, ![8192, 32]⟩
abbrev S8192x4x8 : Shape := ⟨3, ![8192, 4, 8]⟩
abbrev S8192x1x1 : Shape := ⟨3, ![8192, 1, 1]⟩
abbrev S1 : Shape := ⟨1, ![1]⟩
abbrev S1x1x1 : Shape := ⟨3, ![1, 1, 1]⟩
abbrev S8192x1x8 : Shape := ⟨3, ![8192, 1, 8]⟩
abbrev S8192x8 : Shape := ⟨2, ![8192, 8]⟩
abbrev S8192x2 : Shape := ⟨2, ![8192, 2]⟩
abbrev S8192x124 : Shape := ⟨2, ![8192, 124]⟩
abbrev S8192x128 : Shape := ⟨2, ![8192, 128]⟩
abbrev S4x2048x128 : Shape := ⟨3, ![4, 2048, 128]⟩

abbrev nBuf : Space → Nat
  | .hbm => 168
  | .vmem => 0
  | .smem => 0
  | _ => 0

abbrev hbmTy0_0 (i : Nat) : BufTy := match i % 128 with
  | 0 => ⟨S4x2048x1024, .bf16⟩
  | 1 => ⟨S4x2048x1024, .bf16⟩
  | 2 => ⟨S4x2048x1024, .bf16⟩
  | 3 => ⟨S4x2048x11264, .bf16⟩
  | 4 => ⟨S4x2048x2048, .f32⟩
  | 5 => ⟨S4x1x2048, .f32⟩
  | 6 => ⟨S4x1x2048, .f32⟩
  | 7 => ⟨S4x1x2048, .f32⟩
  | 8 => ⟨S1x2048, .f32⟩
  | 9 => ⟨S1x1024x2048, .f32⟩
  | 10 => ⟨S1x1024x2048, .f32⟩
  | 11 => ⟨S1x2048x2048, .f32⟩
  | 12 => ⟨S1x2048x4, .f32⟩
  | 13 => ⟨S1x2048x32, .f32⟩
  | 14 => ⟨S4x2048x1024, .bf16⟩
  | 15 => ⟨S4x2048x1024, .f32⟩
  | 16 => ⟨S4x2048x2048, .bf16⟩
  | 17 => ⟨S4x2048x2048, .f32⟩
  | 18 => ⟨S4x2048x2048, .bf16⟩
  | 19 => ⟨S4x2048x2048, .f32⟩
  | 20 => ⟨S4x2048x1024, .f32⟩
  | 21 => ⟨S4x2048x1024, .f32⟩
  | 22 => ⟨S4x2048x1024, .f32⟩
  | 23 => ⟨S4x2048x1024, .f32⟩
  | 24 => ⟨S4x2048x1024, .f32⟩
  | 25 => ⟨S4x2048x1024, .f32⟩
  | 26 => ⟨S_, .f32⟩
  | 27 => ⟨S4x2048x1024, .f32⟩
  | 28 => ⟨S4x2048x1024, .f32⟩
  | 29 => ⟨S4x2048x1024, .f32⟩
  | 30 => ⟨S_, .f32⟩
  | 31 => ⟨S4x2048x1024, .f32⟩
  | 32 => ⟨S4x2048x1024, .f32⟩
  | 33 => ⟨S4x2048x1024, .f32⟩
  | 34 => ⟨S_, .f32⟩
  | 35 => ⟨S4x2048x1024, .f32⟩
  | 36 => ⟨S4x2048x1024, .f32⟩
  | 37 => ⟨S_, .f32⟩
  | 38 => ⟨S4x2048x1024, .f32⟩
  | 39 => ⟨S4x2048x1024, .f32⟩
  | 40 => ⟨S4x2048x1024, .f32⟩
  | 41 => ⟨S4x2048x1024, .f32⟩
  | 42 => ⟨S4x2048x2048, .f32⟩
  | 43 => ⟨S4x2048x2048, .f32⟩
  | 44 => ⟨S_, .f32⟩
  | 45 => ⟨S4x2048x2048, .f32⟩
  | 46 => ⟨S4x2048x2048, .f32⟩
  | 47 => ⟨S_, .f32⟩
  | 48 => ⟨S4x2048x2048, .f32⟩
  | 49 => ⟨S4x2048x2048, .f32⟩
  | 50 => ⟨S1024x2048, .f32⟩
  | 51 => ⟨S4x2048x2048, .f32⟩
  | 52 => ⟨S4x2048x2048, .f32⟩
  | 53 => ⟨S4x2048x2048, .f32⟩
  | 54 => ⟨S4x2048x2048, .f32⟩
  | 55 => ⟨S_, .f32⟩
  | 56 => ⟨S4x2048x2048, .f32⟩
  | 57 => ⟨S4x2048x2048, .f32⟩
  | 58 => ⟨S_, .f32⟩
  | 59 => ⟨S4x2048x2048, .f32⟩
  | 60 => ⟨S4x2048x2048, .f32⟩
  | 61 => ⟨S1024x2048, .f32⟩
  | 62 => ⟨S4x2048x2048, .f32⟩
  | 63 => ⟨S4x2048x2048, .f32⟩
  | 64 => ⟨S4x2048x2048, .f32⟩
  | 65 => ⟨S2048x2048, .f32⟩
  | 66 => ⟨S4x2048x2048, .f32⟩
  | 67 => ⟨S4x2048x2048, .f32⟩
  | 68 => ⟨S4x2048x2048, .f32⟩
  | 69 => ⟨S4x2048x2048, .f32⟩
  | 70 => ⟨S2048, .f32⟩
  | 71 => ⟨S4x2048x2048, .f32⟩
  | 72 => ⟨S_, .f32⟩
  | 73 => ⟨S4x2048, .f32⟩
  | 74 => ⟨S4x2048x1, .f32⟩
  | 75 => ⟨S_, .f32⟩
  | 76 => ⟨S4x2048x1, .f32⟩
  | 77 => ⟨S4x2048x1, .f32⟩
  | 78 => ⟨S_, .f32⟩
  | 79 => ⟨S4x2048x1, .f32⟩
  | 80 => ⟨S4x2048x1, .f32⟩
  | 81 => ⟨S4x2048x1, .f32⟩
  | 82 => ⟨S4x2048x2048, .f32⟩
  | 83 => ⟨S4x2048x2048, .f32⟩
  | 84 => ⟨S1x1x2048, .f32⟩
  | 85 => ⟨S4x2048x2048, .f32⟩
  | 86 => ⟨S4x2048x2048, .f32⟩
  | 87 => ⟨S_, .f32⟩
  | 88 => ⟨S4x1x2048, .f32⟩
  | 89 => ⟨S4x1x2048, .f32⟩
  | 90 => ⟨S4x2048x2048, .f32⟩
  | 91 => ⟨S4x2048x2048, .f32⟩
  | 92 => ⟨S4x2048x2048, .f32⟩
  | 93 => ⟨S4x2048x2048, .f32⟩
  | 94 => ⟨S8192x2048, .f32⟩
  | 95 => ⟨S2048x4, .f32⟩
  | 96 => ⟨S2048x32, .f32⟩
  | 97 => ⟨S8192x4, .f32⟩
  | 98 => ⟨S_, .f32⟩
  | 99 => ⟨S8192, .f32⟩
  | 100 => ⟨S_, .f32⟩
  | 101 => ⟨S8192, .f32⟩
  | 102 => ⟨S8192, .f32⟩
  | 103 => ⟨S8192x1, .f32⟩
  | 104 => ⟨S8192x4, .f32⟩
  | 105 => ⟨S8192x4, .f32⟩
  | 106 => ⟨S8192x4, .f32⟩
  | 107 => ⟨S_, .f32⟩
  | 108 => ⟨S8192, .f32⟩
  | 109 => ⟨S8192x1, .f32⟩
  | 110 => ⟨S8192x4, .f32⟩
  | 111 => ⟨S8192x4, .f32⟩
  | 112 => ⟨S8192x1, .f32⟩
  | 113 => ⟨S8192x1, .i32⟩
  | 114 => ⟨S8192x32, .f32⟩
  | 115 => ⟨S8192x4x8, .f32⟩
  | 116 => ⟨S8192x1x1, .i32⟩
  | 117 => ⟨S_, .i32⟩
  | 118 => ⟨S8192x1x1, .i32⟩
  | 119 => ⟨S8192x1x1, .i1⟩
  | 120 => ⟨S_, .i32⟩
  | 121 => ⟨S8192x1x1, .i32⟩
  | 122 => ⟨S8192x1x1, .i32⟩
  | 123 => ⟨S8192x1x1, .i32⟩
  | 124 => ⟨S1, .i32⟩
  | 125 => ⟨S_, .i32⟩
  | 126 => ⟨S8192x1x1, .i32⟩
  | 127 => ⟨S8192x1x1, .i1⟩
  | _ => ⟨S4x2048x1024, .bf16⟩

abbrev hbmTy0_1 (i : Nat) : BufTy := match i % 128 with
  | 0 => ⟨S1x1x1, .i32⟩
  | 1 => ⟨S8192x1x1, .i32⟩
  | 2 => ⟨S8192x1x1, .i1⟩
  | 3 => ⟨S8192x1x1, .i1⟩
  | 4 => ⟨S_, .i1⟩
  | 5 => ⟨S8192x1, .i1⟩
  | 6 => ⟨S8192x1x8, .f32⟩
  | 7 => ⟨S8192x1x8, .i1⟩
  | 8 => ⟨S_, .f32⟩
  | 9 => ⟨S8192x1x8, .f32⟩
  | 10 => ⟨S8192x1x8, .f32⟩
  | 11 => ⟨S8192x8, .f32⟩
  | 12 => ⟨S8192x2, .f32⟩
  | 13 => ⟨S8192x2, .i32⟩
  | 14 => ⟨S_, .f32⟩
  | 15 => ⟨S8192, .f32⟩
  | 16 => ⟨S_, .f32⟩
  | 17 => ⟨S8192, .f32⟩
  | 18 => ⟨S8192, .f32⟩
  | 19 => ⟨S8192x1, .f32⟩
  | 20 => ⟨S8192x2, .f32⟩
  | 21 => ⟨S8192x2, .f32⟩
  | 22 => ⟨S8192x2, .f32⟩
  | 23 => ⟨S_, .f32⟩
  | 24 => ⟨S8192, .f32⟩
  | 25 => ⟨S8192x1, .f32⟩
  | 26 => ⟨S8192x2, .f32⟩
  | 27 => ⟨S8192x2, .f32⟩
  | 28 => ⟨S8192x2, .f32⟩
  | 29 => ⟨S8192x2, .f32⟩
  | 30 => ⟨S_, .i32⟩
  | 31 => ⟨S8192x1, .i32⟩
  | 32 => ⟨S8192x1, .i32⟩
  | 33 => ⟨S8192x2, .i32⟩
  | 34 => ⟨S8192x2, .i32⟩
  | 35 => ⟨S8192x2, .f32⟩
  | 36 => ⟨S_, .f32⟩
  | 37 => ⟨S8192x124, .f32⟩
  | 38 => ⟨S8192x128, .f32⟩
  | 39 => ⟨S4x2048x128, .f32⟩
  | _ => ⟨S4x2048x1024, .bf16⟩

abbrev hbmTy (i : Nat) : BufTy := match i / 128 with
  | 0 => hbmTy0_0 i
  | 1 => hbmTy0_1 i
  | _ => ⟨S4x2048x1024, .bf16⟩

abbrev bufTy : (tb : Table) → Fin (tcTables nBuf tb) → BufTy
  | .hbm, ⟨i, _⟩ => hbmTy i
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_11 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_13 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_values : Ref sig .tc := ⟨.hbm, 112, rfl⟩
abbrev main_indices : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call0_c : Ref sig .tc := ⟨.hbm, 117, rfl⟩
abbrev main_call0_v0 : Ref sig .tc := ⟨.hbm, 118, rfl⟩
abbrev main_call0_v1 : Ref sig .tc := ⟨.hbm, 119, rfl⟩
abbrev main_call0_c_0 : Ref sig .tc := ⟨.hbm, 120, rfl⟩
abbrev main_call0_v2 : Ref sig .tc := ⟨.hbm, 121, rfl⟩
abbrev main_call0_v3 : Ref sig .tc := ⟨.hbm, 122, rfl⟩
abbrev main_call0_v4 : Ref sig .tc := ⟨.hbm, 123, rfl⟩
abbrev main_call0_c_1 : Ref sig .tc := ⟨.hbm, 124, rfl⟩
abbrev main_call0_c_2 : Ref sig .tc := ⟨.hbm, 125, rfl⟩
abbrev main_call0_v5 : Ref sig .tc := ⟨.hbm, 126, rfl⟩
abbrev main_call0_v6 : Ref sig .tc := ⟨.hbm, 127, rfl⟩
abbrev main_call0_v7 : Ref sig .tc := ⟨.hbm, 128, rfl⟩
abbrev main_call0_v8 : Ref sig .tc := ⟨.hbm, 129, rfl⟩
abbrev main_call0_v9 : Ref sig .tc := ⟨.hbm, 130, rfl⟩
abbrev main_call0_v10 : Ref sig .tc := ⟨.hbm, 131, rfl⟩
abbrev main_call0_c_3 : Ref sig .tc := ⟨.hbm, 132, rfl⟩
abbrev main_call0_v11 : Ref sig .tc := ⟨.hbm, 133, rfl⟩
abbrev main_call0_v12 : Ref sig .tc := ⟨.hbm, 134, rfl⟩
abbrev main_call0_v13 : Ref sig .tc := ⟨.hbm, 135, rfl⟩
abbrev main_call0_cst : Ref sig .tc := ⟨.hbm, 136, rfl⟩
abbrev main_call0_v14 : Ref sig .tc := ⟨.hbm, 137, rfl⟩
abbrev main_v86 : Ref sig .tc := ⟨.hbm, 138, rfl⟩
abbrev main_v87 : Ref sig .tc := ⟨.hbm, 139, rfl⟩
abbrev main_values_14 : Ref sig .tc := ⟨.hbm, 140, rfl⟩
abbrev main_indices_15 : Ref sig .tc := ⟨.hbm, 141, rfl⟩
abbrev main_cst_16 : Ref sig .tc := ⟨.hbm, 142, rfl⟩
abbrev main_v88 : Ref sig .tc := ⟨.hbm, 143, rfl⟩
abbrev main_cst_17 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_18 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_c : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_cst_19 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩

abbrev nD : Nat := 1
abbrev τ : Topo := Topo.v7x

variable {F : FTy → Type} [FloatOps F]
-- ==== Kernel3.lean ====
abbrev S4x2048x2048 : Shape := ⟨3, ![4, 2048, 2048]⟩
abbrev S16384x2048 : Shape := ⟨2, ![16384, 2048]⟩
abbrev S4x2048x128 : Shape := ⟨3, ![4, 2048, 128]⟩
abbrev S4x1x2048 : Shape := ⟨3, ![4, 1, 2048]⟩
abbrev S2048 : Shape := ⟨1, ![2048]⟩
abbrev S1x2048 : Shape := ⟨2, ![1, 2048]⟩
abbrev S1x512x2048 : Shape := ⟨3, ![1, 512, 2048]⟩
abbrev S512x2048 : Shape := ⟨2, ![512, 2048]⟩
abbrev S1x512x128 : Shape := ⟨3, ![1, 512, 128]⟩
abbrev S1x1x2048 : Shape := ⟨3, ![1, 1, 2048]⟩
abbrev S512x128 : Shape := ⟨2, ![512, 128]⟩
abbrev S512x1 : Shape := ⟨2, ![512, 1]⟩
abbrev S512 : Shape := ⟨1, ![512]⟩

abbrev nBuf : Space → Nat
  | .hbm => 7
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S16384x2048, .f32⟩
  | .hbm, ⟨2, _⟩ => ⟨S4x2048x128, .f32⟩
  | .hbm, ⟨3, _⟩ => ⟨S4x1x2048, .f32⟩
  | .hbm, ⟨4, _⟩ => ⟨S2048, .f32⟩
  | .hbm, ⟨5, _⟩ => ⟨S1x2048, .f32⟩
  | .hbm, ⟨6, _⟩ => ⟨S4x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x512x128, .f32⟩
  | .local _ .vmem, ⟨7, _⟩ => ⟨S1x512x128, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x512x2048, .f32⟩
  | .local _ .vmem, ⟨12, _⟩ => ⟨S1x512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x2048x2048 : Shape := ⟨3, ![4, 2048, 2048]⟩
abbrev S16384x2048 : Shape := ⟨2, ![16384, 2048]⟩
abbrev S4x2048x128 : Shape := ⟨3, ![4, 2048, 128]⟩
abbrev S4x1x2048 : Shape := ⟨3, ![4, 1, 2048]⟩
abbrev S2048 : Shape := ⟨1, ![2048]⟩
abbrev S4x2048x2 : Shape := ⟨3, ![4, 2048, 2]⟩
abbrev S8192x2 : Shape := ⟨2, ![8192, 2]⟩
abbrev S8192x1 : Shape := ⟨2, ![8192, 1]⟩
abbrev S8192x2048 : Shape := ⟨2, ![8192, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S16384x2048, .f32⟩
  | .hbm, ⟨2, _⟩ => ⟨S4x2048x128, .f32⟩
  | .hbm, ⟨3, _⟩ => ⟨S4x1x2048, .f32⟩
  | .hbm, ⟨4, _⟩ => ⟨S2048, .f32⟩
  | .hbm, ⟨5, _⟩ => ⟨S4x2048x2, .f32⟩
  | .hbm, ⟨6, _⟩ => ⟨S8192x2, .f32⟩
  | .hbm, ⟨7, _⟩ => ⟨S8192x1, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x1, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S1x1x2048, .f32⟩
  | .hbm, ⟨34, _⟩ => ⟨S4x2048x2048, .f32⟩
  | .hbm, ⟨35, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel4.lean ====
abbrev S4x2048 : Shape := ⟨2, ![4, 2048]⟩
abbrev S2048 : Shape := ⟨1, ![2048]⟩
abbrev S1x2048x12288 : Shape := ⟨3, ![1, 2048, 12288]⟩
abbrev S1x12288 : Shape := ⟨2, ![1, 12288]⟩
abbrev S_ : Shape := ⟨0, ![]⟩
abbrev S8x2048 : Shape := ⟨2, ![8, 2048]⟩
abbrev S1 : Shape := ⟨1, ![1]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 16
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S1x2048x12288, .f32⟩
  | .hbm, ⟨3, _⟩ => ⟨S1x12288, .f32⟩
  | .hbm, ⟨4, _⟩ => ⟨S_, .f32⟩
  | .hbm, ⟨5, _⟩ => ⟨S8x2048, .f32⟩
  | .hbm, ⟨6, _⟩ => ⟨S_, .i32⟩
  | .hbm, ⟨7, _⟩ => ⟨S1, .i32⟩
  | .hbm, ⟨8, _⟩ => ⟨S8x2048, .f32⟩
  | .hbm, ⟨9, _⟩ => ⟨S_, .i32⟩
  | .hbm, ⟨10, _⟩ => ⟨S1, .i32⟩
  | .hbm, ⟨11, _⟩ => ⟨S8x2048, .f32⟩
  | .hbm, ⟨12, _⟩ => ⟨S2048x12288, .f32⟩
  | .hbm, ⟨13, _⟩ => ⟨S12288, .f32⟩
  | .hbm, ⟨14, _⟩ => ⟨S1x12288, .f32⟩
  | .hbm, ⟨15, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x2048 : Shape := ⟨2, ![4, 2048]⟩
abbrev S2048 : Shape := ⟨1, ![2048]⟩
abbrev S1x2048x12288 : Shape := ⟨3, ![1, 2048, 12288]⟩
abbrev S1x12288 : Shape := ⟨2, ![1, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 23
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S1x2048x12288, .f32⟩
  | .hbm, ⟨3, _⟩ => ⟨S1x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S2048x12288, .f32⟩
  | .hbm, ⟨18, _⟩ => ⟨S8x12288, .f32⟩
  | .hbm, ⟨19, _⟩ => ⟨S12288, .f32⟩
  | .hbm, ⟨20, _⟩ => ⟨S1x12288, .f32⟩
  | .hbm, ⟨21, _⟩ => ⟨S8x12288, .f32⟩
  | .hbm, ⟨22, _⟩ => ⟨S8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel5.lean ====
abbrev S4x2304x1024 : Shape := ⟨3, ![4, 2304, 1024]⟩
abbrev S1x4x1024 : Shape := ⟨3, ![1, 4, 1024]⟩
abbrev S1x1024 : Shape := ⟨2, ![1, 1024]⟩
abbrev S1x2x8x128x128 : Shape := ⟨5, ![1, 2, 8, 128, 128]⟩
abbrev S1x2x1024 : Shape := ⟨3, ![1, 2, 1024]⟩
abbrev S4x2048x1024 : Shape := ⟨3, ![4, 2048, 1024]⟩
abbrev S4x32x64x1024 : Shape := ⟨4, ![4, 32, 64, 1024]⟩
abbrev S4x64x32x1024 : Shape := ⟨4, ![4, 64, 32, 1024]⟩
abbrev S4x256x1024 : Shape := ⟨3, ![4, 256, 1024]⟩
abbrev S2x8x128x128 : Shape := ⟨4, ![2, 8, 128, 128]⟩
abbrev S1x8x128x128 : Shape := ⟨4, ![1, 8, 128, 128]⟩
abbrev S8x128x128 : Shape := ⟨3, ![8, 128, 128]⟩
abbrev S8x128x512 : Shape := ⟨3, ![8, 128, 512]⟩
abbrev S_ : Shape := ⟨0, ![]⟩
abbrev S1x1x1024 : Shape := ⟨3, ![1, 1, 1024]⟩
abbrev S1024 : Shape := ⟨1, ![1024]⟩
abbrev S8x128 : Shape := ⟨2, ![8, 128]⟩
abbrev S8x512 : Shape := ⟨2, ![8, 512]⟩
abbrev S1x4096 : Shape := ⟨2, ![1, 4096]⟩
abbrev S4x1024 : Shape := ⟨2, ![4, 1024]⟩
abbrev S2x1024 : Shape := ⟨2, ![2, 1024]⟩
abbrev S1x2304x128 : Shape := ⟨3, ![1, 2304, 128]⟩
abbrev S4x128 : Shape := ⟨2, ![4, 128]⟩
abbrev S1x128 : Shape := ⟨2, ![1, 128]⟩
abbrev S1x128x512 : Shape := ⟨3, ![1, 128, 512]⟩
abbrev S1x512 : Shape := ⟨2, ![1, 512]⟩
abbrev S2x128 : Shape := ⟨2, ![2, 128]⟩
abbrev S1x2048x128 : Shape := ⟨3, ![1, 2048, 128]⟩
abbrev S2328x128 : Shape := ⟨2, ![2328, 128]⟩
abbrev S2304x128 : Shape := ⟨2, ![2304, 128]⟩
abbrev S2048x128 : Shape := ⟨2, ![2048, 128]⟩
abbrev S1x256x128 : Shape := ⟨3, ![1, 256, 128]⟩
abbrev S256x128 : Shape := ⟨2, ![256, 128]⟩
abbrev S288x128 : Shape := ⟨2, ![288, 128]⟩
abbrev S128x512 : Shape := ⟨2, ![128, 512]⟩
abbrev S2304x512 : Shape := ⟨2, ![2304, 512]⟩

abbrev nBuf : Space → Nat
  | .hbm => 51
  | .vmem => 23
  | .smem => 0
  | _ => 0

abbrev bufTy : (tb : Table) → Fin (tcTables nBuf tb) → BufTy
  | .hbm, ⟨0, _⟩ => ⟨S4x2304x1024, .bf16⟩
  | .hbm, ⟨1, _⟩ => ⟨S1x4x1024, .f32⟩
  | .hbm, ⟨2, _⟩ => ⟨S1x1024, .f32⟩
  | .hbm, ⟨3, _⟩ => ⟨S1x2x8x128x128, .f32⟩
  | .hbm, ⟨4, _⟩ => ⟨S1x2x1024, .f32⟩
  | .hbm, ⟨5, _⟩ => ⟨S1x2x8x128x128, .f32⟩
  | .hbm, ⟨6, _⟩ => ⟨S1x2x1024, .f32⟩
  | .hbm, ⟨7, _⟩ => ⟨S1x2x1024, .f32⟩
  | .hbm, ⟨8, _⟩ => ⟨S4x2048x1024, .bf16⟩
  | .hbm, ⟨9, _⟩ => ⟨S4x32x64x1024, .bf16⟩
  | .hbm, ⟨10, _⟩ => ⟨S4x64x32x1024, .bf16⟩
  | .hbm, ⟨11, _⟩ => ⟨S4x2048x1024, .bf16⟩
  | .hbm, ⟨12, _⟩ => ⟨S4x256x1024, .bf16⟩
  | .hbm, ⟨13, _⟩ => ⟨S4x2304x1024, .bf16⟩
  | .hbm, ⟨14, _⟩ => ⟨S2x8x128x128, .f32⟩
  | .hbm, ⟨15, _⟩ => ⟨S2x8x128x128, .f32⟩
  | .hbm, ⟨16, _⟩ => ⟨S1x8x128x128, .f32⟩
  | .hbm, ⟨17, _⟩ => ⟨S8x128x128, .f32⟩
  | .hbm, ⟨18, _⟩ => ⟨S1x8x128x128, .f32⟩
  | .hbm, ⟨19, _⟩ => ⟨S8x128x128, .f32⟩
  | .hbm, ⟨20, _⟩ => ⟨S1x8x128x128, .f32⟩
  | .hbm, ⟨21, _⟩ => ⟨S8x128x128, .f32⟩
  | .hbm, ⟨22, _⟩ => ⟨S1x8x128x128, .f32⟩
  | .hbm, ⟨23, _⟩ => ⟨S8x128x128, .f32⟩
  | .hbm, ⟨24, _⟩ => ⟨S8x128x512, .f32⟩
  | .hbm, ⟨25, _⟩ => ⟨S_, .f32⟩
  | .hbm, ⟨26, _⟩ => ⟨S8x128x512, .f32⟩
  | .hbm, ⟨27, _⟩ => ⟨S8x128x512, .f32⟩
  | .hbm, ⟨28, _⟩ => ⟨S8x128x512, .bf16⟩
  | .hbm, ⟨29, _⟩ => ⟨S1x1x1024, .f32⟩
  | .hbm, ⟨30, _⟩ => ⟨S1024, .f32⟩
  | .hbm, ⟨31, _⟩ => ⟨S8x128, .f32⟩
  | .hbm, ⟨32, _⟩ => ⟨S1x1x1024, .f32⟩
  | .hbm, ⟨33, _⟩ => ⟨S1024, .f32⟩
  | .hbm, ⟨34, _⟩ => ⟨S8x128, .f32⟩
  | .hbm, ⟨35, _⟩ => ⟨S1x1x1024, .f32⟩
  | .hbm, ⟨36, _⟩ => ⟨S1024, .f32⟩
  | .hbm, ⟨37, _⟩ => ⟨S8x128, .f32⟩
  | .hbm, ⟨38, _⟩ => ⟨S1x1x1024, .f32⟩
  | .hbm, ⟨39, _⟩ => ⟨S1024, .f32⟩
  | .hbm, ⟨40, _⟩ => ⟨S8x128, .f32⟩
  | .hbm, ⟨41, _⟩ => ⟨S8x512, .f32⟩
  | .hbm, ⟨42, _⟩ => ⟨S1x4096, .f32⟩
  | .hbm, ⟨43, _⟩ => ⟨S_, .f32⟩
  | .hbm, ⟨44, _⟩ => ⟨S1x4096, .f32⟩
  | .hbm, ⟨45, _⟩ => ⟨S1x4096, .f32⟩
  | .hbm, ⟨46, _⟩ => ⟨S4x1024, .f32⟩
  | .hbm, ⟨47, _⟩ => ⟨S1024, .f32⟩
  | .hbm, ⟨48, _⟩ => ⟨S1x1024, .f32⟩
  | .hbm, ⟨49, _⟩ => ⟨S2x1024, .f32⟩
  | .hbm, ⟨50, _⟩ => ⟨S4x2048x1024, .bf16⟩
  | .local _ .vmem, ⟨0, _⟩ => ⟨S1x2304x128, .bf16⟩
  | .local _ .vmem, ⟨1, _⟩ => ⟨S1x2304x128, .bf16⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S1x128x512, .bf16⟩
  | .local _ .vmem, ⟨7, _⟩ => ⟨S1x128x512, .bf16⟩
  | .local _ .vmem, ⟨8, _⟩ => ⟨S1x512, .f32⟩
  | .local _ .vmem, ⟨9, _⟩ => ⟨S1x512, .f32⟩
  | .local _ .vmem, ⟨10, _⟩ => ⟨S2x128, .f32⟩
  | .local _ .vmem, ⟨11, _⟩ => ⟨S2x128, .f32⟩
  | .local _ .vmem, ⟨12, _⟩ => ⟨S1x2048x128, .bf16⟩
  | .local _ .vmem, ⟨13, _⟩ => ⟨S1x2048x128, .bf16⟩
  | .local _ .vmem, ⟨14, _⟩ => ⟨S2328x128, .f32⟩
  | .local _ .vmem, ⟨15, _⟩ => ⟨S2304x128, .f32⟩
  | .local _ .vmem, ⟨16, _⟩ => ⟨S2304x128, .f32⟩
  | .local _ .vmem, ⟨17, _⟩ => ⟨S2304x128, .f32⟩
  | .local _ .vmem, ⟨18, _⟩ => ⟨S2304x128, .f32⟩
  | .local _ .vmem, ⟨19, _⟩ => ⟨S2304x128, .f32⟩
  | .local _ .vmem, ⟨20, _⟩ => ⟨S2304x128, .f32⟩
  | .local _ .vmem, ⟨21, _⟩ => ⟨S2304x128, .f32⟩
  | .local _ .vmem, ⟨22, _⟩ => ⟨S2048x128, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_0 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c36_i32 : BitVec 32 := 36#32
  let v190 : BitVec 32 := Scalar.addi c0_i32 c36_i32
  let c1_i32 : BitVec 32 := 1#32
  ⟨c0_i32, v190, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c8_i32 : BitVec 32 := 8#32
  let v245 : BitVec 32 := Scalar.muli arg18 c8_i32
  v245
def k0_off1 (k0_t1 : Fin k0_t1_loop.trips) (c0_i32_140 : BitVec 32) : Fin 2 → Nat :=
  let c0_i32 : BitVec 32 := 0#32
  let c1_i32 : BitVec 32 := 1#32
  let arg18 : BitVec 32 := Scf.iv c0_i32 c1_i32 k0_t1
  let c8_i32 : BitVec 32 := 8#32
  let v245 : BitVec 32 := Scalar.muli arg18 c8_i32
  let v246 : BitVec 32 := v245
  let v247 : BitVec 32 := Scalar.addi c0_i32_140 v246
  let v248 : Index := Scalar.indexCast v247
  let c0_141 : Index := 0#32
  ![v248.toNat, 0]
def k0_mult2 (k0_t1 : Fin k0_t1_loop.trips) : BitVec 32 :=
  let c0_i32 : BitVec 32 := 0#32
  let c1_i32 : BitVec 32 := 1#32
  let arg18 : BitVec 32 := Scf.iv c0_i32 c1_i32 k0_t1
  let c4_i32_203 : BitVec 32 := 4#32
  let v427 : BitVec 1 := Scalar.cmpi .slt arg18 c4_i32_203
  let c3_i32 : BitVec 32 := 3#32
  let v428 : BitVec 32 := Scalar.subi c3_i32 arg18
  let c39_i32 : BitVec 32 := 39#32
  let v429 : BitVec 32 := Scalar.subi c39_i32 arg18
  let v430 : BitVec 32 := Scalar.select v427 v428 v429
  let c8_i32_204 : BitVec 32 := 8#32
  let v431 : BitVec 32 := Scalar.muli v430 c8_i32_204
  v431
def k0_off2 (k0_t1 : Fin k0_t1_loop.trips) (c2016_i32_205 : BitVec 32) : Fin 2 → Nat :=
  let c0_i32 : BitVec 32 := 0#32
  let c1_i32 : BitVec 32 := 1#32
  let arg18 : BitVec 32 := Scf.iv c0_i32 c1_i32 k0_t1
  let c4_i32_203 : BitVec 32 := 4#32
  let v427 : BitVec 1 := Scalar.cmpi .slt arg18 c4_i32_203
  let c3_i32 : BitVec 32 := 3#32
  let v428 : BitVec 32 := Scalar.subi c3_i32 arg18
  let c39_i32 : BitVec 32 := 39#32
  let v429 : BitVec 32 := Scalar.subi c39_i32 arg18
  let v430 : BitVec 32 := Scalar.select v427 v428 v429
  let c8_i32_204 : BitVec 32 := 8#32
  let v431 : BitVec 32 := Scalar.muli v430 c8_i32_204
  let v432 : BitVec 32 := v431
  let v433 : BitVec 32 := Scalar.addi c2016_i32_205 v432
  let v434 : Index := Scalar.indexCast v433
  let c0_206 : Index := 0#32
  ![v434.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel5Ideal.lean ====
variable {F : FTy → Type} [FloatOps F] [Named F]
def κ : String → Option EReal := fun
  | "half_k" => some (((-4) * (Real.log 2)⁻¹ : ℝ) : EReal)
  | _ => none
-- ==== Reference5Ideal.lean ====
abbrev S4x2304x1024 : Shape := ⟨3, ![4, 2304, 1024]⟩
abbrev S1x4x1024 : Shape := ⟨3, ![1, 4, 1024]⟩
abbrev S1x1024 : Shape := ⟨2, ![1, 1024]⟩
abbrev S1x2x8x128x128 : Shape := ⟨5, ![1, 2, 8, 128, 128]⟩
abbrev S1x2x1024 : Shape := ⟨3, ![1, 2, 1024]⟩
abbrev S2x8x128x128 : Shape := ⟨4, ![2, 8, 128, 128]⟩
abbrev S2x1024 : Shape := ⟨2, ![2, 1024]⟩
abbrev S4x256x1024 : Shape := ⟨3, ![4, 256, 1024]⟩
abbrev S4x1024 : Shape := ⟨2, ![4, 1024]⟩
abbrev S1024 : Shape := ⟨1, ![1024]⟩
abbrev S_ : Shape := ⟨0, ![]⟩
abbrev S4x259x1024 : Shape := ⟨3, ![4, 259, 1024]⟩
abbrev S1x1x1024 : Shape := ⟨3, ![1, 1, 1024]⟩
abbrev S4x2048x1024 : Shape := ⟨3, ![4, 2048, 1024]⟩
abbrev S4x32x64x1024 : Shape := ⟨4, ![4, 32, 64, 1024]⟩
abbrev S4x64x32x1024 : Shape := ⟨4, ![4, 64, 32, 1024]⟩
abbrev S4x2051x1024 : Shape := ⟨3, ![4, 2051, 1024]⟩
abbrev S1x8x128x128 : Shape := ⟨4, ![1, 8, 128, 128]⟩
abbrev S8x128x128 : Shape := ⟨3, ![8, 128, 128]⟩
abbrev S4x2304x8x128 : Shape := ⟨4, ![4, 2304, 8, 128]⟩
abbrev S8x128x4x2304 : Shape := ⟨4, ![8, 128, 4, 2304]⟩
abbrev S2304x4x1024 : Shape := ⟨3, ![2304, 4, 1024]⟩
abbrev S2304x1x4x1024 : Shape := ⟨4, ![2304, 1, 4, 1024]⟩
abbrev S2304x2x4x1024 : Shape := ⟨4, ![2304, 2, 4, 1024]⟩
abbrev S1x2x4x1024 : Shape := ⟨4, ![1, 2, 4, 1024]⟩
abbrev S2x4x1024 : Shape := ⟨3, ![2, 4, 1024]⟩

abbrev nBuf : Space → Nat
  | .hbm => 290
  | .vmem => 0
  | .smem => 0
  | _ => 0

abbrev hbmTy0_0 (i : Nat) : BufTy := match i % 128 with
  | 0 => ⟨S4x2304x1024, .bf16⟩
  | 1 => ⟨S1x4x1024, .f32⟩
  | 2 => ⟨S1x1024, .f32⟩
  | 3 => ⟨S1x2x8x128x128, .f32⟩
  | 4 => ⟨S1x2x1024, .f32⟩
  | 5 => ⟨S1x2x8x128x128, .f32⟩
  | 6 => ⟨S1x2x1024, .f32⟩
  | 7 => ⟨S1x2x1024, .f32⟩
  | 8 => ⟨S2x8x128x128, .f32⟩
  | 9 => ⟨S2x1024, .f32⟩
  | 10 => ⟨S2x8x128x128, .f32⟩
  | 11 => ⟨S2x1024, .f32⟩
  | 12 => ⟨S2x1024, .f32⟩
  | 13 => ⟨S4x2304x1024, .f32⟩
  | 14 => ⟨S4x256x1024, .f32⟩
  | 15 => ⟨S4x1024, .f32⟩
  | 16 => ⟨S1024, .f32⟩
  | 17 => ⟨S_, .i32⟩
  | 18 => ⟨S_, .f32⟩
  | 19 => ⟨S4x259x1024, .f32⟩
  | 20 => ⟨S4x256x1024, .f32⟩
  | 21 => ⟨S1x1024, .f32⟩
  | 22 => ⟨S1024, .f32⟩
  | 23 => ⟨S1x1x1024, .f32⟩
  | 24 => ⟨S4x256x1024, .f32⟩
  | 25 => ⟨S4x256x1024, .f32⟩
  | 26 => ⟨S4x256x1024, .f32⟩
  | 27 => ⟨S1x1024, .f32⟩
  | 28 => ⟨S1024, .f32⟩
  | 29 => ⟨S1x1x1024, .f32⟩
  | 30 => ⟨S4x256x1024, .f32⟩
  | 31 => ⟨S4x256x1024, .f32⟩
  | 32 => ⟨S4x256x1024, .f32⟩
  | 33 => ⟨S4x256x1024, .f32⟩
  | 34 => ⟨S1x1024, .f32⟩
  | 35 => ⟨S1024, .f32⟩
  | 36 => ⟨S1x1x1024, .f32⟩
  | 37 => ⟨S4x256x1024, .f32⟩
  | 38 => ⟨S4x256x1024, .f32⟩
  | 39 => ⟨S4x256x1024, .f32⟩
  | 40 => ⟨S4x256x1024, .f32⟩
  | 41 => ⟨S1x1024, .f32⟩
  | 42 => ⟨S1024, .f32⟩
  | 43 => ⟨S1x1x1024, .f32⟩
  | 44 => ⟨S4x256x1024, .f32⟩
  | 45 => ⟨S4x256x1024, .f32⟩
  | 46 => ⟨S4x256x1024, .f32⟩
  | 47 => ⟨S1x1x1024, .f32⟩
  | 48 => ⟨S4x256x1024, .f32⟩
  | 49 => ⟨S4x256x1024, .f32⟩
  | 50 => ⟨S4x2048x1024, .f32⟩
  | 51 => ⟨S4x32x64x1024, .f32⟩
  | 52 => ⟨S4x64x32x1024, .f32⟩
  | 53 => ⟨S4x2048x1024, .f32⟩
  | 54 => ⟨S4x1024, .f32⟩
  | 55 => ⟨S1024, .f32⟩
  | 56 => ⟨S_, .i32⟩
  | 57 => ⟨S_, .f32⟩
  | 58 => ⟨S4x2051x1024, .f32⟩
  | 59 => ⟨S4x2048x1024, .f32⟩
  | 60 => ⟨S1x1024, .f32⟩
  | 61 => ⟨S1024, .f32⟩
  | 62 => ⟨S1x1x1024, .f32⟩
  | 63 => ⟨S4x2048x1024, .f32⟩
  | 64 => ⟨S4x2048x1024, .f32⟩
  | 65 => ⟨S4x2048x1024, .f32⟩
  | 66 => ⟨S1x1024, .f32⟩
  | 67 => ⟨S1024, .f32⟩
  | 68 => ⟨S1x1x1024, .f32⟩
  | 69 => ⟨S4x2048x1024, .f32⟩
  | 70 => ⟨S4x2048x1024, .f32⟩
  | 71 => ⟨S4x2048x1024, .f32⟩
  | 72 => ⟨S4x2048x1024, .f32⟩
  | 73 => ⟨S1x1024, .f32⟩
  | 74 => ⟨S1024, .f32⟩
  | 75 => ⟨S1x1x1024, .f32⟩
  | 76 => ⟨S4x2048x1024, .f32⟩
  | 77 => ⟨S4x2048x1024, .f32⟩
  | 78 => ⟨S4x2048x1024, .f32⟩
  | 79 => ⟨S4x2048x1024, .f32⟩
  | 80 => ⟨S1x1024, .f32⟩
  | 81 => ⟨S1024, .f32⟩
  | 82 => ⟨S1x1x1024, .f32⟩
  | 83 => ⟨S4x2048x1024, .f32⟩
  | 84 => ⟨S4x2048x1024, .f32⟩
  | 85 => ⟨S4x2048x1024, .f32⟩
  | 86 => ⟨S1x1x1024, .f32⟩
  | 87 => ⟨S4x2048x1024, .f32⟩
  | 88 => ⟨S4x2048x1024, .f32⟩
  | 89 => ⟨S4x2304x1024, .f32⟩
  | 90 => ⟨S1x8x128x128, .f32⟩
  | 91 => ⟨S8x128x128, .f32⟩
  | 92 => ⟨S1x1024, .f32⟩
  | 93 => ⟨S1024, .f32⟩
  | 94 => ⟨S1x8x128x128, .f32⟩
  | 95 => ⟨S8x128x128, .f32⟩
  | 96 => ⟨S1x1024, .f32⟩
  | 97 => ⟨S1024, .f32⟩
  | 98 => ⟨S1x1024, .f32⟩
  | 99 => ⟨S1024, .f32⟩
  | 100 => ⟨S4x2304x8x128, .f32⟩
  | 101 => ⟨S8x128x4x2304, .f32⟩
  | 102 => ⟨S4x2304x8x128, .f32⟩
  | 103 => ⟨S4x2304x1024, .f32⟩
  | 104 => ⟨S1x1x1024, .f32⟩
  | 105 => ⟨S4x2304x1024, .f32⟩
  | 106 => ⟨S4x2304x1024, .f32⟩
  | 107 => ⟨S4x2304x1024, .f32⟩
  | 108 => ⟨S4x2304x1024, .f32⟩
  | 109 => ⟨S_, .f32⟩
  | 110 => ⟨S4x2304x1024, .f32⟩
  | 111 => ⟨S4x2304x1024, .f32⟩
  | 112 => ⟨S_, .f32⟩
  | 113 => ⟨S4x2304x1024, .f32⟩
  | 114 => ⟨S4x2304x1024, .f32⟩
  | 115 => ⟨S8x128x4x2304, .f32⟩
  | 116 => ⟨S4x2304x8x128, .f32⟩
  | 117 => ⟨S4x2304x1024, .f32⟩
  | 118 => ⟨S1x1x1024, .f32⟩
  | 119 => ⟨S4x2304x1024, .f32⟩
  | 120 => ⟨S4x2304x1024, .f32⟩
  | 121 => ⟨S4x2304x1024, .f32⟩
  | 122 => ⟨S4x2304x1024, .f32⟩
  | 123 => ⟨S_, .f32⟩
  | 124 => ⟨S4x2304x1024, .f32⟩
  | 125 => ⟨S4x2304x1024, .f32⟩
  | 126 => ⟨S_, .f32⟩
  | 127 => ⟨S4x2304x1024, .f32⟩
  | _ => ⟨S4x2304x1024, .bf16⟩

abbrev hbmTy0_1 (i : Nat) : BufTy := match i % 128 with
  | 0 => ⟨S4x2304x1024, .f32⟩
  | 1 => ⟨S_, .f32⟩
  | 2 => ⟨S4x2304x1024, .f32⟩
  | 3 => ⟨S4x2304x1024, .f32⟩
  | 4 => ⟨S1024, .f32⟩
  | 5 => ⟨S_, .f32⟩
  | 6 => ⟨S1024, .f32⟩
  | 7 => ⟨S1024, .f32⟩
  | 8 => ⟨S1024, .f32⟩
  | 9 => ⟨S1024, .f32⟩
  | 10 => ⟨S1024, .i1⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1x1x1024, .f32⟩
  | 20 => ⟨S4x2304x1024, .f32⟩
  | 21 => ⟨S4x2304x1024, .f32⟩
  | 22 => ⟨S_, .f32⟩
  | 23 => ⟨S4x2304x1024, .f32⟩
  | 24 => ⟨S4x2304x1024, .f32⟩
  | 25 => ⟨S4x2304x1024, .f32⟩
  | 26 => ⟨S4x2304x1024, .f32⟩
  | 27 => ⟨S4x2304x1024, .f32⟩
  | 28 => ⟨S4x2304x1024, .f32⟩
  | 29 => ⟨S2304x4x1024, .f32⟩
  | 30 => ⟨S4x2304x1024, .f32⟩
  | 31 => ⟨S4x2304x1024, .f32⟩
  | 32 => ⟨S2304x4x1024, .f32⟩
  | 33 => ⟨S4x256x1024, .f32⟩
  | 34 => ⟨S4x256x1024, .f32⟩
  | 35 => ⟨S4x2048x1024, .f32⟩
  | 36 => ⟨S4x2048x1024, .f32⟩
  | 37 => ⟨S4x2304x1024, .f32⟩
  | 38 => ⟨S1x8x128x128, .f32⟩
  | 39 => ⟨S8x128x128, .f32⟩
  | 40 => ⟨S1x1024, .f32⟩
  | 41 => ⟨S1024, .f32⟩
  | 42 => ⟨S1x8x128x128, .f32⟩
  | 43 => ⟨S8x128x128, .f32⟩
  | 44 => ⟨S1x1024, .f32⟩
  | 45 => ⟨S1024, .f32⟩
  | 46 => ⟨S1x1024, .f32⟩
  | 47 => ⟨S1024, .f32⟩
  | 48 => ⟨S4x2304x8x128, .f32⟩
  | 49 => ⟨S8x128x4x2304, .f32⟩
  | 50 => ⟨S4x2304x8x128, .f32⟩
  | 51 => ⟨S4x2304x1024, .f32⟩
  | 52 => ⟨S1x1x1024, .f32⟩
  | 53 => ⟨S4x2304x1024, .f32⟩
  | 54 => ⟨S4x2304x1024, .f32⟩
  | 55 => ⟨S4x2304x1024, .f32⟩
  | 56 => ⟨S4x2304x1024, .f32⟩
  | 57 => ⟨S_, .f32⟩
  | 58 => ⟨S4x2304x1024, .f32⟩
  | 59 => ⟨S4x2304x1024, .f32⟩
  | 60 => ⟨S_, .f32⟩
  | 61 => ⟨S4x2304x1024, .f32⟩
  | 62 => ⟨S4x2304x1024, .f32⟩
  | 63 => ⟨S8x128x4x2304, .f32⟩
  | 64 => ⟨S4x2304x8x128, .f32⟩
  | 65 => ⟨S4x2304x1024, .f32⟩
  | 66 => ⟨S1x1x1024, .f32⟩
  | 67 => ⟨S4x2304x1024, .f32⟩
  | 68 => ⟨S4x2304x1024, .f32⟩
  | 69 => ⟨S4x2304x1024, .f32⟩
  | 70 => ⟨S4x2304x1024, .f32⟩
  | 71 => ⟨S_, .f32⟩
  | 72 => ⟨S4x2304x1024, .f32⟩
  | 73 => ⟨S4x2304x1024, .f32⟩
  | 74 => ⟨S_, .f32⟩
  | 75 => ⟨S4x2304x1024, .f32⟩
  | 76 => ⟨S4x2304x1024, .f32⟩
  | 77 => ⟨S_, .f32⟩
  | 78 => ⟨S4x2304x1024, .f32⟩
  | 79 => ⟨S4x2304x1024, .f32⟩
  | 80 => ⟨S1024, .f32⟩
  | 81 => ⟨S_, .f32⟩
  | 82 => ⟨S1024, .f32⟩
  | 83 => ⟨S1024, .f32⟩
  | 84 => ⟨S1024, .f32⟩
  | 85 => ⟨S1024, .f32⟩
  | 86 => ⟨S1024, .i1⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1x1x1024, .f32⟩
  | 96 => ⟨S4x2304x1024, .f32⟩
  | 97 => ⟨S4x2304x1024, .f32⟩
  | 98 => ⟨S_, .f32⟩
  | 99 => ⟨S4x2304x1024, .f32⟩
  | 100 => ⟨S4x2304x1024, .f32⟩
  | 101 => ⟨S4x2304x1024, .f32⟩
  | 102 => ⟨S4x2304x1024, .f32⟩
  | 103 => ⟨S4x2304x1024, .f32⟩
  | 104 => ⟨S4x2304x1024, .f32⟩
  | 105 => ⟨S2304x4x1024, .f32⟩
  | 106 => ⟨S4x2304x1024, .f32⟩
  | 107 => ⟨S4x2304x1024, .f32⟩
  | 108 => ⟨S2304x4x1024, .f32⟩
  | 109 => ⟨S2304x1x4x1024, .f32⟩
  | 110 => ⟨S2304x1x4x1024, .f32⟩
  | 111 => ⟨S2304x2x4x1024, .f32⟩
  | 112 => ⟨S2304x1x4x1024, .f32⟩
  | 113 => ⟨S2304x1x4x1024, .f32⟩
  | 114 => ⟨S2304x2x4x1024, .f32⟩
  | 115 => ⟨S1x2x4x1024, .f32⟩
  | 116 => ⟨S2x4x1024, .f32⟩
  | 117 => ⟨S_, .f32⟩
  | 118 => ⟨S2x4x1024, .f32⟩
  | 119 => ⟨S_, .f32⟩
  | 120 => ⟨S2304x2x4x1024, .f32⟩
  | 121 => ⟨S_, .i32⟩
  | 122 => ⟨S2304x2x4x1024, .f32⟩
  | 123 => ⟨S2304x2x4x1024, .f32⟩
  | 124 => ⟨S_, .i32⟩
  | 125 => ⟨S2x4x1024, .f32⟩
  | 126 => ⟨S2304x2x4x1024, .f32⟩
  | 127 => ⟨S_, .i32⟩
  | _ => ⟨S4x2304x1024, .bf16⟩

abbrev hbmTy0_2 (i : Nat) : BufTy := match i % 128 with
  | 0 => ⟨S_, .i1⟩
  | 1 => ⟨S_, .i32⟩
  | 2 => ⟨S_, .i32⟩
  | 3 => ⟨S_, .i32⟩
  | 4 => ⟨S1x2x4x1024, .f32⟩
  | 5 => ⟨S2x4x1024, .f32⟩
  | 6 => ⟨S_, .i32⟩
  | 7 => ⟨S_, .i32⟩
  | 8 => ⟨S_, .i32⟩
  | 9 => ⟨S1x2x4x1024, .f32⟩
  | 10 => ⟨S2x4x1024, .f32⟩
  | 11 => ⟨S2x4x1024, .f32⟩
  | 12 => ⟨S2x4x1024, .f32⟩
  | 13 => ⟨S1x2x4x1024, .f32⟩
  | 14 => ⟨S_, .i32⟩
  | 15 => ⟨S_, .i32⟩
  | 16 => ⟨S_, .i32⟩
  | 17 => ⟨S2304x2x4x1024, .f32⟩
  | 18 => ⟨S_, .i32⟩
  | 19 => ⟨S_, .i32⟩
  | 20 => ⟨S2304x1x4x1024, .f32⟩
  | 21 => ⟨S2304x4x1024, .f32⟩
  | 22 => ⟨S4x2304x1024, .f32⟩
  | 23 => ⟨S2304x1x4x1024, .f32⟩
  | 24 => ⟨S2304x4x1024, .f32⟩
  | 25 => ⟨S4x2304x1024, .f32⟩
  | 26 => ⟨S4x256x1024, .f32⟩
  | 27 => ⟨S4x256x1024, .f32⟩
  | 28 => ⟨S4x2048x1024, .f32⟩
  | 29 => ⟨S4x2048x1024, .f32⟩
  | 30 => ⟨S4x2304x1024, .f32⟩
  | 31 => ⟨S4x2304x1024, .f32⟩
  | 32 => ⟨S4x2048x1024, .f32⟩
  | 33 => ⟨S4x2048x1024, .bf16⟩
  | _ => ⟨S4x2304x1024, .bf16⟩

abbrev hbmTy (i : Nat) : BufTy := match i / 128 with
  | 0 => hbmTy0_0 i
  | 1 => hbmTy0_1 i
  | 2 => hbmTy0_2 i
  | _ => ⟨S4x2304x1024, .bf16⟩

abbrev bufTy : (tb : Table) → Fin (tcTables nBuf tb) → BufTy
  | .hbm, ⟨i, _⟩ => hbmTy i
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_0 : Ref sig .tc := ⟨.hbm, 56, rfl⟩
abbrev main_call1_v0 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst : Ref sig .tc := ⟨.hbm, 109, rfl⟩
abbrev main_v97 : Ref sig .tc := ⟨.hbm, 110, rfl⟩
abbrev main_v98 : Ref sig .tc := ⟨.hbm, 111, rfl⟩
abbrev main_cst_1 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_cst_2 : Ref sig .tc := ⟨.hbm, 123, rfl⟩
abbrev main_v109 : Ref sig .tc := ⟨.hbm, 124, rfl⟩
abbrev main_v110 : Ref sig .tc := ⟨.hbm, 125, rfl⟩
abbrev main_cst_3 : Ref sig .tc := ⟨.hbm, 126, rfl⟩
abbrev main_v111 : Ref sig .tc := ⟨.hbm, 127, rfl⟩
abbrev main_v112 : Ref sig .tc := ⟨.hbm, 128, rfl⟩
abbrev main_cst_4 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_call2_cst : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_call2_v6 : Ref sig .tc := ⟨.hbm, 140, rfl⟩
abbrev main_call2_v7 : Ref sig .tc := ⟨.hbm, 141, rfl⟩
abbrev main_call2_v8 : Ref sig .tc := ⟨.hbm, 142, rfl⟩
abbrev main_call2_v9 : Ref sig .tc := ⟨.hbm, 143, rfl⟩
abbrev main_call2_v10 : Ref sig .tc := ⟨.hbm, 144, rfl⟩
abbrev main_call2_v11 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_5 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_cst_6 : Ref sig .tc := ⟨.hbm, 185, rfl⟩
abbrev main_v154 : Ref sig .tc := ⟨.hbm, 186, rfl⟩
abbrev main_v155 : Ref sig .tc := ⟨.hbm, 187, rfl⟩
abbrev main_cst_7 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_cst_8 : Ref sig .tc := ⟨.hbm, 199, rfl⟩
abbrev main_v166 : Ref sig .tc := ⟨.hbm, 200, rfl⟩
abbrev main_v167 : Ref sig .tc := ⟨.hbm, 201, rfl⟩
abbrev main_cst_9 : Ref sig .tc := ⟨.hbm, 202, rfl⟩
abbrev main_v168 : Ref sig .tc := ⟨.hbm, 203, rfl⟩
abbrev main_v169 : Ref sig .tc := ⟨.hbm, 204, rfl⟩
abbrev main_cst_10 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_call5_cst : Ref sig .tc := ⟨.hbm, 209, rfl⟩
abbrev main_call5_v0 : Ref sig .tc := ⟨.hbm, 210, rfl⟩
abbrev main_call5_v1 : Ref sig .tc := ⟨.hbm, 211, rfl⟩
abbrev main_call5_v2 : Ref sig .tc := ⟨.hbm, 212, rfl⟩
abbrev main_call5_v3 : Ref sig .tc := ⟨.hbm, 213, rfl⟩
abbrev main_call5_v4 : Ref sig .tc := ⟨.hbm, 214, rfl⟩
abbrev main_call5_v5 : Ref sig .tc := ⟨.hbm, 215, rfl⟩
abbrev main_call5_v6 : Ref sig .tc := ⟨.hbm, 216, rfl⟩
abbrev main_call5_v7 : Ref sig .tc := ⟨.hbm, 217, rfl⟩
abbrev main_call5_v8 : Ref sig .tc := ⟨.hbm, 218, rfl⟩
abbrev main_call5_v9 : Ref sig .tc := ⟨.hbm, 219, rfl⟩
abbrev main_call5_v10 : Ref sig .tc := ⟨.hbm, 220, rfl⟩
abbrev main_call5_v11 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_11 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_cst_12 : Ref sig .tc := ⟨.hbm, 245, rfl⟩
abbrev main_v195 : Ref sig .tc := ⟨.hbm, 246, rfl⟩
abbrev main_cst_13 : Ref sig .tc := ⟨.hbm, 247, rfl⟩
abbrev main_v196 : Ref sig .tc := ⟨.hbm, 248, rfl⟩
abbrev main_c_14 : Ref sig .tc := ⟨.hbm, 249, rfl⟩
abbrev main_v197_0 : Ref sig .tc := ⟨.hbm, 250, rfl⟩
abbrev main_v197_1 : Ref sig .tc := ⟨.hbm, 251, rfl⟩
abbrev main_v197_2 : Ref sig .tc := ⟨.hbm, 252, rfl⟩
abbrev main_v197_3 : Ref sig .tc := ⟨.hbm, 253, rfl⟩
abbrev main_v197_4 : Ref sig .tc := ⟨.hbm, 254, rfl⟩
abbrev main_while0c_c_19 : Ref sig .tc := ⟨.hbm, 255, rfl⟩
abbrev main_while0c_v212 : Ref sig .tc := ⟨.hbm, 256, rfl⟩
abbrev main_while0b_call6_c : Ref sig .tc := ⟨.hbm, 257, rfl⟩
abbrev main_while0b_call6_c_0 : Ref sig .tc := ⟨.hbm, 258, rfl⟩
abbrev main_while0b_call6_c_1 : Ref sig .tc := ⟨.hbm, 259, rfl⟩
abbrev main_while0b_call6_v0 : Ref sig .tc := ⟨.hbm, 260, rfl⟩
abbrev main_while0b_v212 : Ref sig .tc := ⟨.hbm, 261, rfl⟩
abbrev main_while0b_call7_c : Ref sig .tc := ⟨.hbm, 262, rfl⟩
abbrev main_while0b_call7_c_0 : Ref sig .tc := ⟨.hbm, 263, rfl⟩
abbrev main_while0b_call7_c_1 : Ref sig .tc := ⟨.hbm, 264, rfl⟩
abbrev main_while0b_call7_v0 : Ref sig .tc := ⟨.hbm, 265, rfl⟩
abbrev main_while0b_v213 : Ref sig .tc := ⟨.hbm, 266, rfl⟩
abbrev main_while0b_v214 : Ref sig .tc := ⟨.hbm, 267, rfl⟩
abbrev main_while0b_v215 : Ref sig .tc := ⟨.hbm, 268, rfl⟩
abbrev main_while0b_call8_v0 : Ref sig .tc := ⟨.hbm, 269, rfl⟩
abbrev main_while0b_call8_c : Ref sig .tc := ⟨.hbm, 270, rfl⟩
abbrev main_while0b_call8_c_0 : Ref sig .tc := ⟨.hbm, 271, rfl⟩
abbrev main_while0b_call8_c_1 : Ref sig .tc := ⟨.hbm, 272, rfl⟩
abbrev main_while0b_v216 : Ref sig .tc := ⟨.hbm, 273, rfl⟩
abbrev main_while0b_c_19 : Ref sig .tc := ⟨.hbm, 274, rfl⟩
abbrev main_while0b_v217 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩

abbrev nD : Nat := 1
abbrev τ : Topo := Topo.v7x

variable {F : FTy → Type} [FloatOps F]

abbrev main_while0_count : Scf.Loop 32 := ⟨0#32, 2304#32, 1#32⟩
-- ==== Kernel6.lean ====
abbrev S4x256x2048 : Shape := ⟨3, ![4, 256, 2048]⟩
abbrev S1x1x2048 : Shape := ⟨3, ![1, 1, 2048]⟩
abbrev S1x2048 : Shape := ⟨2, ![1, 2048]⟩
abbrev S1x2048x11296 : Shape := ⟨3, ![1, 2048, 11296]⟩
abbrev S1x32 : Shape := ⟨2, ![1, 32]⟩
abbrev S2048x11296 : Shape := ⟨2, ![2048, 11296]⟩
abbrev S11296x2048 : Shape := ⟨2, ![11296, 2048]⟩
abbrev S_ : Shape := ⟨0, ![]⟩
abbrev S1x128 : Shape := ⟨2, ![1, 128]⟩
abbrev S32 : Shape := ⟨1, ![32]⟩
abbrev S1 : Shape := ⟨1, ![1]⟩
abbrev S2 : Shape := ⟨1, ![2]⟩
abbrev S2048 : Shape := ⟨1, ![2048]⟩
abbrev S1x1024x2048 : Shape := ⟨3, ![1, 1024, 2048]⟩
abbrev S1x1024x4096 : Shape := ⟨3, ![1, 1024, 4096]⟩
abbrev S1x1024x128 : Shape := ⟨3, ![1, 1024, 128]⟩
abbrev S1024x2048 : Shape := ⟨2, ![1024, 2048]⟩
abbrev S32x2048 : Shape := ⟨2, ![32, 2048]⟩
abbrev S1x1024x1024 : Shape := ⟨3, ![1, 1024, 1024]⟩
abbrev S1024 : Shape := ⟨1, ![1024]⟩
abbrev S1024x1 : Shape := ⟨2, ![1024, 1]⟩
abbrev S1024x32 : Shape := ⟨2, ![1024, 32]⟩
abbrev S1024x96 : Shape := ⟨2, ![1024, 96]⟩
abbrev S1024x128 : Shape := ⟨2, ![1024, 128]⟩
abbrev S1024x1024 : Shape := ⟨2, ![1024, 1024]⟩

abbrev nBuf : Space → Nat
  | .hbm => 26
  | .vmem => 11
  | .smem => 0
  | _ => 0

abbrev bufTy : (tb : Table) → Fin (tcTables nBuf tb) → BufTy
  | .hbm, ⟨0, _⟩ => ⟨S4x256x2048, .f32⟩
  | .hbm, ⟨1, _⟩ => ⟨S1x1x2048, .f32⟩
  | .hbm, ⟨2, _⟩ => ⟨S1x1x2048, .f32⟩
  | .hbm, ⟨3, _⟩ => ⟨S1x2048, .f32⟩
  | .hbm, ⟨4, _⟩ => ⟨S1x2048x11296, .f32⟩
  | .hbm, ⟨5, _⟩ => ⟨S1x32, .f32⟩
  | .hbm, ⟨6, _⟩ => ⟨S2048x11296, .f32⟩
  | .hbm, ⟨7, _⟩ => ⟨S11296x2048, .f32⟩
  | .hbm, ⟨8, _⟩ => ⟨S_, .f32⟩
  | .hbm, ⟨9, _⟩ => ⟨S1x128, .f32⟩
  | .hbm, ⟨10, _⟩ => ⟨S32, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S1x128, .f32⟩
  | .hbm, ⟨17, _⟩ => ⟨S2048, .f32⟩
  | .hbm, ⟨18, _⟩ => ⟨S1x1x2048, .f32⟩
  | .hbm, ⟨19, _⟩ => ⟨S1x1024x2048, .f32⟩
  | .hbm, ⟨20, _⟩ => ⟨S_, .f32⟩
  | .hbm, ⟨21, _⟩ => ⟨S1x1x2048, .f32⟩
  | .hbm, ⟨22, _⟩ => ⟨S1x1x2048, .f32⟩
  | .hbm, ⟨23, _⟩ => ⟨S1x1x2048, .f32⟩
  | .hbm, ⟨24, _⟩ => ⟨S1x1024x4096, .bf16⟩
  | .hbm, ⟨25, _⟩ => ⟨S1x1024x128, .f32⟩
  | .local _ .vmem, ⟨0, _⟩ => ⟨S1x1024x2048, .f32⟩
  | .local _ .vmem, ⟨1, _⟩ => ⟨S1x1x2048, .f32⟩
  | .local _ .vmem, ⟨2, _⟩ => ⟨S1x1x2048, .f32⟩
  | .local _ .vmem, ⟨3, _⟩ => ⟨S1024x2048, .f32⟩
  | .local _ .vmem, ⟨4, _⟩ => ⟨S1024x2048, .f32⟩
  | .local _ .vmem, ⟨5, _⟩ => ⟨S32x2048, .f32⟩
  | .local _ .vmem, ⟨6, _⟩ => ⟨S1x128, .f32⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x128, .f32⟩
  | .local _ .vmem, ⟨10, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨3, ![1, 1, 4], ![false, false, false]⟩

def k0_mult1 (i : grid0.Coords) : BitVec 32 :=
  let arg2 : BitVec 32 := BitVec.ofNat 32 (i 2).val
  let c3_i32 : BitVec 32 := 3#32
  let v0 : BitVec 1 := Scalar.cmpi .eq arg2 c3_i32
  let c5_i32 : BitVec 32 := 5#32
  let v1 : BitVec 32 := Scalar.select v0 c5_i32 arg2
  let c1024_i32 : BitVec 32 := 1024#32
  let v2 : BitVec 32 := Scalar.muli v1 c1024_i32
  let c3_i32_0 : BitVec 32 := 3#32
  let v3 : BitVec 1 := Scalar.cmpi .eq arg2 c3_i32_0
  let c5_i32_1 : BitVec 32 := 5#32
  let v4 : BitVec 32 := Scalar.select v3 c5_i32_1 arg2
  let c5_i32_2 : BitVec 32 := 5#32
  let v5 : BitVec 1 := Scalar.cmpi .sge v4 c5_i32_2
  let c32_i32 : BitVec 32 := 32#32
  let c0_i32 : BitVec 32 := 0#32
  let v6 : BitVec 32 := Scalar.select v5 c32_i32 c0_i32
  let v7 : BitVec 32 := Scalar.addi v2 v6
  v7
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .eq arg2 c3_i32
  let c5_i32 : BitVec 32 := 5#32
  let v1 : BitVec 32 := Scalar.select v0 c5_i32 arg2
  let c1024_i32 : BitVec 32 := 1024#32
  let v2 : BitVec 32 := Scalar.muli v1 c1024_i32
  let c3_i32_0 : BitVec 32 := 3#32
  let v3 : BitVec 1 := Scalar.cmpi .eq arg2 c3_i32_0
  let c5_i32_1 : BitVec 32 := 5#32
  let v4 : BitVec 32 := Scalar.select v3 c5_i32_1 arg2
  let c5_i32_2 : BitVec 32 := 5#32
  let v5 : BitVec 1 := Scalar.cmpi .sge v4 c5_i32_2
  let c32_i32 : BitVec 32 := 32#32
  let c0_i32 : BitVec 32 := 0#32
  let v6 : BitVec 32 := Scalar.select v5 c32_i32 c0_i32
  let v7 : BitVec 32 := Scalar.addi v2 v6
  let v8 : BitVec 32 := v7
  let c0_i32_3 : BitVec 32 := 0#32
  let c0_i32_4 : BitVec 32 := 0#32
  ![v8.toNat, c0_i32_3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c160_i32 : BitVec 32 := 160#32
  let c0_i32 : BitVec 32 := 0#32
  let c0_i32_0 : BitVec 32 := 0#32
  ![c160_i32.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, false]
-- ==== Reference6Ideal.lean ====
abbrev S4x256x2048 : Shape := ⟨3, ![4, 256, 2048]⟩
abbrev S1x1x2048 : Shape := ⟨3, ![1, 1, 2048]⟩
abbrev S1x2048 : Shape := ⟨2, ![1, 2048]⟩
abbrev S1x2048x11296 : Shape := ⟨3, ![1, 2048, 11296]⟩
abbrev S1x32 : Shape := ⟨2, ![1, 32]⟩
abbrev S1x1024x2048 : Shape := ⟨3, ![1, 1024, 2048]⟩
abbrev S2048 : Shape := ⟨1, ![2048]⟩
abbrev S_ : Shape := ⟨0, ![]⟩
abbrev S1x1024 : Shape := ⟨2, ![1, 1024]⟩
abbrev S1x1024x1 : Shape := ⟨3, ![1, 1024, 1]⟩
abbrev S2048x11296 : Shape := ⟨2, ![2048, 11296]⟩
abbrev S1x1024x11296 : Shape := ⟨3, ![1, 1024, 11296]⟩
abbrev S1x1024x1024 : Shape := ⟨3, ![1, 1024, 1024]⟩
abbrev S1x1024x32 : Shape := ⟨3, ![1, 1024, 32]⟩
abbrev S32 : Shape := ⟨1, ![32]⟩
abbrev S1x1x32 : Shape := ⟨3, ![1, 1, 32]⟩
abbrev S1x1024x4096 : Shape := ⟨3, ![1, 1024, 4096]⟩
abbrev S1x1024x96 : Shape := ⟨3, ![1, 1024, 96]⟩
abbrev S1x1024x128 : Shape := ⟨3, ![1, 1024, 128]⟩

abbrev nBuf : Space → Nat
  | .hbm => 52
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x1x2048, .f32⟩
  | .hbm, ⟨2, _⟩ => ⟨S1x1x2048, .f32⟩
  | .hbm, ⟨3, _⟩ => ⟨S1x2048, .f32⟩
  | .hbm, ⟨4, _⟩ => ⟨S1x2048x11296, .f32⟩
  | .hbm, ⟨5, _⟩ => ⟨S1x32, .f32⟩
  | .hbm, ⟨6, _⟩ => ⟨S1x1024x2048, .f32⟩
  | .hbm, ⟨7, _⟩ => ⟨S2048, .f32⟩
  | .hbm, ⟨8, _⟩ => ⟨S1x1024x2048, .f32⟩
  | .hbm, ⟨9, _⟩ => ⟨S_, .f32⟩
  | .hbm, ⟨10, _⟩ => ⟨S1x1024, .f32⟩
  | .hbm, ⟨11, _⟩ => ⟨S1x1024x1, .f32⟩
  | .hbm, ⟨12, _⟩ => ⟨S_, .f32⟩
  | .hbm, ⟨13, _⟩ => ⟨S1x1024x1, .f32⟩
  | .hbm, ⟨14, _⟩ => ⟨S1x1024x1, .f32⟩
  | .hbm, ⟨15, _⟩ => ⟨S_, .f32⟩
  | .hbm, ⟨16, _⟩ => ⟨S1x1024x1, .f32⟩
  | .hbm, ⟨17, _⟩ => ⟨S1x1024x1, .f32⟩
  | .hbm, ⟨18, _⟩ => ⟨S1x1024x1, .f32⟩
  | .hbm, ⟨19, _⟩ => ⟨S1x1024x2048, .f32⟩
  | .hbm, ⟨20, _⟩ => ⟨S1x1024x2048, .f32⟩
  | .hbm, ⟨21, _⟩ => ⟨S1x1x2048, .f32⟩
  | .hbm, ⟨22, _⟩ => ⟨S1x1024x2048, .f32⟩
  | .hbm, ⟨23, _⟩ => ⟨S1x1024x2048, .f32⟩
  | .hbm, ⟨24, _⟩ => ⟨S_, .f32⟩
  | .hbm, ⟨25, _⟩ => ⟨S1x1x2048, .f32⟩
  | .hbm, ⟨26, _⟩ => ⟨S1x1x2048, .f32⟩
  | .hbm, ⟨27, _⟩ => ⟨S1x1024x2048, .f32⟩
  | .hbm, ⟨28, _⟩ => ⟨S1x1024x2048, .f32⟩
  | .hbm, ⟨29, _⟩ => ⟨S1x1024x2048, .f32⟩
  | .hbm, ⟨30, _⟩ => ⟨S1x1024x2048, .f32⟩
  | .hbm, ⟨31, _⟩ => ⟨S2048x11296, .f32⟩
  | .hbm, ⟨32, _⟩ => ⟨S1x1024x11296, .f32⟩
  | .hbm, ⟨33, _⟩ => ⟨S1x1024x1024, .f32⟩
  | .hbm, ⟨34, _⟩ => ⟨S1x1024x1024, .f32⟩
  | .hbm, ⟨35, _⟩ => ⟨S1x1024x1024, .f32⟩
  | .hbm, ⟨36, _⟩ => ⟨S1x1024x1024, .f32⟩
  | .hbm, ⟨37, _⟩ => ⟨S1x1024x1024, .f32⟩
  | .hbm, ⟨38, _⟩ => ⟨S1x1024x32, .f32⟩
  | .hbm, ⟨39, _⟩ => ⟨S1x1024x1024, .f32⟩
  | .hbm, ⟨40, _⟩ => ⟨S1x1024x1024, .f32⟩
  | .hbm, ⟨41, _⟩ => ⟨S1x1024x2048, .f32⟩
  | .hbm, ⟨42, _⟩ => ⟨S1x1024x2048, .f32⟩
  | .hbm, ⟨43, _⟩ => ⟨S32, .f32⟩
  | .hbm, ⟨44, _⟩ => ⟨S1x1x32, .f32⟩
  | .hbm, ⟨45, _⟩ => ⟨S1x1024x32, .f32⟩
  | .hbm, ⟨46, _⟩ => ⟨S1x1024x32, .f32⟩
  | .hbm, ⟨47, _⟩ => ⟨S1x1024x4096, .f32⟩
  | .hbm, ⟨48, _⟩ => ⟨S_, .f32⟩
  | .hbm, ⟨49, _⟩ => ⟨S1x1024x96, .f32⟩
  | .hbm, ⟨50, _⟩ => ⟨S1x1024x128, .f32⟩
  | .hbm, ⟨51, _⟩ => ⟨S1x1024x4096, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Proof.InprojBody.lean ====
/- The body of the input projection's kernel: what one grid point leaves in its buffers.

   At a point whose last coordinate is 0 the body normalizes its rows, keeps them in the scratch buffer, and writes the
   gate lanes; at every point it multiplies the kept rows with the point's rows of the transposed weight. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch: the column coordinate is 0. -/
abbrev First (i : grid0.Coords) : Prop := (Scalar.cmpi .ne (Scalar.extui (Scalar.cmpi .eq (BitVec.ofNat 32 (i 2).val) 0#32)) 0#32) = 1#1

/-- It holds at the points ≡ 0 (mod 11). -/
theorem first_iff (t : Fin cfg0.N) : First (grid0.coords t) ↔ t.val % 11 = 0 := by
  have ht : t.val < 88 := Nat.lt_of_lt_of_eq t.isLt N_0
  have e2 : (grid0.coords t 2).val = t.val / 1 % 11 := Pipeline.Grid.coords_val t 2 (by decide) rfl
  simp only [First, e2]
  word_cmp

/-- The normalized rows of a block, as the scratch buffer keeps them. -/
abbrev rows (x : Vec F S1x1024x2048 .f32) (g s : Vec F S1x1x2048 .f32) : Vec F S1024x2048 .bf16 := k0_pay4 x g s

/-- The gate lanes of a block. -/
abbrev lanes (x : Vec F S1x1024x2048 .f32) (g s : Vec F S1x1x2048 .f32) (wg : Vec F S32x2048 .f32) (b : Vec F S1x128 .f32) :
    Vec F S1x1024x128 .f32 := k0_pay1 (k0_pay5 x g s wg b)

set_option maxHeartbeats 1000000 in
/-- A point of the first column. -/
theorem body_first (c : Dev nD) (i : grid0.Coords) (arg3 : Memref sig .tc .vmem S1x1024x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1024x2048 .f32) (harg6 : arg6.IsWhole) (arg7 : Memref sig .tc .vmem S32x2048 .f32) (harg7 : arg7.IsWhole) (arg8 : Memref sig .tc .vmem S1x128 .f32) (harg8 : arg8.IsWhole) (arg9 : Memref sig .tc .vmem S1x1024x1024 .bf16) (harg9 : arg9.IsWhole) (arg10 : Memref sig .tc .vmem S1x1024x128 .f32) (harg10 : arg10.IsWhole) (arg11 : Memref sig .tc .vmem S1024x2048 .bf16) (harg11 : arg11.IsWhole) (hc0 : First i)
    (x0 : Vec F S1x1024x2048 .f32) (x1 : Vec F S1x1x2048 .f32) (x2 : Vec F S1x1x2048 .f32) (x3 : Vec F S1024x2048 .f32) (x4 : Vec F S32x2048 .f32) (x5 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay2 (rows x0 x1 x2) x3) ∗ owns (c : Thread nD τ) arg10 fullShare (lanes x0 x1 x2 x4 x5) ∗ owns (c : Thread nD τ) arg11 fullShare (rows x0 x1 x2)) -∗ K ⟨⟩))
          ⊢ wp frame (wpE (defs₀ (F := F)) Variants.none c none) E (cc0_inproj i arg3 harg3 arg4 harg4 arg5 harg5 arg6 harg6 arg7 harg7 arg8 harg8 arg9 harg9 arg10 harg10 arg11 harg11) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    refine (View.read_writes_full _ _ _ _ _).trans ?_
    refine congr (congrArg k0_pay2 ?_) ((View.readAt_full _ _ _).trans hf3)
    unfold body_first.sl.v3 View.readCov body_first.sl.HS0_1
    refine (View.readAt_writes_full _ _ _ _ _ _).trans ?_
    exact congr (congr (congrArg k0_pay4 ((View.readAt_full _ _ _).trans hf0)) ((View.readAt_full _ _ _).trans hf1)) ((View.readAt_full _ _ _).trans hf2)
  isplitl [H7]
  · iexists _; isplitr
    swap; · iexact H7
    ipureintro
    refine (View.read_writes_full _ _ _ _ _).trans ?_
    unfold body_first.sl.r
    exact congrArg k0_pay1 (congr (congr (congr (congr (congrArg k0_pay5 ((View.readAt_full _ _ _).trans hf0)) ((View.readAt_full _ _ _).trans hf1)) ((View.readAt_full _ _ _).trans hf2)) ((View.readAt_full _ _ _).trans hf4)) ((View.readAt_full _ _ _).trans hf5))
  iexists _; isplitr
  swap; · iexact HS0
  ipureintro
  refine (View.read_writes_full _ _ _ _ _).trans ?_
  exact congr (congr (congrArg k0_pay4 ((View.readAt_full _ _ _).trans hf0)) ((View.readAt_full _ _ _).trans hf1)) ((View.readAt_full _ _ _).trans hf2)

set_option maxHeartbeats 1000000 in
/-- A later point: the scratch buffer and the gate lanes are left as they were. -/
theorem body_later (c : Dev nD) (i : grid0.Coords) (arg3 : Memref sig .tc .vmem S1x1024x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1024x2048 .f32) (harg6 : arg6.IsWhole) (arg7 : Memref sig .tc .vmem S32x2048 .f32) (harg7 : arg7.IsWhole) (arg8 : Memref sig .tc .vmem S1x128 .f32) (harg8 : arg8.IsWhole) (arg9 : Memref sig .tc .vmem S1x1024x1024 .bf16) (harg9 : arg9.IsWhole) (arg10 : Memref sig .tc .vmem S1x1024x128 .f32) (harg10 : arg10.IsWhole) (arg11 : Memref sig .tc .vmem S1024x2048 .bf16) (harg11 : arg11.IsWhole) (hc0 : ¬First i)
    (x0 : Vec F S1x1024x2048 .f32) (x1 : Vec F S1x1x2048 .f32) (x2 : Vec F S1x1x2048 .f32) (x3 : Vec F S1024x2048 .f32) (x4 : Vec F S32x2048 .f32) (x5 : Vec F S1x128 .f32) (xs : Vec F S1024x2048 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay2 xs x3) ∗ owns (c : Thread nD τ) arg11 fullShare xs) -∗ K ⟨⟩))
          ⊢ wp frame (wpE (defs₀ (F := F)) Variants.none c none) E (cc0_inproj i arg3 harg3 arg4 harg4 arg5 harg5 arg6 harg6 arg7 harg7 arg8 harg8 arg9 harg9 arg10 harg10 arg11 harg11) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg6.eq_unread hf3; obtain rfl := harg11.eq_unread hfs0
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    refine (View.read_writes_full _ _ _ _ _).trans ?_
    exact congr (congrArg k0_pay2 ((View.readAt_full _ _ _).trans hfs0)) ((View.readAt_full _ _ _).trans hf3)
  iexists _; isplitr; · ipureintro; exact hfs0
  iexact HS0

end Cert.KernelIdeal.Inproj

end
-- ==== Proof.InprojRun.lean ====
/- The run of the input projection: the proof data of its pipeline, the body at every grid point, and the launch.

   The 88 points are 8 row blocks of 11 columns each. The normalized rows and the gate lanes are computed at a row
   block's first point (`start t`) and kept in place through its other ten. -/
module

public import proofs.«01_k».proof.Proof.InprojBody
public import Idealize.ShloMosaic.Lib.Pipeline.TableIdle
public import Idealize.ShloMosaic.Lib.Claim

@[expose] public section

set_option maxRecDepth 16384

noncomputable section

namespace Cert.KernelIdeal.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row block that position `n` is in. -/
def startAt (n : ℕ) (hn : n < cfg0.N) : Fin cfg0.N := ⟨n - n % 11, lt_of_le_of_lt (Nat.sub_le _ _) hn⟩

/-- The same of a point. -/
abbrev start (t : Fin cfg0.N) : Fin cfg0.N := startAt t.val t.isLt

theorem start_of_first (t : Fin cfg0.N) (h : t.val % 11 = 0) : start t = t := Fin.ext (by unfold start startAt; simp only; omega)

theorem startAt_pred (n : ℕ) (hn : n < cfg0.N) (h : ¬n % 11 = 0) : startAt (n - 1) (lt_of_le_of_lt (Nat.sub_le _ _) hn) = startAt n hn :=
  Fin.ext (by unfold startAt; simp only; omega)

/-- The rows kept after a point. -/
def rowsAt (c : Dev nD) (s : Fin cfg0.N) : Vec F S1024x2048 .bf16 := rows (iblk m c 0 s) (iblk m c 1 s) (iblk m c 2 s)

/-- The gate lanes kept after a point. -/
def lanesAt (c : Dev nD) (s : Fin cfg0.N) : Vec F S1x1024x128 .f32 := lanes (iblk m c 0 s) (iblk m c 1 s) (iblk m c 2 s) (iblk m c 4 s) (iblk m c 5 s)

/-- The invariant before position `n`: the scratch buffer at the rows kept after the point before. -/
def PhiS (c : Dev nD) : (n : ℕ) → n ≤ cfg0.N → sProp 𝕄
  | 0, _ => Pipeline.ΦA spec0 c
  | n + 1, hn => iprop(owns (c : Thread nD τ) (Memref.whole cc0_scratch0) fullShare (rowsAt m c (startAt n hn)) ∗ (∃ r, prngReg c r))

theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

theorem PhiS_pos (c : Dev nD) (n : ℕ) (h : n ≤ cfg0.N) (hz : n ≠ 0) :
    PhiS m c n h = iprop(owns (c : Thread nD τ) (Memref.whole cc0_scratch0) fullShare (rowsAt m c (startAt (n - 1) (by omega))) ∗ (∃ r, prngReg c r)) := by
  cases n with
  | zero => exact absurd rfl hz
  | succ n => rfl

/-- Whatever the position, the invariant gives the scratch buffer at some contents. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_pos m c _ _ (Nat.succ_ne_zero n), PhiA_eq]
    iintro ⟨HS0, Hg⟩
    isplitl [HS0]
    · iexists _; iexact HS0
    iexact Hg

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (rowsAt m c (start t)) (iblk m c 3 t)
    | ⟨7, _⟩ => lanesAt m c (start t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay2 (rowsAt m c (start t)) (iblk m c 3 t) := by dsimp only [dats]
theorem after_7 (c : Dev nD) (t : Fin cfg0.N) : (dats m 0 c).after 7 t = lanesAt m c (start t) := by dsimp only [dats]

/-- The gate lanes' buffer is left alone at every point but a row block's first, -/
theorem idle_7 (t : Fin cfg0.N) : cfg0.idle 7 (grid0.coords t) = !decide (t.val % 11 = 0) := by
  have h : cfg0.idle 7 (grid0.coords t) = !(k0_cond1 (grid0.coords t) == 1#1) := rfl
  have hc : k0_cond1 (grid0.coords t) = 1#1 ↔ t.val % 11 = 0 := first_iff t
  rw [h]
  by_cases h0 : t.val % 11 = 0
  · rw [hc.mpr h0, decide_eq_true h0]; rfl
  · rw [decide_eq_false h0, beq_eq_false_iff_ne.mpr (fun e => h0 (hc.mp e))]

/-- and written back at its last. -/
theorem flush_7 (t : Fin cfg0.N) : (cfg0.win 7).flush t = decide (t.val % 11 = 10) :=
  (by decide +kernel : ∀ t : Fin grid0.N, win0_7.flush t = decide (t.val % 11 = 10)) t

theorem fresh_7 : ∀ (n : ℕ) (_ : n < cfg0.N) (_ : ¬n % 11 = 0), cfg0.fresh 7 n = false
  | 0, _, h => absurd (Nat.zero_mod _) h
  | n + 1, hn, h => by
    have hn' : n < cfg0.N := Nat.lt_of_succ_lt hn
    rw [Cfg.fresh_succ cfg0 7 n hn', show cfg0.grid.coords ⟨n, hn'⟩ = grid0.coords ⟨n, hn'⟩ from rfl, idle_7 ⟨n, hn'⟩, flush_7 ⟨n, hn'⟩]
    by_cases h0 : n % 11 = 0
    · simp [h0]
    · rw [fresh_7 n hn' h0]; simp; omega

/-- So at a later point of a row block the body finds the row block's lanes there. -/
theorem before_7 (c : Dev nD) (t : Fin cfg0.N) (h : ¬t.val % 11 = 0) (d) : (dats m 0 c).before 7 t d = lanesAt m c (start t) := by
  have e := (dats m 0 c).before_out_traj 7 rfl (fun _ _ => rfl) (fun t ht hi _ => by
    have h1 : ¬t.val % 11 = 0 := fun h0 => by
      rw [show cfg0.grid.coords t = grid0.coords t from rfl, idle_7 t, decide_eq_true h0] at hi
      exact Bool.noConfusion hi
    rw [after_7, after_7]
    exact congrArg (lanesAt m c) (startAt_pred t.val t.isLt h1).symm) t.val t rfl d
  rw [e, fresh_7 t.val t.isLt h, after_7]
  exact congrArg (lanesAt m c) (startAt_pred t.val t.isLt h)

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a point -/

/-- Window `w`'s staging buffer at point `t`. -/
abbrev stg (w : Fin cfg0.W) (t : Fin cfg0.N) := (cfg0.win w).stage (cfg0.slots t w)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg 0 t) fullShare ((dats m 0 c).before 0 t d))
    ∗ (∃ d, owns (c : Thread nD τ) (stg 1 t) fullShare ((dats m 0 c).before 1 t d))
    ∗ (∃ d, owns (c : Thread nD τ) (stg 2 t) fullShare ((dats m 0 c).before 2 t d))
    ∗ (∃ d, owns (c : Thread nD τ) (stg 3 t) fullShare ((dats m 0 c).before 3 t d))
    ∗ (∃ d, owns (c : Thread nD τ) (stg 4 t) fullShare ((dats m 0 c).before 4 t d))
    ∗ (∃ d, owns (c : Thread nD τ) (stg 5 t) fullShare ((dats m 0 c).before 5 t d))
    ∗ (∃ d, owns (c : Thread nD τ) (stg 6 t) fullShare ((dats m 0 c).before 6 t d))
    ∗ (∃ d, owns (c : Thread nD τ) (stg 7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (stg 0 t) fullShare ((dats m 0 c).after 0 t)
    ∗ owns (c : Thread nD τ) (stg 1 t) fullShare ((dats m 0 c).after 1 t)
    ∗ owns (c : Thread nD τ) (stg 2 t) fullShare ((dats m 0 c).after 2 t)
    ∗ owns (c : Thread nD τ) (stg 3 t) fullShare ((dats m 0 c).after 3 t)
    ∗ owns (c : Thread nD τ) (stg 4 t) fullShare ((dats m 0 c).after 4 t)
    ∗ owns (c : Thread nD τ) (stg 5 t) fullShare ((dats m 0 c).after 5 t)
    ∗ owns (c : Thread nD τ) (stg 6 t) fullShare ((dats m 0 c).after 6 t)
    ∗ (dats m 0 c).leavesExact 7 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.succ = PhiS m c (t.val + 1) t.isLt from rfl, PhiS_pos m c _ _ (Nat.succ_ne_zero _), PhiS_castSucc m c t]
  have hs : startAt (t.val + 1 - 1) (by have := t.isLt; omega) = start t := rfl
  rw [hs]
  by_cases h0 : t.val % 11 = 0
  · have hl : (dats m 0 c).leavesExact 7 t = owns (c : Thread nD τ) (stg 7 t) fullShare (lanesAt m c t) := by
      unfold Dat.leavesExact
      rw [show cfg0.grid.coords t = grid0.coords t from rfl, idle_7 t, decide_eq_true h0, after_7, start_of_first t h0]; rfl
    rw [hl, start_of_first t h0]
    unfold rowsAt lanesAt
    refine (sep_mono_left (PhiS_any m c _ _)).trans ?_
    rw [PhiA_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ ((first_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h])
    have hl : owns (c : Thread nD τ) (stg 7 t) fullShare (lanesAt m c (start t)) ⊢ (dats m 0 c).leavesExact 7 t := by
      unfold Dat.leavesExact
      rw [show cfg0.grid.coords t = grid0.coords t from rfl, idle_7 t, decide_eq_false h0, after_7]
      cases (cfg0.win 7).flush t
      · show _ ⊢ iprop(∃ d, owns (c : Thread nD τ) (stg 7 t) fullShare ((dats m 0 c).before 7 t d))
        simp only [before_7 m c t h0]
        iintro H
        iexists lanesAt m c (start t)
        iexact H
      · exact Idealize.SL.BI.Entails.refl _
    rw [PhiS_pos m c _ _ hz, startAt_pred t.val t.isLt h0]
    simp only [before_7 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ (fun h => h0 ((first_iff t).mp h)) (iblk m c 0 t) (iblk m c 1 t) (iblk m c 2 t) (iblk m c 3 t) (iblk m c 4 t) (iblk m c 5 t) (rowsAt m c (start t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply hl
    iexact H7

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  dsimp only [dats]; exact PhiS_any m c _ _

/-! ## The launch -/

set_option backward.isDefEq.respectTransparency.types false in
/-- The run: every array of the pipeline ends at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Inproj

end
-- ==== Proof.InprojFrame.lean ====
/- The printed kernel's frame: its text is the idealized kernel's, so the idealized kernel's run is its run. -/
module

public import proofs.«01_k».proof.Proof.Gen.Kernel
public import proofs.«01_k».proof.Proof.InprojRun

@[expose] public section

set_option maxRecDepth 65536

noncomputable section

namespace Cert.Kernel.Inproj

open Cert.Kernel Cert.Kernel.Gen
open Idealize.ShloMosaic Idealize.ShloMosaic.TcCoe Idealize.SL.Sem

variable {F : FTy → Type} [FloatOps F]

theorem defs₀_eq : Cert.KernelIdeal.defs₀ (F := F) = Cert.Kernel.defs₀ (F := F) := by
  refine congrArg Defs.onTc ?_
  funext l a
  match l, a with
  | ⟨0, _⟩, (t, s) => rfl
  | ⟨_ + 1, h⟩, _ => exact absurd h (Nat.not_lt.2 (Nat.le_add_left _ _))

theorem defs_eq : Cert.KernelIdeal.defs (F := F) = Cert.Kernel.defs (F := F) :=
  congrArg (Pipeline.defs (Cert.KernelIdeal.pcfgs (F := F))) defs₀_eq

variable (m : (ℓ : Loc nD τ sig) → Buf (Elt F) ℓ) (ρ : Dev nD → PrngReg)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have h := Cert.KernelIdeal.Inproj.frame (F := F) m ρ
  rw [defs_eq] at h
  exact h

end Cert.Kernel.Inproj

end
-- ==== Proof.InprojCells.lean ====
/- The values the input projection's body computes, entry by entry over the extended reals. -/
module

public import proofs.«01_k».proof.Proof.InprojBody
public import Idealize.ShloMosaic.Lib.Pointwise

@[expose] public section

set_option maxRecDepth 16384

noncomputable section

namespace Cert.KernelIdeal.Inproj

open Cert.KernelIdeal Cert.KernelIdeal.Gen
open Idealize.ShloMosaic Idealize.ShloMosaic.TcCoe

/-- One entry of a normalized and modulated row: the row `x`, its gain and its shift, at column `k`. -/
def entry (x g s : Fin 2048 → EReal) (k : Fin 2048) : EReal :=
  x k * Ideal.rsqrt (Ideal.div (∑ j, x j * x j) (Ideal.ofBits .f32 1157627904#32) + Ideal.ofBits .f32 897988541#32) * g k + s k

theorem rows_apply (x : Vec Ideal S1x1024x2048 .f32) (g s : Vec Ideal S1x1x2048 .f32) (r : Fin 1024) (k : Fin 2048) :
    rows x g s (ix2 r k) = entry (fun k => x (ix3 0 r k)) (fun k => g (ix3 0 0 k)) (fun k => s (ix3 0 0 k)) k := by
  pointwise [k0_pay4, k0_pay3]
  rfl

theorem prod_apply (h : Vec Ideal S1024x2048 .bf16) (w : Vec Ideal S1024x2048 .f32) (r n : Fin 1024) :
    k0_pay2 h w (ix3 0 r n) = ∑ k : Fin 2048, h (ix2 r k) * w (ix2 n k) := by
  pointwise [k0_pay2]

theorem lanes_apply (x : Vec Ideal S1x1024x2048 .f32) (g s : Vec Ideal S1x1x2048 .f32) (wg : Vec Ideal S32x2048 .f32) (b : Vec Ideal S1x128 .f32) (r : Fin 1024) (n : Fin 128) :
    lanes x g s wg b (ix3 0 r n)
      = (if h : n.val < 32 then ∑ k : Fin 2048, entry (fun k => x (ix3 0 r k)) (fun k => g (ix3 0 0 k)) (fun k => s (ix3 0 0 k)) k * wg (ix2 ⟨n.val, h⟩ k) else 0)
        + b (ix2 0 n) := by
  pointwise [k0_pay1, k0_pay5, k0_pay3]
  rfl

end Cert.KernelIdeal.Inproj

end
-- ==== Proof.InprojValue.lean ====
/- The two arrays the input projection leaves, entry by entry, as functions of the arrays its windows stage. -/
module

public import proofs.«01_k».proof.Proof.InprojRun
public import proofs.«01_k».proof.Proof.InprojCells
public import Idealize.ShloMosaic.Lib.Pipeline.Value

@[expose] public section

set_option maxRecDepth 16384

noncomputable section

namespace Cert.KernelIdeal.Inproj

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Where each window's block lies -/

theorem idx_0 : ∀ t : Fin cfg0.N, win0_0.index t (0 : Fin 3) = t.val / 22 ∧ win0_0.index t (1 : Fin 3) = t.val / 11 % 2 ∧ win0_0.index t (2 : Fin 3) = 0 :=
  (by decide +kernel : ∀ t : Fin grid0.N, _)
theorem idx_1 : ∀ t : Fin cfg0.N, win0_1.index t (0 : Fin 3) = t.val / 22 ∧ win0_1.index t (1 : Fin 3) = 0 ∧ win0_1.index t (2 : Fin 3) = 0 :=
  (by decide +kernel : ∀ t : Fin grid0.N, _)
theorem idx_2 : ∀ t : Fin cfg0.N, win0_2.index t (0 : Fin 3) = t.val / 22 ∧ win0_2.index t (1 : Fin 3) = 0 ∧ win0_2.index t (2 : Fin 3) = 0 :=
  (by decide +kernel : ∀ t : Fin grid0.N, _)
theorem idx_3 : ∀ t : Fin cfg0.N, win0_3.index t (0 : Fin 2) = t.val % 11 * 1024 + (if 5 ≤ t.val % 11 then 32 else 0) ∧ win0_3.index t (1 : Fin 2) = 0 :=
  (by decide +kernel : ∀ t : Fin grid0.N, _)
theorem idx_4 : ∀ t : Fin cfg0.N, win0_4.index t (0 : Fin 2) = 160 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 3) = t.val / 22 ∧ win0_6.index t (1 : Fin 3) = t.val / 11 % 2 ∧ win0_6.index t (2 : Fin 3) = t.val % 11 :=
  (by decide +kernel : ∀ t : Fin grid0.N, _)
theorem idx_7 : ∀ t : Fin cfg0.N, win0_7.index t (0 : Fin 3) = t.val / 22 ∧ win0_7.index t (1 : Fin 3) = t.val / 11 % 2 ∧ win0_7.index t (2 : Fin 3) = 0 :=
  (by decide +kernel : ∀ t : Fin grid0.N, _)
theorem flush_6 : ∀ t : Fin cfg0.N, (cfg0.win 6).flush t = true :=
  (by decide +kernel : ∀ t : Fin grid0.N, win0_6.flush t = true)

theorem lt_88 (t : Fin cfg0.N) : t.val < 88 := lt_of_lt_of_eq t.isLt N_0

/-- The batch point `t` works on, and row `r` of its row block. -/
def batch (t : Fin cfg0.N) : Fin 4 := ⟨t.val / 22, by have := lt_88 t; omega⟩
def row (t : Fin cfg0.N) (r : Fin 1024) : Fin 2048 := ⟨t.val / 11 % 2 * 1024 + r.val, by have := r.isLt; omega⟩
/-- Column `n` of point `t`'s output block, among the 11264 columns, -/
def col (t : Fin cfg0.N) (n : Fin 1024) : Fin 11264 := ⟨t.val % 11 * 1024 + n.val, by have := n.isLt; omega⟩
/-- and the projection's row that makes a column: the 32 gate rows are skipped. -/
def wrow (n : Fin 11264) : Fin 11296 := ⟨n.val + (if 5120 ≤ n.val then 32 else 0), by have := n.isLt; split <;> omega⟩
/-- The projection's row of a gate. -/
def grow (n : Fin 32) : Fin 11296 := ⟨5120 + n.val, by have := n.isLt; omega⟩

theorem blk_0 (c : Dev nD) (t : Fin cfg0.N) (r : Fin 1024) (k : Fin 2048) :
    (iblk m c 0 t : Vec Ideal S1x1024x2048 .f32) (ix3 0 r k) = (V m c main_arg0 : Vec Ideal S4x2048x2048 .f32) (ix3 (batch t) (row t r) k) := by
  obtain ⟨e0, e1, e2⟩ := idx_0 t
  refine congrArg (V m c main_arg0 : Vec Ideal S4x2048x2048 .f32) (funext fun a => Fin.ext ?_)
  match a with
  | ⟨0, _⟩ => show win0_0.index t (0 : Fin 3) * 1 + 1 * 0 = t.val / 22; omega
  | ⟨1, _⟩ => show win0_0.index t (1 : Fin 3) * 1024 + 1 * r.val = t.val / 11 % 2 * 1024 + r.val; omega
  | ⟨2, _⟩ => show win0_0.index t (2 : Fin 3) * 2048 + 1 * k.val = k.val; omega

theorem blk_1 (c : Dev nD) (t : Fin cfg0.N) (k : Fin 2048) :
    (iblk m c 1 t : Vec Ideal S1x1x2048 .f32) (ix3 0 0 k) = (V m c main_v13 : Vec Ideal S4x1x2048 .f32) (ix3 (batch t) 0 k) := by
  obtain ⟨e0, e1, e2⟩ := idx_1 t
  refine congrArg (V m c main_v13 : Vec Ideal S4x1x2048 .f32) (funext fun a => Fin.ext ?_)
  match a with
  | ⟨0, _⟩ => show win0_1.index t (0 : Fin 3) * 1 + 1 * 0 = t.val / 22; omega
  | ⟨1, _⟩ => show win0_1.index t (1 : Fin 3) * 1 + 1 * 0 = 0; omega
  | ⟨2, _⟩ => show win0_1.index t (2 : Fin 3) * 2048 + 1 * k.val = k.val; omega

theorem blk_2 (c : Dev nD) (t : Fin cfg0.N) (k : Fin 2048) :
    (iblk m c 2 t : Vec Ideal S1x1x2048 .f32) (ix3 0 0 k) = (V m c main_arg1 : Vec Ideal S4x1x2048 .f32) (ix3 (batch t) 0 k) := by
  obtain ⟨e0, e1, e2⟩ := idx_2 t
  refine congrArg (V m c main_arg1 : Vec Ideal S4x1x2048 .f32) (funext fun a => Fin.ext ?_)
  match a with
  | ⟨0, _⟩ => show win0_2.index t (0 : Fin 3) * 1 + 1 * 0 = t.val / 22; omega
  | ⟨1, _⟩ => show win0_2.index t (1 : Fin 3) * 1 + 1 * 0 = 0; omega
  | ⟨2, _⟩ => show win0_2.index t (2 : Fin 3) * 2048 + 1 * k.val = k.val; omega

theorem blk_3 (c : Dev nD) (t : Fin cfg0.N) (n : Fin 1024) (k : Fin 2048) :
    (iblk m c 3 t : Vec Ideal S1024x2048 .f32) (ix2 n k) = (V m c main_v1 : Vec Ideal S11296x2048 .f32) (ix2 (wrow (col t n)) k) := by
  obtain ⟨e0, e1⟩ := idx_3 t
  have hn := n.isLt
  refine congrArg (V m c main_v1 : Vec Ideal S11296x2048 .f32) (funext fun a => Fin.ext ?_)
  match a with
  | ⟨0, _⟩ =>
    show win0_3.index t (0 : Fin 2) + 1 * n.val = t.val % 11 * 1024 + n.val + (if 5120 ≤ t.val % 11 * 1024 + n.val then 32 else 0)
    rw [e0]
    by_cases h : 5 ≤ t.val % 11
    · rw [if_pos h, if_pos (by omega)]; omega
    · rw [if_neg h, if_neg (by omega)]; omega
  | ⟨1, _⟩ => show win0_3.index t (1 : Fin 2) + 1 * k.val = k.val; omega

theorem blk_4 (c : Dev nD) (t : Fin cfg0.N) (n : Fin 32) (k : Fin 2048) :
    (iblk m c 4 t : Vec Ideal S32x2048 .f32) (ix2 n k) = (V m c main_v1 : Vec Ideal S11296x2048 .f32) (ix2 (grow n) k) := by
  obtain ⟨e0, e1⟩ := idx_4 t
  refine congrArg (V m c main_v1 : Vec Ideal S11296x2048 .f32) (funext fun a => Fin.ext ?_)
  match a with
  | ⟨0, _⟩ => show win0_4.index t (0 : Fin 2) * 32 + 1 * n.val = 5120 + n.val; omega
  | ⟨1, _⟩ => show win0_4.index t (1 : Fin 2) * 2048 + 1 * k.val = k.val; omega

theorem blk_5 (c : Dev nD) (t : Fin cfg0.N) (n : Fin 128) :
    (iblk m c 5 t : Vec Ideal S1x128 .f32) (ix2 0 n) = (V m c main_v7 : Vec Ideal S1x128 .f32) (ix2 0 n) := by
  obtain ⟨e0, e1⟩ := idx_5 t
  refine congrArg (V m c main_v7 : Vec Ideal S1x128 .f32) (funext fun a => Fin.ext ?_)
  match a with
  | ⟨0, _⟩ => show win0_5.index t (0 : Fin 2) * 1 + 1 * 0 = 0; omega
  | ⟨1, _⟩ => show win0_5.index t (1 : Fin 2) * 128 + 1 * n.val = n.val; omega

/-! ## The two arrays -/

/-- The normalized and modulated entry at batch `b`, row `r`, column `k`. -/
def hid (c : Dev nD) (b : Fin 4) (r k : Fin 2048) : EReal :=
  entry (fun k => (V m c main_arg0 : Vec Ideal S4x2048x2048 .f32) (ix3 b r k)) (fun k => (V m c main_v13 : Vec Ideal S4x1x2048 .f32) (ix3 b 0 k))
    (fun k => (V m c main_arg1 : Vec Ideal S4x1x2048 .f32) (ix3 b 0 k)) k

/-- The projected columns, -/
def G6 (c : Dev nD) : Vec Ideal S4x2048x11264 .bf16 := fun i =>
  ∑ k : Fin 2048, hid m c (i 0) (i 1) k * (V m c main_v1 : Vec Ideal S11296x2048 .f32) (ix2 (wrow (i 2)) k)

/-- and the gate lanes: the 32 gate columns and their bias, padded to 128. -/
def G7 (c : Dev nD) : Vec Ideal S4x2048x128 .f32 := fun i =>
  (if h : (i 2).val < 32 then ∑ k : Fin 2048, hid m c (i 0) (i 1) k * (V m c main_v1 : Vec Ideal S11296x2048 .f32) (ix2 (grow ⟨(i 2).val, h⟩) k) else 0)
    + (V m c main_v7 : Vec Ideal S1x128 .f32) (ix2 0 (i 2))

theorem start_batch (t : Fin cfg0.N) : batch (start t) = batch t :=
  Fin.ext (by show (t.val - t.val % 11) / 22 = t.val / 22; omega)
theorem start_row (t : Fin cfg0.N) (r : Fin 1024) : row (start t) r = row t r :=
  Fin.ext (by show (t.val - t.val % 11) / 11 % 2 * 1024 + r.val = t.val / 11 % 2 * 1024 + r.val; omega)

theorem entry_at (c : Dev nD) (t : Fin cfg0.N) (r : Fin 1024) (k : Fin 2048) :
    entry (fun k => (iblk m c 0 (start t) : Vec Ideal S1x1024x2048 .f32) (ix3 0 r k)) (fun k => (iblk m c 1 (start t) : Vec Ideal S1x1x2048 .f32) (ix3 0 0 k))
      (fun k => (iblk m c 2 (start t) : Vec Ideal S1x1x2048 .f32) (ix3 0 0 k)) k = hid m c (batch t) (row t r) k := by
  unfold hid
  simp only [blk_0, blk_1, blk_2, start_batch, start_row]

theorem flushed_6 (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after_6]
  obtain ⟨e0, e1, e2⟩ := idx_6 t
  funext y
  obtain ⟨r, n, rfl⟩ : ∃ (r : Fin 1024) (n : Fin 1024), y = ix3 (0 : Fin 1) r n := ⟨y 1, y 2, funext fun a => by
    match a with
    | ⟨0, _⟩ => exact Fin.ext (by have : (y 0).val < 1 := (y 0).isLt; show (y 0).val = 0; omega)
    | ⟨1, _⟩ => rfl
    | ⟨2, _⟩ => rfl⟩
  have he : ((cfg0.win 6).blk t).view.emb (ix3 (0 : Fin 1) r n) = ix3 (batch t) (row t r) (col t n) := by
    funext a; apply Fin.ext
    match a with
    | ⟨0, _⟩ => show win0_6.index t (0 : Fin 3) * 1 + 1 * 0 = t.val / 22; omega
    | ⟨1, _⟩ => show win0_6.index t (1 : Fin 3) * 1024 + 1 * r.val = t.val / 11 % 2 * 1024 + r.val; omega
    | ⟨2, _⟩ => show win0_6.index t (2 : Fin 3) * 1024 + 1 * n.val = t.val % 11 * 1024 + n.val; omega
  show k0_pay2 (rowsAt m c (start t)) (iblk m c 3 t) (ix3 0 r n) = G6 m c (((cfg0.win 6).blk t).view.emb (ix3 (0 : Fin 1) r n))
  rw [he]
  refine (prod_apply _ _ r n).trans ?_
  show _ = ∑ k : Fin 2048, hid m c (batch t) (row t r) k * (V m c main_v1 : Vec Ideal S11296x2048 .f32) (ix2 (wrow (col t n)) k)
  refine Finset.sum_congr rfl fun k _ => ?_
  rw [blk_3]
  congr 1
  exact (rows_apply _ _ _ r k).trans (entry_at m c t r k)

theorem flushed_7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after_7]
  obtain ⟨e0, e1, e2⟩ := idx_7 t
  funext y
  obtain ⟨r, n, rfl⟩ : ∃ (r : Fin 1024) (n : Fin 128), y = ix3 (0 : Fin 1) r n := ⟨y 1, y 2, funext fun a => by
    match a with
    | ⟨0, _⟩ => exact Fin.ext (by have : (y 0).val < 1 := (y 0).isLt; show (y 0).val = 0; omega)
    | ⟨1, _⟩ => rfl
    | ⟨2, _⟩ => rfl⟩
  have he : ((cfg0.win 7).blk t).view.emb (ix3 (0 : Fin 1) r n) = ix3 (batch t) (row t r) n := by
    funext a; apply Fin.ext
    match a with
    | ⟨0, _⟩ => show win0_7.index t (0 : Fin 3) * 1 + 1 * 0 = t.val / 22; omega
    | ⟨1, _⟩ => show win0_7.index t (1 : Fin 3) * 1024 + 1 * r.val = t.val / 11 % 2 * 1024 + r.val; omega
    | ⟨2, _⟩ => show win0_7.index t (2 : Fin 3) * 128 + 1 * n.val = n.val; omega
  show lanesAt m c (start t) (ix3 0 r n) = G7 m c (((cfg0.win 7).blk t).view.emb (ix3 (0 : Fin 1) r n))
  rw [he]
  unfold lanesAt
  refine (lanes_apply _ _ _ _ _ r n).trans ?_
  show _ = (if h : n.val < 32 then ∑ k : Fin 2048, hid m c (batch t) (row t r) k * (V m c main_v1 : Vec Ideal S11296x2048 .f32) (ix2 (grow ⟨n.val, h⟩) k) else 0)
    + (V m c main_v7 : Vec Ideal S1x128 .f32) (ix2 0 n)
  rw [blk_5]
  simp only [entry_at, blk_4]

theorem cover_6 (i : S4x2048x11264.Idx) : ∃ t : Fin cfg0.N, (cfg0.win 6).flush t = true ∧ i ∈ ((cfg0.win 6).blk t).view.set := by
  have h0 : (i 0).val < 4 := (i 0).isLt
  have h1 : (i 1).val < 2048 := (i 1).isLt
  have h2 : (i 2).val < 11264 := (i 2).isLt
  let t : Fin cfg0.N := ⟨22 * (i 0).val + 11 * ((i 1).val / 1024) + (i 2).val / 1024, lt_of_lt_of_eq (by omega) N_0.symm⟩
  have ht : t.val = 22 * (i 0).val + 11 * ((i 1).val / 1024) + (i 2).val / 1024 := rfl
  obtain ⟨e0, e1, e2⟩ := idx_6 t
  refine ⟨t, flush_6 t, ?_⟩
  show i ∈ ((View.whole main_v14_0).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 1024 ≤ (i 2).val ∧ (i 2).val < win0_6.index t (2 : Fin 3) * 1024 + 1024; omega

theorem cover_7 (i : S4x2048x128.Idx) : ∃ t : Fin cfg0.N, (cfg0.win 7).flush t = true ∧ i ∈ ((cfg0.win 7).blk t).view.set := by
  have h0 : (i 0).val < 4 := (i 0).isLt
  have h1 : (i 1).val < 2048 := (i 1).isLt
  have h2 : (i 2).val < 128 := (i 2).isLt
  let t : Fin cfg0.N := ⟨22 * (i 0).val + 11 * ((i 1).val / 1024) + 10, lt_of_lt_of_eq (by omega) N_0.symm⟩
  have ht : t.val = 22 * (i 0).val + 11 * ((i 1).val / 1024) + 10 := rfl
  obtain ⟨e0, e1, e2⟩ := idx_7 t
  refine ⟨t, by rw [flush_7]; exact decide_eq_true (by omega), ?_⟩
  show i ∈ ((View.whole main_v14_1).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 128 ≤ (i 2).val ∧ (i 2).val < win0_7.index t (2 : Fin 3) * 128 + 128; omega

theorem final_6 (c : Dev nD) : (dats m 0 c).arrAt 6 cfg0.N = G6 m c :=
  (dats m 0 c).arrAt_eq_of_cover 6 _ (fun t _ => flushed_6 m c t) cover_6
theorem final_7 (c : Dev nD) : (dats m 0 c).arrAt 7 cfg0.N = G7 m c :=
  (dats m 0 c).arrAt_eq_of_cover 7 _ (fun t _ => flushed_7 m c t) cover_7

/-- The run with both results named. -/
theorem run : θ_run defs (onTc (τ := τ) (main (F := Ideal))) ⟨m, fun _ => 0, ρ⟩ (fun r => ∀ c : Dev nD,
      r.2.mem ((c.tc : Thread nD τ).loc main_v14_0) = G6 m c ∧ r.2.mem ((c.tc : Thread nD τ).loc main_v14_1) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (final_6 m c), ((h.1 c).1 7).trans (final_7 m c), (h.2.1 c)⟩)
    (θ_run_and (run_main m ρ) (frame m ρ))

end Cert.KernelIdeal.Inproj

end
-- ==== Proof.InprojHost.lean ====
/- What the host code before the input projection leaves in the arrays its windows stage. -/
module

public import proofs.«01_k».proof.Proof.Gen.KernelIdeal.Frame
public import Idealize.ShloMosaic.Lib.Pointwise
public import Idealize.ShloMosaic.Lib.Routing.OpsPair
public import Idealize.ShloMosaic.Lib.Routing.OpsSet

@[expose] public section

set_option maxRecDepth 16384

noncomputable section

namespace Cert.KernelIdeal.Inproj

open Cert.KernelIdeal Cert.KernelIdeal.Gen
open Idealize.ShloMosaic Idealize.ShloMosaic.TcCoe

variable {F : FTy → Type} [FloatOps F]

/-! ## What the host code computes -/

/-- The projection, transposed. -/
def weights (w : Vec F S1x2048x11296 .f32) : Vec F S11296x2048 .f32 :=
  transpose S11296x2048 [1, 0] (shapeCast S2048x11296 w shapeCasts_S1x2048x11296_S2048x11296) transposes_S2048x11296_S11296x2048_1_0

/-- The norm's gain times one plus the scale. -/
def gain (g : Vec F S1x2048 .f32) (z : Vec F S4x1x2048 .f32) : Vec F S4x1x2048 .f32 :=
  mulf (broadcastInDim S4x1x2048 ![0, 1, 2] bcast_S1x1x2048_S4x1x2048_0_1_2 (broadcastInDim S1x1x2048 ![2] bcast_S2048_S1x1x2048_2
      (shapeCast S2048 g shapeCasts_S1x2048_S2048)))
    (addf (broadcastInDim S4x1x2048 ![] bcast_S_S4x1x2048 (constant S_ .f32 0x3F800000#32)) z)

/-- The position the gates' bias is stored at: row 0, lane 0. -/
def corner : IVec S2 32 :=
  concatenate S2 0 [⟨S1, broadcastInDim S1 ![] bcast_S_S1 (constantI S_ 32 0#32)⟩, ⟨S1, broadcastInDim S1 ![] bcast_S_S1 (constantI S_ 32 0#32)⟩] concatenates_S1_S1_S2_d0

/-- The gates' bias, padded to 128 lanes. -/
def bias (b : Vec F S1x32 .f32) : Vec F S1x128 .f32 :=
  Host.scatter scatter_S1x128_S2_S32_0_0_01_0 (fun _ b => b) (broadcastInDim S1x128 ![] bcast_S_S1x128 (constant S_ .f32 0x00000000#32 : FVec F S_ .f32)) corner
    (shapeCast S32 b shapeCasts_S1x32_S32)

section
variable (m : (ℓ : Loc nD τ sig) → Buf (Elt F) ℓ)

theorem V_weights (c : Dev nD) : V m c main_v1 = weights (m ((c.tc : Thread nD τ).loc main_arg4)) := by
  show StableHlo.after hostOps0 _ _ = _
  after_results_simp
  rfl

theorem V_gain (c : Dev nD) : V m c main_v13 = gain (m ((c.tc : Thread nD τ).loc main_arg3)) (m ((c.tc : Thread nD τ).loc main_arg2)) := by
  show StableHlo.after hostOps0 _ _ = _
  after_results_simp
  rfl

theorem V_bias (c : Dev nD) : V m c main_v7 = bias (m ((c.tc : Thread nD τ).loc main_arg5)) := by
  show StableHlo.after hostOps0 _ _ = _
  after_results_simp
  rfl
end

/-! ## Entry by entry -/

theorem weights_apply (w : Vec Ideal S1x2048x11296 .f32) (n : Fin 11296) (k : Fin 2048) : weights w (ix2 n k) = w (ix3 0 k n) := by
  pointwise [weights]

theorem gain_apply (g : Vec Ideal S1x2048 .f32) (z : Vec Ideal S4x1x2048 .f32) (b : Fin 4) (k : Fin 2048) :
    gain g z (ix3 b 0 k) = g (ix2 0 k) * (Ideal.ofBits .f32 0x3F800000#32 + z (ix3 b 0 k)) := by
  pointwise [gain]

theorem corner_zero (j : S2.Idx) : corner j = 0#32 := by
  obtain ⟨i, rfl⟩ : ∃ i : Fin 2, j = ix1 i := ⟨j 0, by funext a; match a with | ⟨0, _⟩ => rfl⟩
  fin_cases i <;> rfl

theorem start_zero (k : S32.Idx) (a : Fin 2) : scatter_S1x128_S2_S32_0_0_01_0.start k corner a = 0 := by
  unfold ScatterDims.start
  split
  · rw [corner_zero]; rfl
  · rfl

theorem lands (k : Fin 32) (n : Fin 128) :
    scatter_S1x128_S2_S32_0_0_01_0.resultIdx? (ix1 k) corner = some (ix2 0 n) ↔ k.val = n.val := by
  rw [Routing.resultIdx?_eq_some]
  constructor
  · intro h
    have h1 := h 1
    rw [start_zero] at h1
    have h2 : (scatter_S1x128_S2_S32_0_0_01_0.window (ix1 k) 1 : Int) = (k.val : Int) := rfl
    have h3 : ((ix2 (0 : Fin 1) n (1 : Fin 2)).val : Int) = (n.val : Int) := rfl
    rw [h2] at h1
    have h4 : (0 : Int) + (k.val : Int) = (n.val : Int) := h1
    omega
  · intro h a
    rw [start_zero]
    match a with
    | ⟨0, _⟩ => rfl
    | ⟨1, _⟩ => show (0 : Int) + (k.val : Int) = (n.val : Int); omega

/-- The 32 gates' bias, then zeros. -/
theorem bias_apply (w : Vec Ideal S1x32 .f32) (n : Fin 128) :
    bias w (ix2 0 n) = if h : n.val < 32 then w (ix2 0 ⟨n.val, h⟩) else Ideal.ofBits .f32 0x00000000#32 := by
  have hk : ∀ k : S32.Idx, ∃ i : Fin 32, k = ix1 i := fun k => ⟨k 0, by funext a; match a with | ⟨0, _⟩ => rfl⟩
  by_cases h : n.val < 32
  · rw [dif_pos h]
    refine Routing.scatter_set_hit _ _ _ _ _ _ (fun k e => ?_) (ix1 ⟨n.val, h⟩) ((lands _ _).mpr rfl)
    obtain ⟨i, rfl⟩ := hk k
    obtain rfl : i = ⟨n.val, h⟩ := Fin.ext ((lands _ _).mp e)
    pointwise []
  · rw [dif_neg h]
    refine (Routing.scatter_set_miss _ _ _ _ _ fun k e => ?_).trans ?_
    · obtain ⟨i, rfl⟩ := hk k
      exact h ((lands _ _).mp e ▸ i.isLt)
    · rfl

end Cert.KernelIdeal.Inproj

end
-- ==== Proof.InprojRef.lean ====
/- The reference's two results, entry by entry. -/
module

public import proofs.«01_k».proof.Proof.Gen.ReferenceIdeal.Run
public import Idealize.ShloMosaic.Lib.Pointwise

@[expose] public section

set_option maxRecDepth 16384

noncomputable section

namespace Cert.ReferenceIdeal.Inproj

open Cert.ReferenceIdeal Cert.ReferenceIdeal.Gen Cert.ReferenceIdeal.Value
open Idealize.ShloMosaic Idealize.ShloMosaic.TcCoe Idealize.SL.Sem

variable {F : FTy → Type} [FloatOps F]

/-- The normalized and modulated rows, -/
def hidden (x : Vec F S4x2048x2048 .f32) (sh sc : Vec F S4x1x2048 .f32) (g : Vec F S1x2048 .f32) : Vec F S4x2048x2048 .f32 :=
  addf (mulf (mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast S2048 g shapeCasts_S1x2048_S2048)))) (broadcastInDim S4x2048x2048 ![0, 1, 2] bcast_S4x1x2048_S4x2048x2048_0_1_2 (addf (broadcastInDim S4x1x2048 ![] bcast_S_S4x1x2048 (constant S_ .f32 0x3F800000#32)) sc))) (broadcastInDim S4x2048x2048 ![0, 1, 2] bcast_S4x1x2048_S4x2048x2048_0_1_2 sh)

/-- their projection, -/
def project (h : Vec F S4x2048x2048 .f32) (w : Vec F S1x2048x11296 .f32) : Vec F S4x2048x11296 .f32 :=
  Host.dotGeneral dot_S4x2048x2048_S2048x11296_S4x2048x11296_2_0_01_1_n_n none h (shapeCast S2048x11296 w shapeCasts_S1x2048x11296_S2048x11296)

/-- its columns but the gates', -/
def columns (p : Vec F S4x2048x11296 .f32) : Vec F S4x2048x11264 .bf16 :=
  truncf .bf16 (fn_main_v36 (F := F)
    (extractStridedSlice S4x2048x1024 ![0, 0, 0] p slices_S4x2048x11296_S4x2048x1024_0_0_0)
    (extractStridedSlice S4x2048x1024 ![0, 0, 1024] p slices_S4x2048x11296_S4x2048x1024_0_0_1024)
    (extractStridedSlice S4x2048x1024 ![0, 0, 2048] p slices_S4x2048x11296_S4x2048x1024_0_0_2048)
    (extractStridedSlice S4x2048x1024 ![0, 0, 3072] p slices_S4x2048x11296_S4x2048x1024_0_0_3072)
    (extractStridedSlice S4x2048x1024 ![0, 0, 4096] p slices_S4x2048x11296_S4x2048x1024_0_0_4096)
    (extractStridedSlice S4x2048x1024 ![0, 0, 5152] p slices_S4x2048x11296_S4x2048x1024_0_0_5152)
    (extractStridedSlice S4x2048x1024 ![0, 0, 6176] p slices_S4x2048x11296_S4x2048x1024_0_0_6176)
    (extractStridedSlice S4x2048x2048 ![0, 0, 7200] p slices_S4x2048x11296_S4x2048x2048_0_0_7200)
    (extractStridedSlice S4x2048x2048 ![0, 0, 9248] p slices_S4x2048x11296_S4x2048x2048_0_0_9248)) bitsLt_bf16_f32

/-- and the gates with their bias, padded to 128 lanes. -/
def gates (p : Vec F S4x2048x11296 .f32) (b : Vec F S1x32 .f32) : Vec F S4x2048x128 .f32 :=
  fn_main_v38 (F := F) (addf (extractStridedSlice S4x2048x32 ![0, 0, 5120] p slices_S4x2048x11296_S4x2048x32_0_0_5120)
      (broadcastInDim S4x2048x32 ![0, 1, 2] bcast_S1x1x32_S4x2048x32_0_1_2 (broadcastInDim S1x1x32 ![2] bcast_S32_S1x1x32_2 (shapeCast S32 b shapeCasts_S1x32_S32))))
    (broadcastInDim S4x2048x96 ![] bcast_S_S4x2048x96 (constant S_ .f32 0x00000000#32))

theorem hidden_apply (x : Vec Ideal S4x2048x2048 .f32) (sh sc : Vec Ideal S4x1x2048 .f32) (g : Vec Ideal S1x2048 .f32) (b : Fin 4) (r k : Fin 2048) :
    hidden x sh sc g (ix3 b r k)
      = x (ix3 b r k) * Ideal.rsqrt (Ideal.div (∑ j, x (ix3 b r j) * x (ix3 b r j)) (Ideal.ofBits .f32 1157627904#32) + Ideal.ofBits .f32 897988541#32)
          * g (ix2 0 k) * (Ideal.ofBits .f32 0x3F800000#32 + sc (ix3 b 0 k)) + sh (ix3 b 0 k) := by
  pointwise [hidden]

theorem project_apply (h : Vec Ideal S4x2048x2048 .f32) (w : Vec Ideal S1x2048x11296 .f32) (b : Fin 4) (r : Fin 2048) (n : Fin 11296) :
    project h w (ix3 b r n) = ∑ k : Fin 2048, h (ix3 b r k) * w (ix3 0 k n) := by
  pointwise [project]

theorem columns_apply (p : Vec Ideal S4x2048x11296 .f32) (b : Fin 4) (r : Fin 2048) (n : Fin 11264) :
    columns p (ix3 b r n) = p (ix3 b r ⟨n.val + (if 5120 ≤ n.val then 32 else 0), by have := n.isLt; split <;> omega⟩) := by
  generalize hq : (⟨n.val + (if 5120 ≤ n.val then 32 else 0), _⟩ : Fin 11296) = q
  have hv : q.val = n.val + (if 5120 ≤ n.val then 32 else 0) := by rw [← hq]
  clear hq
  have hn := n.isLt
  pointwise [columns, fn_main_v36]
  have leaf : ∀ a : Fin 11296, a.val = q.val → p (ix3 b r a) = p (ix3 b r q) := fun a e => congrArg (fun q => p (ix3 b r q)) (Fin.ext e)
  by_cases h0 : n.val < 1024
  · refine (dif_pos h0).trans (leaf _ ?_); show n.val = q.val; rw [hv]; split <;> omega
  refine (dif_neg h0).trans ?_
  by_cases h1 : n.val - 1024 < 1024
  · refine (dif_pos h1).trans (leaf _ ?_); show 1024 + (n.val - 1024) = q.val; rw [hv]; split <;> omega
  refine (dif_neg h1).trans ?_
  by_cases h2 : n.val - 1024 - 1024 < 1024
  · refine (dif_pos h2).trans (leaf _ ?_); show 2048 + (n.val - 1024 - 1024) = q.val; rw [hv]; split <;> omega
  refine (dif_neg h2).trans ?_
  by_cases h3 : n.val - 1024 - 1024 - 1024 < 1024
  · refine (dif_pos h3).trans (leaf _ ?_); show 3072 + (n.val - 1024 - 1024 - 1024) = q.val; rw [hv]; split <;> omega
  refine (dif_neg h3).trans ?_
  by_cases h4 : n.val - 1024 - 1024 - 1024 - 1024 < 1024
  · refine (dif_pos h4).trans (leaf _ ?_); show 4096 + (n.val - 1024 - 1024 - 1024 - 1024) = q.val; rw [hv]; split <;> omega
  refine (dif_neg h4).trans ?_
  by_cases h5 : n.val - 1024 - 1024 - 1024 - 1024 - 1024 < 1024
  · refine (dif_pos h5).trans (leaf _ ?_); show 5152 + (n.val - 1024 - 1024 - 1024 - 1024 - 1024) = q.val; rw [hv]; split <;> omega
  refine (dif_neg h5).trans ?_
  by_cases h6 : n.val - 1024 - 1024 - 1024 - 1024 - 1024 - 1024 < 1024
  · refine (dif_pos h6).trans (leaf _ ?_); show 6176 + (n.val - 1024 - 1024 - 1024 - 1024 - 1024 - 1024) = q.val; rw [hv]; split <;> omega
  refine (dif_neg h6).trans ?_
  by_cases h7 : n.val - 1024 - 1024 - 1024 - 1024 - 1024 - 1024 - 1024 < 2048
  · refine (dif_pos h7).trans (leaf _ ?_); show 7200 + (n.val - 1024 - 1024 - 1024 - 1024 - 1024 - 1024 - 1024) = q.val; rw [hv]; split <;> omega
  refine (dif_neg h7).trans ?_
  refine leaf _ ?_; show 9248 + (n.val - 1024 - 1024 - 1024 - 1024 - 1024 - 1024 - 1024 - 2048) = q.val; rw [hv]; split <;> omega

theorem gates_apply (p : Vec Ideal S4x2048x11296 .f32) (w : Vec Ideal S1x32 .f32) (b : Fin 4) (r : Fin 2048) (n : Fin 128) :
    gates p w (ix3 b r n) = if h : n.val < 32 then p (ix3 b r ⟨5120 + n.val, by omega⟩) + w (ix2 0 ⟨n.val, h⟩) else 0 := by
  pointwise [gates, fn_main_v38]

section
variable (m : (ℓ : Loc nD τ sig) → Buf (Elt F) ℓ) (ρ : Dev nD → PrngReg)

/-- The projection of the arguments. -/
def proj (c : Dev nD) : Vec F S4x2048x11296 .f32 :=
  project (hidden (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg4))

theorem run : θ_run defs (onTc (τ := τ) (main (F := F))) ⟨m, fun _ => 0, ρ⟩ fun r => ∀ c : Dev nD,
      r.2.mem ((c.tc : Thread nD τ).loc main_v39) = columns (proj m c)
      ∧ r.2.mem ((c.tc : Thread nD τ).loc main_v38) = gates (proj m c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by unfold res_main_v39 columns proj project hidden fn_main_v36; rfl),
    (h c).2.1.trans (by unfold gates proj project hidden fn_main_v38; rfl), (h c).2.2⟩) (Value.run m ρ)
end

end Cert.ReferenceIdeal.Inproj

end
-- ==== Proof.InprojEquation.lean ====
/- The input projection and its reference leave the same two arrays. -/
module

public import proofs.«01_k».proof.Proof.InprojValue
public import proofs.«01_k».proof.Proof.InprojHost
public import proofs.«01_k».proof.Proof.InprojRef

@[expose] public section

set_option maxRecDepth 16384

noncomputable section

namespace Cert.Inproj

open Idealize.ShloMosaic Idealize.ShloMosaic.TcCoe Idealize.SL.Sem

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

open KernelIdeal in
/-- The kernel's normalized entry of the arguments is the reference's. -/
theorem hid_eq (c : Dev nD) (b : Fin 4) (r k : Fin 2048) :
    KernelIdeal.Inproj.hid m c b r k
      = ReferenceIdeal.Inproj.hidden (m ((c.tc : Thread nD τ).loc main_arg0)) (m ((c.tc : Thread nD τ).loc main_arg1)) (m ((c.tc : Thread nD τ).loc main_arg2))
          (m ((c.tc : Thread nD τ).loc main_arg3)) (ix3 b r k) := by
  unfold KernelIdeal.Inproj.hid KernelIdeal.Inproj.entry
  rw [KernelIdeal.Inproj.V_gain, KernelIdeal.Gen.V_main_arg0, KernelIdeal.Gen.V_main_arg1]
  refine Eq.trans ?_ (ReferenceIdeal.Inproj.hidden_apply _ _ _ _ b r k).symm
  dsimp only
  rw [KernelIdeal.Inproj.gain_apply]
  simp only [mul_assoc]

open KernelIdeal in
/-- The kernel's product of a row with one of the projection's rows is the reference's entry. -/
theorem dot_eq (c : Dev nD) (b : Fin 4) (r : Fin 2048) (n : Fin 11296) :
    ∑ k : Fin 2048, KernelIdeal.Inproj.hid m c b r k * (KernelIdeal.Gen.V m c main_v1 : Vec Ideal S11296x2048 .f32) (ix2 n k)
      = ReferenceIdeal.Inproj.project (ReferenceIdeal.Inproj.hidden (m ((c.tc : Thread nD τ).loc main_arg0)) (m ((c.tc : Thread nD τ).loc main_arg1)) (m ((c.tc : Thread nD τ).loc main_arg2))
          (m ((c.tc : Thread nD τ).loc main_arg3))) (m ((c.tc : Thread nD τ).loc main_arg4)) (ix3 b r n) := by
  refine Eq.trans ?_ (ReferenceIdeal.Inproj.project_apply _ _ b r n).symm
  refine Finset.sum_congr rfl fun k _ => ?_
  rw [hid_eq, KernelIdeal.Inproj.V_weights]
  exact congrArg _ (KernelIdeal.Inproj.weights_apply _ n k)

/-- The arguments of the two programs are the same. -/
def Agree : Prop := ∀ c : Dev KernelIdeal.nD,
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)

variable {m m'}

open KernelIdeal in
theorem proj_eq (h : Agree m m') (c : Dev nD) (b : Fin 4) (r : Fin 2048) (n : Fin 11296) :
    ReferenceIdeal.Inproj.proj m' c (ix3 b r n)
      = ∑ k : Fin 2048, KernelIdeal.Inproj.hid m c b r k * (KernelIdeal.Gen.V m c main_v1 : Vec Ideal S11296x2048 .f32) (ix2 n k) := by
  obtain ⟨h0, h1, h2, h3, h4, h5⟩ := h c
  rw [dot_eq]
  unfold ReferenceIdeal.Inproj.proj
  rw [h0, h1, h2, h3, h4]

theorem columns_eq (h : Agree m m') (c : Dev KernelIdeal.nD) :
    ReferenceIdeal.Inproj.columns (ReferenceIdeal.Inproj.proj m' c) = KernelIdeal.Inproj.G6 m c := by
  funext i
  obtain ⟨b, r, n, rfl⟩ : ∃ (b : Fin 4) (r : Fin 2048) (n : Fin 11264), i = ix3 b r n := ⟨i 0, i 1, i 2, eq_ix3 i⟩
  exact (ReferenceIdeal.Inproj.columns_apply _ b r n).trans (proj_eq h c b r _)

theorem gates_eq (h : Agree m m') (c : Dev KernelIdeal.nD) :
    ReferenceIdeal.Inproj.gates (ReferenceIdeal.Inproj.proj m' c) (m' ((c.tc : Thread ReferenceIdeal.nD ReferenceIdeal.τ).loc ReferenceIdeal.main_arg5))
      = KernelIdeal.Inproj.G7 m c := by
  obtain ⟨h0, h1, h2, h3, h4, h5⟩ := h c
  funext i
  obtain ⟨b, r, n, rfl⟩ : ∃ (b : Fin 4) (r : Fin 2048) (n : Fin 128), i = ix3 b r n := ⟨i 0, i 1, i 2, eq_ix3 i⟩
  refine (ReferenceIdeal.Inproj.gates_apply _ _ b r n).trans ?_
  unfold KernelIdeal.Inproj.G7
  show _ = (if h : n.val < 32 then _ else _) + _
  rw [KernelIdeal.Inproj.V_bias]
  have hb := KernelIdeal.Inproj.bias_apply (m ((c.tc : Thread KernelIdeal.nD KernelIdeal.τ).loc KernelIdeal.main_arg5)) n
  by_cases hn : n.val < 32
  · rw [dif_pos hn, dif_pos hn]
    rw [dif_pos hn] at hb
    refine congrArg₂ (· + ·) (proj_eq h c b r _) ?_
    refine Eq.trans ?_ hb.symm
    rw [h5]
  · rw [dif_neg hn, dif_neg hn]
    rw [dif_neg hn] at hb
    refine Eq.trans ?_ (congrArg (fun z : EReal => 0 + z) hb.symm)
    show (0 : EReal) = 0 + Ideal.ofBits .f32 0x00000000#32
    simp

end Cert.Inproj

end
-- ==== Proof.FinalValue.lean ====
/- The array the final norm leaves, entry by entry, as a function of the arrays its windows stage. -/
module

public import proofs.«01_k».proof.Proof.Gen.Kernel3Ideal.Value
public import Idealize.ShloMosaic.Lib.Pointwise
public import Idealize.ShloMosaic.Lib.Pipeline.ValueKit.Basic

@[expose] public section

set_option maxRecDepth 16384

noncomputable section

namespace Cert.Kernel3Ideal.Final

open Cert.Kernel3Ideal Cert.Kernel3Ideal.Gen
open Idealize.ShloMosaic Idealize.ShloMosaic.TcCoe Idealize.SL.Sem
open Idealize.ShloMosaic.Pipeline (Dat)

/-- One entry of a normalized row `x`, at column `k`, by the gain `g`. -/
def entry (x g : Fin 2048 → EReal) (k : Fin 2048) : EReal :=
  x k * Ideal.rsqrt (Ideal.div (∑ j, x j * x j) (Ideal.ofBits .f32 0x45000000#32) + Ideal.ofBits .f32 0x358637BD#32) * g k

theorem pay_apply (rt : Vec Ideal S1x512x128 .f32) (y0 y1 : Vec Ideal S512x2048 .f32) (x : Vec Ideal S1x512x2048 .f32) (g2 : Vec Ideal S1x1x2048 .f32)
    (fg : Vec Ideal S1x2048 .f32) (r : Fin 512) (k : Fin 2048) :
    k0_pay1 rt y0 y1 x g2 fg (ix3 0 r k)
      = entry (fun k => x (ix3 0 r k) + g2 (ix3 0 0 k) * (rt (ix3 0 r 2) * y0 (ix2 r k) + rt (ix3 0 r 3) * y1 (ix2 r k))) (fun k => fg (ix2 0 k)) k := by
  pointwise [k0_pay1]
  rfl

variable (m : (ℓ : Loc nD τ sig) → Buf (Elt Ideal) ℓ) (ρ : Dev nD → PrngReg)

/-! ## Where each window's block lies -/

theorem idx_0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = 16 + t.val ∧ win0_2.index t (1 : Fin 2) = 0 :=
  (by decide +kernel : ∀ t : Fin grid0.N, _)
theorem idx_3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)
theorem idx_4 : ∀ t : Fin cfg0.N, win0_4.index t (0 : Fin 3) = t.val / 4 ∧ win0_4.index t (1 : Fin 3) = 0 ∧ win0_4.index t (2 : Fin 3) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 3) = t.val / 4 ∧ win0_6.index t (1 : Fin 3) = t.val % 4 ∧ win0_6.index t (2 : Fin 3) = 0 :=
  (by decide +kernel : ∀ t : Fin grid0.N, _)
theorem flush_6 : ∀ t : Fin cfg0.N, (cfg0.win 6).flush t = true :=
  (by decide +kernel : ∀ t : Fin grid0.N, win0_6.flush t = true)

theorem lt_16 (t : Fin cfg0.N) : t.val < 16 := lt_of_lt_of_eq t.isLt N_0

/-- The batch point `t` works on, and row `r` of its row block. -/
def batch (t : Fin cfg0.N) : Fin 4 := ⟨t.val / 4, by have := lt_16 t; omega⟩
def row (t : Fin cfg0.N) (r : Fin 512) : Fin 2048 := ⟨t.val % 4 * 512 + r.val, by have := r.isLt; omega⟩

/-- The row of the experts' results that holds a token's first expert, and its second. -/
def first (b : Fin 4) (r : Fin 2048) : Fin 16384 := ⟨b.val * 2048 + r.val, by have := b.isLt; have := r.isLt; omega⟩
def second (b : Fin 4) (r : Fin 2048) : Fin 16384 := ⟨8192 + (b.val * 2048 + r.val), by have := b.isLt; have := r.isLt; omega⟩

theorem blk_0 (c : Dev nD) (t : Fin cfg0.N) (r : Fin 512) (k : Fin 2048) :
    (iblk m c 0 t : Vec Ideal S1x512x2048 .f32) (ix3 0 r k) = (V m c main_arg0 : Vec Ideal S4x2048x2048 .f32) (ix3 (batch t) (row t r) k) := by
  obtain ⟨e0, e1, e2⟩ := idx_0 t
  refine congrArg (V m c main_arg0 : Vec Ideal S4x2048x2048 .f32) (funext fun a => Fin.ext ?_)
  match a with
  | ⟨0, _⟩ => show win0_0.index t (0 : Fin 3) * 1 + 1 * 0 = t.val / 4; omega
  | ⟨1, _⟩ => show win0_0.index t (1 : Fin 3) * 512 + 1 * r.val = t.val % 4 * 512 + r.val; omega
  | ⟨2, _⟩ => show win0_0.index t (2 : Fin 3) * 2048 + 1 * k.val = k.val; omega

theorem blk_1 (c : Dev nD) (t : Fin cfg0.N) (r : Fin 512) (k : Fin 2048) :
    (iblk m c 1 t : Vec Ideal S512x2048 .f32) (ix2 r k) = (V m c main_arg1 : Vec Ideal S16384x2048 .f32) (ix2 (first (batch t) (row t r)) k) := by
  obtain ⟨e0, e1⟩ := idx_1 t
  refine congrArg (V m c main_arg1 : Vec Ideal S16384x2048 .f32) (funext fun a => Fin.ext ?_)
  match a with
  | ⟨0, _⟩ => show win0_1.index t (0 : Fin 2) * 512 + 1 * r.val = t.val / 4 * 2048 + (t.val % 4 * 512 + r.val); omega
  | ⟨1, _⟩ => show win0_1.index t (1 : Fin 2) * 2048 + 1 * k.val = k.val; omega

theorem blk_2 (c : Dev nD) (t : Fin cfg0.N) (r : Fin 512) (k : Fin 2048) :
    (iblk m c 2 t : Vec Ideal S512x2048 .f32) (ix2 r k) = (V m c main_arg1 : Vec Ideal S16384x2048 .f32) (ix2 (second (batch t) (row t r)) k) := by
  obtain ⟨e0, e1⟩ := idx_2 t
  refine congrArg (V m c main_arg1 : Vec Ideal S16384x2048 .f32) (funext fun a => Fin.ext ?_)
  match a with
  | ⟨0, _⟩ => show win0_2.index t (0 : Fin 2) * 512 + 1 * r.val = 8192 + (t.val / 4 * 2048 + (t.val % 4 * 512 + r.val)); omega
  | ⟨1, _⟩ => show win0_2.index t (1 : Fin 2) * 2048 + 1 * k.val = k.val; omega

theorem blk_3 (c : Dev nD) (t : Fin cfg0.N) (r : Fin 512) (k : Fin 128) :
    (iblk m c 3 t : Vec Ideal S1x512x128 .f32) (ix3 0 r k) = (V m c main_arg2 : Vec Ideal S4x2048x128 .f32) (ix3 (batch t) (row t r) k) := by
  obtain ⟨e0, e1, e2⟩ := idx_3 t
  refine congrArg (V m c main_arg2 : Vec Ideal S4x2048x128 .f32) (funext fun a => Fin.ext ?_)
  match a with
  | ⟨0, _⟩ => show win0_3.index t (0 : Fin 3) * 1 + 1 * 0 = t.val / 4; omega
  | ⟨1, _⟩ => show win0_3.index t (1 : Fin 3) * 512 + 1 * r.val = t.val % 4 * 512 + r.val; omega
  | ⟨2, _⟩ => show win0_3.index t (2 : Fin 3) * 128 + 1 * k.val = k.val; omega

theorem blk_4 (c : Dev nD) (t : Fin cfg0.N) (k : Fin 2048) :
    (iblk m c 4 t : Vec Ideal S1x1x2048 .f32) (ix3 0 0 k) = (V m c main_arg3 : Vec Ideal S4x1x2048 .f32) (ix3 (batch t) 0 k) := by
  obtain ⟨e0, e1, e2⟩ := idx_4 t
  refine congrArg (V m c main_arg3 : Vec Ideal S4x1x2048 .f32) (funext fun a => Fin.ext ?_)
  match a with
  | ⟨0, _⟩ => show win0_4.index t (0 : Fin 3) * 1 + 1 * 0 = t.val / 4; omega
  | ⟨1, _⟩ => show win0_4.index t (1 : Fin 3) * 1 + 1 * 0 = 0; omega
  | ⟨2, _⟩ => show win0_4.index t (2 : Fin 3) * 2048 + 1 * k.val = k.val; omega

theorem blk_5 (c : Dev nD) (t : Fin cfg0.N) (k : Fin 2048) :
    (iblk m c 5 t : Vec Ideal S1x2048 .f32) (ix2 0 k) = (V m c main_v0 : Vec Ideal S1x2048 .f32) (ix2 0 k) := by
  obtain ⟨e0, e1⟩ := idx_5 t
  refine congrArg (V m c main_v0 : Vec Ideal S1x2048 .f32) (funext fun a => Fin.ext ?_)
  match a with
  | ⟨0, _⟩ => show win0_5.index t (0 : Fin 2) * 1 + 1 * 0 = 0; omega
  | ⟨1, _⟩ => show win0_5.index t (1 : Fin 2) * 2048 + 1 * k.val = k.val; omega

/-! ## The array -/

/-- The residual stream after the experts: batch `b`, row `r`, column `k`. -/
def stream (x : Vec Ideal S4x2048x2048 .f32) (y : Vec Ideal S16384x2048 .f32) (rt : Vec Ideal S4x2048x128 .f32) (g2 : Vec Ideal S4x1x2048 .f32)
    (b : Fin 4) (r k : Fin 2048) : EReal :=
  x (ix3 b r k) + g2 (ix3 b 0 k) * (rt (ix3 b r 2) * y (ix2 (first b r) k) + rt (ix3 b r 3) * y (ix2 (second b r) k))

/-- The normalized rows of it. -/
def normed (x : Vec Ideal S4x2048x2048 .f32) (y : Vec Ideal S16384x2048 .f32) (rt : Vec Ideal S4x2048x128 .f32) (g2 : Vec Ideal S4x1x2048 .f32)
    (g : Fin 2048 → EReal) : Vec Ideal S4x2048x2048 .f32 := fun i => entry (stream x y rt g2 (i 0) (i 1)) g (i 2)

/-- What the call leaves. -/
def G (c : Dev nD) : Vec Ideal S4x2048x2048 .f32 :=
  normed (V m c main_arg0) (V m c main_arg1) (V m c main_arg2) (V m c main_arg3) (fun k => (V m c main_v0 : Vec Ideal S1x2048 .f32) (ix2 0 k))

theorem flushed_6 (c : Dev nD) (t : Fin cfg0.N) :
    (dats m 0 c).flushed 6 t = ((cfg0.win 6).blk t).view.read (Elt Ideal) (G m c) := by
  rw [Value.flushed6]
  obtain ⟨e0, e1, e2⟩ := idx_6 t
  funext y
  obtain ⟨r, n, rfl⟩ : ∃ (r : Fin 512) (n : Fin 2048), y = ix3 (0 : Fin 1) r n := ⟨y 1, y 2, funext fun a => by
    match a with
    | ⟨0, _⟩ => exact Fin.ext (by have : (y 0).val < 1 := (y 0).isLt; show (y 0).val = 0; omega)
    | ⟨1, _⟩ => rfl
    | ⟨2, _⟩ => rfl⟩
  have he : ((cfg0.win 6).blk t).view.emb (ix3 (0 : Fin 1) r n) = ix3 (batch t) (row t r) n := by
    funext a; apply Fin.ext
    match a with
    | ⟨0, _⟩ => show win0_6.index t (0 : Fin 3) * 1 + 1 * 0 = t.val / 4; omega
    | ⟨1, _⟩ => show win0_6.index t (1 : Fin 3) * 512 + 1 * r.val = t.val % 4 * 512 + r.val; omega
    | ⟨2, _⟩ => show win0_6.index t (2 : Fin 3) * 2048 + 1 * n.val = n.val; omega
  show out0_6 _ _ _ _ _ _ (ix3 (0 : Fin 1) r n) = G m c (((cfg0.win 6).blk t).view.emb (ix3 (0 : Fin 1) r n))
  rw [he]
  refine (show _ = k0_pay1 (iblk m c 3 t) (iblk m c 1 t) (iblk m c 2 t) (iblk m c 0 t) (iblk m c 4 t) (iblk m c 5 t) (ix3 0 r n) from ?_).trans ?_
  · unfold out0_6 r0_0 r0_1 r0_2 r0_3 r0_4
    rw [View.canon_cons_unit_lit _ _ _ (by decide), View.ld_unit_lit _ _ (by decide), View.ld_unit_lit _ _ (by decide), View.ld_unit_lit _ _ (by decide),
      View.ld_unit_lit _ _ (by decide), View.ld_unit_lit _ _ (by decide), View.ld_unit_lit _ _ (by decide)]
  refine (pay_apply _ _ _ _ _ _ r n).trans ?_
  show _ = entry (stream (V m c main_arg0) (V m c main_arg1) (V m c main_arg2) (V m c main_arg3) (batch t) (row t r)) (fun k => (V m c main_v0 : Vec Ideal S1x2048 .f32) (ix2 0 k)) n
  simp only [blk_0, blk_1, blk_2, blk_3, blk_4, blk_5]
  rfl

theorem cover_6 (i : S4x2048x2048.Idx) : ∃ t : Fin cfg0.N, (cfg0.win 6).flush t = true ∧ i ∈ ((cfg0.win 6).blk t).view.set := by
  have h0 : (i 0).val < 4 := (i 0).isLt
  have h1 : (i 1).val < 2048 := (i 1).isLt
  have h2 : (i 2).val < 2048 := (i 2).isLt
  let t : Fin cfg0.N := ⟨4 * (i 0).val + (i 1).val / 512, lt_of_lt_of_eq (by omega) N_0.symm⟩
  have ht : t.val = 4 * (i 0).val + (i 1).val / 512 := rfl
  obtain ⟨e0, e1, e2⟩ := idx_6 t
  refine ⟨t, flush_6 t, ?_⟩
  show i ∈ ((View.whole main_v1).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 2048 ≤ (i 2).val ∧ (i 2).val < win0_6.index t (2 : Fin 3) * 2048 + 2048; omega

theorem final (c : Dev nD) : (dats m 0 c).arrAt 6 cfg0.N = G m c :=
  (dats m 0 c).arrAt_eq_of_cover 6 _ (fun t _ => flushed_6 m c t) cover_6

theorem V_gain (c : Dev nD) (k : Fin 2048) : (V m c main_v0 : Vec Ideal S1x2048 .f32) (ix2 0 k) = (m ((c.tc : Thread nD τ).loc main_arg4) : Vec Ideal S2048 .f32) (ix1 k) := by
  have h : V m c main_v0 = (broadcastInDim S1x2048 ![1] bcast_S2048_S1x2048_1 (m ((c.tc : Thread nD τ).loc main_arg4) : Vec Ideal S2048 .f32) : Vec Ideal S1x2048 .f32) := by
    show StableHlo.after hostOps0 _ _ = _
    after_results_simp
  rw [h]
  pointwise []

/-- The run with its result named. -/
theorem run : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (final m c), (h c).2⟩) (Value.run_blocks m ρ)

end Cert.Kernel3Ideal.Final

end
-- ==== Proof.FinalEquation.lean ====
/- The final norm's reference entry by entry, and that the call leaves the same array. -/
module

public import proofs.«01_k».proof.Proof.FinalValue
public import proofs.«01_k».proof.Proof.Gen.Reference3Ideal.Run

@[expose] public section

set_option maxRecDepth 16384

noncomputable section

open Idealize.ShloMosaic Idealize.ShloMosaic.TcCoe Idealize.SL.Sem

namespace Cert.Reference3Ideal.Final

open Cert.Reference3Ideal Cert.Reference3Ideal.Gen Cert.Reference3Ideal.Value

variable {F : FTy → Type} [FloatOps F]

/-- Every token's two weights, -/
def weights (rt : Vec F S4x2048x128 .f32) : Vec F S8192x2 .f32 :=
  shapeCast S8192x2 (extractStridedSlice S4x2048x2 ![0, 0, 2] rt slices_S4x2048x128_S4x2048x2_0_0_2) shapeCasts_S4x2048x2_S8192x2

/-- its experts' results added by them, -/
def mixed (y : Vec F S16384x2048 .f32) (rt : Vec F S4x2048x128 .f32) : Vec F S8192x2048 .f32 :=
  addf (mulf (broadcastInDim S8192x2048 ![0, 1] bcast_S8192x1_S8192x2048_0_1 (extractStridedSlice S8192x1 ![0, 0] (weights rt) slices_S8192x2_S8192x1_0_0))
      (extractStridedSlice S8192x2048 ![0, 0] y slices_S16384x2048_S8192x2048_0_0))
    (mulf (broadcastInDim S8192x2048 ![0, 1] bcast_S8192x1_S8192x2048_0_1 (extractStridedSlice S8192x1 ![0, 1] (weights rt) slices_S8192x2_S8192x1_0_1))
      (extractStridedSlice S8192x2048 ![8192, 0] y slices_S16384x2048_S8192x2048_8192_0))

/-- the residual stream with that added, -/
def resid (x : Vec F S4x2048x2048 .f32) (y : Vec F S16384x2048 .f32) (rt : Vec F S4x2048x128 .f32) (g2 : Vec F S4x1x2048 .f32) : Vec F S4x2048x2048 .f32 :=
  addf x (mulf (broadcastInDim S4x2048x2048 ![0, 1, 2] bcast_S4x1x2048_S4x2048x2048_0_1_2 g2) (shapeCast S4x2048x2048 (mixed y rt) shapeCasts_S8192x2048_S4x2048x2048))

/-- and the rows of a stream normalized. -/
def norm (x : Vec F S4x2048x2048 .f32) (g : Vec F S2048 .f32) : Vec F S4x2048x2048 .f32 :=
  mulf (mulf x (broadcastInDim S4x2048x2048 ![0, 1, 2] bcast_S4x2048x1_S4x2048x2048_0_1_2
      (Host.rsqrt (addf (Host.divf (broadcastInDim S4x2048x1 ![0, 1] bcast_S4x2048_S4x2048x1_0_1
          (Host.reduceAdd (mulf x x) (constant S_ .f32 0x00000000#32) reducesTo_S4x2048x2048_S4x2048_d2 h_S_))
          (broadcastInDim S4x2048x1 ![] bcast_S_S4x2048x1 (constant S_ .f32 0x45000000#32)))
        (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2 g))

theorem mixed_apply (y : Vec Ideal S16384x2048 .f32) (rt : Vec Ideal S4x2048x128 .f32) (b : Fin 4) (r k : Fin 2048) (q : Fin 8192) (hq : q.val = b.val * 2048 + r.val) :
    mixed y rt (ix2 q k)
      = rt (ix3 b r 2) * y (ix2 ⟨b.val * 2048 + r.val, by have := b.isLt; have := r.isLt; omega⟩ k)
        + rt (ix3 b r 3) * y (ix2 ⟨8192 + (b.val * 2048 + r.val), by have := b.isLt; have := r.isLt; omega⟩ k) := by
  have hb := b.isLt
  have hr := r.isLt
  have e0 : (⟨q.val / 2048, by have := q.isLt; omega⟩ : Fin 4) = b := Fin.ext (by show q.val / 2048 = b.val; omega)
  have e1 : (⟨q.val % 2048, by omega⟩ : Fin 2048) = r := Fin.ext (by show q.val % 2048 = r.val; omega)
  pointwise [mixed, weights]
  simp only [e0, e1]
  simp only [hq]

theorem resid_apply (x : Vec Ideal S4x2048x2048 .f32) (y : Vec Ideal S16384x2048 .f32) (rt : Vec Ideal S4x2048x128 .f32) (g2 : Vec Ideal S4x1x2048 .f32)
    (b : Fin 4) (r k : Fin 2048) : resid x y rt g2 (ix3 b r k) = Kernel3Ideal.Final.stream x y rt g2 b r k := by
  have hb := b.isLt
  have hr := r.isLt
  refine (show resid x y rt g2 (ix3 b r k) = x (ix3 b r k) + g2 (ix3 b 0 k) * mixed y rt (ix2 ⟨b.val * 2048 + r.val, by omega⟩ k) from ?_).trans ?_
  · pointwise [resid]
  rw [mixed_apply y rt b r k _ rfl]
  rfl

theorem norm_apply (x : Vec Ideal S4x2048x2048 .f32) (g : Vec Ideal S2048 .f32) (b : Fin 4) (r k : Fin 2048) :
    norm x g (ix3 b r k) = Kernel3Ideal.Final.entry (fun j => x (ix3 b r j)) (fun k => g (ix1 k)) k := by
  pointwise [norm, Kernel3Ideal.Final.entry]

/-- The reference leaves the normalized rows of the stream. -/
theorem norm_resid (x : Vec Ideal S4x2048x2048 .f32) (y : Vec Ideal S16384x2048 .f32) (rt : Vec Ideal S4x2048x128 .f32) (g2 : Vec Ideal S4x1x2048 .f32)
    (g : Vec Ideal S2048 .f32) : norm (resid x y rt g2) g = Kernel3Ideal.Final.normed x y rt g2 (fun k => g (ix1 k)) := by
  funext i
  obtain ⟨b, r, n, rfl⟩ : ∃ (b : Fin 4) (r : Fin 2048) (n : Fin 2048), i = ix3 b r n := ⟨i 0, i 1, i 2, eq_ix3 i⟩
  refine (norm_apply _ _ b r n).trans ?_
  simp only [resid_apply]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = norm (resid (m ((c.tc : Thread nD τ).loc main_arg0)) (m ((c.tc : Thread nD τ).loc main_arg1))
          (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by unfold norm resid mixed weights; rfl), (h c).2⟩) (Value.run m ρ)

end Cert.Reference3Ideal.Final

namespace Cert.Final

variable {m : (ℓ : Loc Kernel3Ideal.nD Kernel3Ideal.τ Kernel3Ideal.sig) → Buf (Elt Ideal) ℓ}

open Kernel3Ideal in
/-- The call's array as a function of the arguments. -/
theorem G_eq (c : Dev nD) : Kernel3Ideal.Final.G m c
    = Reference3Ideal.Final.norm (Reference3Ideal.Final.resid (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg4)) := by
  refine Eq.trans ?_ (Reference3Ideal.Final.norm_resid _ _ _ _ _).symm
  unfold Kernel3Ideal.Final.G
  rw [funext (Kernel3Ideal.Final.V_gain m c)]
  rw [Kernel3Ideal.Gen.V_main_arg0, Kernel3Ideal.Gen.V_main_arg1, Kernel3Ideal.Gen.V_main_arg2, Kernel3Ideal.Gen.V_main_arg3]

end Cert.Final

end
-- ==== Proof.OutprojBlocks.lean ====
/- Where the output projection's windows read their blocks. -/
module

public import proofs.«01_k».proof.Proof.Gen.Kernel2Ideal.Value
public import Idealize.ShloMosaic.Lib.Pointwise

@[expose] public section

set_option maxRecDepth 16384

noncomputable section

namespace Cert.Kernel2Ideal.Outproj

open Cert.Kernel2Ideal Cert.Kernel2Ideal.Gen
open Idealize.ShloMosaic Idealize.ShloMosaic.TcCoe Idealize.SL.Sem

theorem idx_0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx_1 : ∀ t : Fin cfg0.N, win0_1.index t (0 : Fin 3) = t.val / 8 ∧ win0_1.index t (1 : Fin 3) = t.val % 8 ∧ win0_1.index t (2 : Fin 3) = 0 :=
  (by decide +kernel : ∀ t : Fin grid0.N, _)
theorem idx_2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)
theorem idx_3 : ∀ t : Fin cfg0.N, win0_3.index t (0 : Fin 3) = t.val / 8 ∧ win0_3.index t (1 : Fin 3) = t.val % 8 ∧ win0_3.index t (2 : Fin 3) = 6 :=
  (by decide +kernel : ∀ t : Fin grid0.N, _)
theorem idx_4 : ∀ t : Fin cfg0.N, win0_4.index t (0 : Fin 3) = t.val / 8 ∧ win0_4.index t (1 : Fin 3) = t.val % 8 ∧ win0_4.index t (2 : Fin 3) = 7 :=
  (by decide +kernel : ∀ t : Fin grid0.N, _)
theorem idx_5 : ∀ t : Fin cfg0.N, win0_5.index t (0 : Fin 3) = t.val / 8 ∧ win0_5.index t (1 : Fin 3) = t.val % 8 ∧ win0_5.index t (2 : Fin 3) = 8 :=
  (by decide +kernel : ∀ t : Fin grid0.N, _)
theorem idx_6 : ∀ t : Fin cfg0.N, win0_6.index t (0 : Fin 3) = t.val / 8 ∧ win0_6.index t (1 : Fin 3) = t.val % 8 ∧ win0_6.index t (2 : Fin 3) = 9 :=
  (by decide +kernel : ∀ t : Fin grid0.N, _)
theorem idx_7 : ∀ t : Fin cfg0.N, win0_7.index t (0 : Fin 3) = t.val / 8 ∧ win0_7.index t (1 : Fin 3) = t.val % 8 ∧ win0_7.index t (2 : Fin 3) = 10 :=
  (by decide +kernel : ∀ t : Fin grid0.N, _)
theorem idx_8 : ∀ t : Fin cfg0.N, win0_8.index t (0 : Fin 3) = t.val / 8 ∧ win0_8.index t (1 : Fin 3) = t.val % 8 ∧ win0_8.index t (2 : Fin 3) = 0 :=
  (by decide +kernel : ∀ t : Fin grid0.N, _)
theorem idx_9 : ∀ t : Fin cfg0.N, win0_9.index t (0 : Fin 3) = t.val / 8 ∧ win0_9.index t (1 : Fin 3) = 0 ∧ win0_9.index t (2 : Fin 3) = 0 :=
  (by decide +kernel : ∀ t : Fin grid0.N, _)
theorem idx_10 : ∀ t : Fin cfg0.N, win0_10.index t (0 : Fin 3) = t.val / 8 ∧ win0_10.index t (1 : Fin 3) = 0 ∧ win0_10.index t (2 : Fin 3) = 0 :=
  (by decide +kernel : ∀ t : Fin grid0.N, _)
theorem idx_11 : ∀ t : Fin cfg0.N, win0_11.index t (0 : Fin 3) = t.val / 8 ∧ win0_11.index t (1 : Fin 3) = 0 ∧ win0_11.index t (2 : Fin 3) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 3) = t.val / 8 ∧ win0_16.index t (1 : Fin 3) = t.val % 8 ∧ win0_16.index t (2 : Fin 3) = 0 :=
  (by decide +kernel : ∀ t : Fin grid0.N, _)
theorem idx_17 : ∀ t : Fin cfg0.N, win0_17.index t (0 : Fin 2) = t.val ∧ win0_17.index t (1 : Fin 2) = 0 :=
  (by decide +kernel : ∀ t : Fin grid0.N, _)
theorem idx_18 : ∀ t : Fin cfg0.N, win0_18.index t (0 : Fin 3) = t.val / 8 ∧ win0_18.index t (1 : Fin 3) = t.val % 8 ∧ win0_18.index t (2 : Fin 3) = 0 :=
  (by decide +kernel : ∀ t : Fin grid0.N, _)
theorem flush_16 : ∀ t : Fin cfg0.N, (cfg0.win 16).flush t = true :=
  (by decide +kernel : ∀ t : Fin grid0.N, win0_16.flush t = true)
theorem flush_17 : ∀ t : Fin cfg0.N, (cfg0.win 17).flush t = true :=
  (by decide +kernel : ∀ t : Fin grid0.N, win0_17.flush t = true)
theorem flush_18 : ∀ t : Fin cfg0.N, (cfg0.win 18).flush t = true :=
  (by decide +kernel : ∀ t : Fin grid0.N, win0_18.flush t = true)

theorem lt_32 (t : Fin cfg0.N) : t.val < 32 := lt_of_lt_of_eq t.isLt N_0

/-- The batch point `t` works on, and row `r` of its row block. -/
def batch (t : Fin cfg0.N) : Fin 4 := ⟨t.val / 8, by have := lt_32 t; omega⟩
def row (t : Fin cfg0.N) (r : Fin 256) : Fin 2048 := ⟨t.val % 8 * 256 + r.val, by have := r.isLt; omega⟩

variable (m : (ℓ : Loc nD τ sig) → Buf (Elt Ideal) ℓ)

theorem blk_0 (c : Dev nD) (t : Fin cfg0.N) (r : Fin 256) (k : Fin 1024) :
    (iblk m c 0 t : Vec Ideal S1x256x1024 .bf16) (ix3 0 r k) = (V m c main_arg0 : Vec Ideal S4x2048x1024 .bf16) (ix3 (batch t) (row t r) k) := by
  obtain ⟨e0, e1, e2⟩ := idx_0 t
  refine congrArg (V m c main_arg0 : Vec Ideal S4x2048x1024 .bf16) (funext fun a => Fin.ext ?_)
  match a with
  | ⟨0, _⟩ => show win0_0.index t (0 : Fin 3) * 1 + 1 * 0 = t.val / 8; omega
  | ⟨1, _⟩ => show win0_0.index t (1 : Fin 3) * 256 + 1 * r.val = t.val % 8 * 256 + r.val; omega
  | ⟨2, _⟩ => show win0_0.index t (2 : Fin 3) * 1024 + 1 * k.val = k.val; omega

theorem blk_1 (c : Dev nD) (t : Fin cfg0.N) (r : Fin 256) (k : Fin 1024) :
    (iblk m c 1 t : Vec Ideal S1x256x1024 .bf16) (ix3 0 r k) = (V m c main_arg1 : Vec Ideal S4x2048x1024 .bf16) (ix3 (batch t) (row t r) k) := by
  obtain ⟨e0, e1, e2⟩ := idx_1 t
  refine congrArg (V m c main_arg1 : Vec Ideal S4x2048x1024 .bf16) (funext fun a => Fin.ext ?_)
  match a with
  | ⟨0, _⟩ => show win0_1.index t (0 : Fin 3) * 1 + 1 * 0 = t.val / 8; omega
  | ⟨1, _⟩ => show win0_1.index t (1 : Fin 3) * 256 + 1 * r.val = t.val % 8 * 256 + r.val; omega
  | ⟨2, _⟩ => show win0_1.index t (2 : Fin 3) * 1024 + 1 * k.val = k.val; omega

theorem blk_2 (c : Dev nD) (t : Fin cfg0.N) (r : Fin 256) (k : Fin 1024) :
    (iblk m c 2 t : Vec Ideal S1x256x1024 .bf16) (ix3 0 r k) = (V m c main_arg2 : Vec Ideal S4x2048x1024 .bf16) (ix3 (batch t) (row t r) k) := by
  obtain ⟨e0, e1, e2⟩ := idx_2 t
  refine congrArg (V m c main_arg2 : Vec Ideal S4x2048x1024 .bf16) (funext fun a => Fin.ext ?_)
  match a with
  | ⟨0, _⟩ => show win0_2.index t (0 : Fin 3) * 1 + 1 * 0 = t.val / 8; omega
  | ⟨1, _⟩ => show win0_2.index t (1 : Fin 3) * 256 + 1 * r.val = t.val % 8 * 256 + r.val; omega
  | ⟨2, _⟩ => show win0_2.index t (2 : Fin 3) * 1024 + 1 * k.val = k.val; omega

theorem blk_3 (c : Dev nD) (t : Fin cfg0.N) (r : Fin 256) (k : Fin 1024) :
    (iblk m c 3 t : Vec Ideal S1x256x1024 .bf16) (ix3 0 r k) = (V m c main_arg3 : Vec Ideal S4x2048x11264 .bf16) (ix3 (batch t) (row t r) ⟨6144 + k.val, by have := k.isLt; omega⟩) := by
  obtain ⟨e0, e1, e2⟩ := idx_3 t
  refine congrArg (V m c main_arg3 : Vec Ideal S4x2048x11264 .bf16) (funext fun a => Fin.ext ?_)
  match a with
  | ⟨0, _⟩ => show win0_3.index t (0 : Fin 3) * 1 + 1 * 0 = t.val / 8; omega
  | ⟨1, _⟩ => show win0_3.index t (1 : Fin 3) * 256 + 1 * r.val = t.val % 8 * 256 + r.val; omega
  | ⟨2, _⟩ => show win0_3.index t (2 : Fin 3) * 1024 + 1 * k.val = 6144 + k.val; omega

theorem blk_4 (c : Dev nD) (t : Fin cfg0.N) (r : Fin 256) (k : Fin 1024) :
    (iblk m c 4 t : Vec Ideal S1x256x1024 .bf16) (ix3 0 r k) = (V m c main_arg3 : Vec Ideal S4x2048x11264 .bf16) (ix3 (batch t) (row t r) ⟨7168 + k.val, by have := k.isLt; omega⟩) := by
  obtain ⟨e0, e1, e2⟩ := idx_4 t
  refine congrArg (V m c main_arg3 : Vec Ideal S4x2048x11264 .bf16) (funext fun a => Fin.ext ?_)
  match a with
  | ⟨0, _⟩ => show win0_4.index t (0 : Fin 3) * 1 + 1 * 0 = t.val / 8; omega
  | ⟨1, _⟩ => show win0_4.index t (1 : Fin 3) * 256 + 1 * r.val = t.val % 8 * 256 + r.val; omega
  | ⟨2, _⟩ => show win0_4.index t (2 : Fin 3) * 1024 + 1 * k.val = 7168 + k.val; omega

theorem blk_5 (c : Dev nD) (t : Fin cfg0.N) (r : Fin 256) (k : Fin 1024) :
    (iblk m c 5 t : Vec Ideal S1x256x1024 .bf16) (ix3 0 r k) = (V m c main_arg3 : Vec Ideal S4x2048x11264 .bf16) (ix3 (batch t) (row t r) ⟨8192 + k.val, by have := k.isLt; omega⟩) := by
  obtain ⟨e0, e1, e2⟩ := idx_5 t
  refine congrArg (V m c main_arg3 : Vec Ideal S4x2048x11264 .bf16) (funext fun a => Fin.ext ?_)
  match a with
  | ⟨0, _⟩ => show win0_5.index t (0 : Fin 3) * 1 + 1 * 0 = t.val / 8; omega
  | ⟨1, _⟩ => show win0_5.index t (1 : Fin 3) * 256 + 1 * r.val = t.val % 8 * 256 + r.val; omega
  | ⟨2, _⟩ => show win0_5.index t (2 : Fin 3) * 1024 + 1 * k.val = 8192 + k.val; omega

theorem blk_6 (c : Dev nD) (t : Fin cfg0.N) (r : Fin 256) (k : Fin 1024) :
    (iblk m c 6 t : Vec Ideal S1x256x1024 .bf16) (ix3 0 r k) = (V m c main_arg3 : Vec Ideal S4x2048x11264 .bf16) (ix3 (batch t) (row t r) ⟨9216 + k.val, by have := k.isLt; omega⟩) := by
  obtain ⟨e0, e1, e2⟩ := idx_6 t
  refine congrArg (V m c main_arg3 : Vec Ideal S4x2048x11264 .bf16) (funext fun a => Fin.ext ?_)
  match a with
  | ⟨0, _⟩ => show win0_6.index t (0 : Fin 3) * 1 + 1 * 0 = t.val / 8; omega
  | ⟨1, _⟩ => show win0_6.index t (1 : Fin 3) * 256 + 1 * r.val = t.val % 8 * 256 + r.val; omega
  | ⟨2, _⟩ => show win0_6.index t (2 : Fin 3) * 1024 + 1 * k.val = 9216 + k.val; omega

theorem blk_7 (c : Dev nD) (t : Fin cfg0.N) (r : Fin 256) (k : Fin 1024) :
    (iblk m c 7 t : Vec Ideal S1x256x1024 .bf16) (ix3 0 r k) = (V m c main_arg3 : Vec Ideal S4x2048x11264 .bf16) (ix3 (batch t) (row t r) ⟨10240 + k.val, by have := k.isLt; omega⟩) := by
  obtain ⟨e0, e1, e2⟩ := idx_7 t
  refine congrArg (V m c main_arg3 : Vec Ideal S4x2048x11264 .bf16) (funext fun a => Fin.ext ?_)
  match a with
  | ⟨0, _⟩ => show win0_7.index t (0 : Fin 3) * 1 + 1 * 0 = t.val / 8; omega
  | ⟨1, _⟩ => show win0_7.index t (1 : Fin 3) * 256 + 1 * r.val = t.val % 8 * 256 + r.val; omega
  | ⟨2, _⟩ => show win0_7.index t (2 : Fin 3) * 1024 + 1 * k.val = 10240 + k.val; omega

theorem blk_8 (c : Dev nD) (t : Fin cfg0.N) (r : Fin 256) (k : Fin 2048) :
    (iblk m c 8 t : Vec Ideal S1x256x2048 .f32) (ix3 0 r k) = (V m c main_arg4 : Vec Ideal S4x2048x2048 .f32) (ix3 (batch t) (row t r) k) := by
  obtain ⟨e0, e1, e2⟩ := idx_8 t
  refine congrArg (V m c main_arg4 : Vec Ideal S4x2048x2048 .f32) (funext fun a => Fin.ext ?_)
  match a with
  | ⟨0, _⟩ => show win0_8.index t (0 : Fin 3) * 1 + 1 * 0 = t.val / 8; omega
  | ⟨1, _⟩ => show win0_8.index t (1 : Fin 3) * 256 + 1 * r.val = t.val % 8 * 256 + r.val; omega
  | ⟨2, _⟩ => show win0_8.index t (2 : Fin 3) * 2048 + 1 * k.val = k.val; omega

theorem blk_9 (c : Dev nD) (t : Fin cfg0.N) (k : Fin 2048) :
    (iblk m c 9 t : Vec Ideal S1x1x2048 .f32) (ix3 0 0 k) = (V m c main_arg5 : Vec Ideal S4x1x2048 .f32) (ix3 (batch t) 0 k) := by
  obtain ⟨e0, e1, e2⟩ := idx_9 t
  refine congrArg (V m c main_arg5 : Vec Ideal S4x1x2048 .f32) (funext fun a => Fin.ext ?_)
  match a with
  | ⟨0, _⟩ => show win0_9.index t (0 : Fin 3) * 1 + 1 * 0 = t.val / 8; omega
  | ⟨1, _⟩ => show win0_9.index t (1 : Fin 3) * 1 + 1 * 0 = 0; omega
  | ⟨2, _⟩ => show win0_9.index t (2 : Fin 3) * 2048 + 1 * k.val = k.val; omega

theorem blk_10 (c : Dev nD) (t : Fin cfg0.N) (k : Fin 2048) :
    (iblk m c 10 t : Vec Ideal S1x1x2048 .f32) (ix3 0 0 k) = (V m c main_v12 : Vec Ideal S4x1x2048 .f32) (ix3 (batch t) 0 k) := by
  obtain ⟨e0, e1, e2⟩ := idx_10 t
  refine congrArg (V m c main_v12 : Vec Ideal S4x1x2048 .f32) (funext fun a => Fin.ext ?_)
  match a with
  | ⟨0, _⟩ => show win0_10.index t (0 : Fin 3) * 1 + 1 * 0 = t.val / 8; omega
  | ⟨1, _⟩ => show win0_10.index t (1 : Fin 3) * 1 + 1 * 0 = 0; omega
  | ⟨2, _⟩ => show win0_10.index t (2 : Fin 3) * 2048 + 1 * k.val = k.val; omega

theorem blk_11 (c : Dev nD) (t : Fin cfg0.N) (k : Fin 2048) :
    (iblk m c 11 t : Vec Ideal S1x1x2048 .f32) (ix3 0 0 k) = (V m c main_arg7 : Vec Ideal S4x1x2048 .f32) (ix3 (batch t) 0 k) := by
  obtain ⟨e0, e1, e2⟩ := idx_11 t
  refine congrArg (V m c main_arg7 : Vec Ideal S4x1x2048 .f32) (funext fun a => Fin.ext ?_)
  match a with
  | ⟨0, _⟩ => show win0_11.index t (0 : Fin 3) * 1 + 1 * 0 = t.val / 8; omega
  | ⟨1, _⟩ => show win0_11.index t (1 : Fin 3) * 1 + 1 * 0 = 0; omega
  | ⟨2, _⟩ => show win0_11.index t (2 : Fin 3) * 2048 + 1 * k.val = k.val; omega

theorem blk_12 (c : Dev nD) (t : Fin cfg0.N) (k : Fin 1024) (n : Fin 2048) :
    (iblk m c 12 t : Vec Ideal S1024x2048 .bf16) (ix2 k n) = (V m c main_v14 : Vec Ideal S1024x2048 .bf16) (ix2 k n) := by
  obtain ⟨e0, e1⟩ := idx_12 t
  refine congrArg (V m c main_v14 : Vec Ideal S1024x2048 .bf16) (funext fun a => Fin.ext ?_)
  match a with
  | ⟨0, _⟩ => show win0_12.index t (0 : Fin 2) * 1024 + 1 * k.val = k.val; omega
  | ⟨1, _⟩ => show win0_12.index t (1 : Fin 2) * 2048 + 1 * n.val = n.val; omega

theorem blk_13 (c : Dev nD) (t : Fin cfg0.N) (k : Fin 1024) (n : Fin 2048) :
    (iblk m c 13 t : Vec Ideal S1024x2048 .bf16) (ix2 k n) = (V m c main_v16 : Vec Ideal S1024x2048 .bf16) (ix2 k n) := by
  obtain ⟨e0, e1⟩ := idx_13 t
  refine congrArg (V m c main_v16 : Vec Ideal S1024x2048 .bf16) (funext fun a => Fin.ext ?_)
  match a with
  | ⟨0, _⟩ => show win0_13.index t (0 : Fin 2) * 1024 + 1 * k.val = k.val; omega
  | ⟨1, _⟩ => show win0_13.index t (1 : Fin 2) * 2048 + 1 * n.val = n.val; omega

theorem blk_14 (c : Dev nD) (t : Fin cfg0.N) (k : Fin 2048) (n : Fin 2048) :
    (iblk m c 14 t : Vec Ideal S2048x2048 .bf16) (ix2 k n) = (V m c main_v18 : Vec Ideal S2048x2048 .bf16) (ix2 k n) := by
  obtain ⟨e0, e1⟩ := idx_14 t
  refine congrArg (V m c main_v18 : Vec Ideal S2048x2048 .bf16) (funext fun a => Fin.ext ?_)
  match a with
  | ⟨0, _⟩ => show win0_14.index t (0 : Fin 2) * 2048 + 1 * k.val = k.val; omega
  | ⟨1, _⟩ => show win0_14.index t (1 : Fin 2) * 2048 + 1 * n.val = n.val; omega

theorem blk_15 (c : Dev nD) (t : Fin cfg0.N) (k : Fin 2048) (n : Fin 128) :
    (iblk m c 15 t : Vec Ideal S2048x128 .f32) (ix2 k n) = (V m c main_v6 : Vec Ideal S2048x128 .f32) (ix2 k n) := by
  obtain ⟨e0, e1⟩ := idx_15 t
  refine congrArg (V m c main_v6 : Vec Ideal S2048x128 .f32) (funext fun a => Fin.ext ?_)
  match a with
  | ⟨0, _⟩ => show win0_15.index t (0 : Fin 2) * 2048 + 1 * k.val = k.val; omega
  | ⟨1, _⟩ => show win0_15.index t (1 : Fin 2) * 128 + 1 * n.val = n.val; omega

end Cert.Kernel2Ideal.Outproj

end
-- ==== Proof.OutprojRows.lean ====
/- One row of the output projection as functions of the row's entries, and the two identities its activations need. -/
module

public import Idealize.ShloMosaic.PureOps.Ideal
public import Idealize.ShloMosaic.Lib.IdealHost

@[expose] public section

noncomputable section

namespace Cert.Outproj

open Idealize.ShloMosaic

/-- The tanh approximation of GELU. -/
def gelu (u : EReal) : EReal :=
  u * (Ideal.ofBits .f32 0x3F000000#32 * (Ideal.ofBits .f32 0x3F800000#32
    + Ideal.tanh (Ideal.ofBits .f32 0x3F4C422A#32 * (u + Ideal.ofBits .f32 0x3D372713#32 * (u * u * u)))))

/-- The two directions' rows added and projected, -/
def projA (a b : Fin 1024 → EReal) (w : Fin 1024 → Fin 2048 → EReal) (n : Fin 2048) : EReal := ∑ k, (a k + b k) * w k n

/-- the gated recurrence's row projected, -/
def projB (u h : Fin 1024 → EReal) (w : Fin 1024 → Fin 2048 → EReal) (n : Fin 2048) : EReal := ∑ k, h k * gelu (u k) * w k n

/-- the two mixed by their gates, -/
def mix (ga gb pa pb : Fin 2048 → EReal) (n : Fin 2048) : EReal := Ideal.logistic (ga n) * pa n + Ideal.logistic (gb n) * pb n

/-- the mix projected and added to the residual stream, -/
def resid (x g mx : Fin 2048 → EReal) (w : Fin 2048 → Fin 2048 → EReal) (n : Fin 2048) : EReal := x n + g n * ∑ j, mx j * w j n

/-- and the row normalized and modulated. -/
def hid (x gain shift : Fin 2048 → EReal) (n : Fin 2048) : EReal :=
  x n * Ideal.rsqrt (Ideal.div (∑ j, x j * x j) (Ideal.ofBits .f32 0x45000000#32) + Ideal.ofBits .f32 0x358637BD#32) * gain n + shift n

/-- A row of the residual stream after the projection, of the row's own entries and the weights: in `u` the columns from
    6144, 7168 and 9216 are the recurrence's GELU input and the two gates. -/
def x1Row (ya yb hr : Fin 1024 → EReal) (u : Fin 11264 → EReal) (x g : Fin 2048 → EReal) (wa wb : Fin 1024 → Fin 2048 → EReal)
    (wo : Fin 2048 → Fin 2048 → EReal) : Fin 2048 → EReal :=
  resid x g (mix (fun n => u ⟨7168 + n.val, by have := n.isLt; omega⟩) (fun n => u ⟨9216 + n.val, by have := n.isLt; omega⟩) (projA ya yb wa)
    (projB (fun k => u ⟨6144 + k.val, by have := k.isLt; omega⟩) hr wb)) wo

/-- The logits of a normalized row. -/
def logit {n : ℕ} (h : Fin 2048 → EReal) (w : Fin 2048 → Fin n → EReal) (j : Fin n) : EReal := ∑ k, h k * w k j

theorem half : Ideal.ofBits .f32 0x3F000000#32 = ((1 / 2 : ℝ) : EReal) := by
  simp [Ideal.ofBits, Ideal.ieee, -EReal.coe_mul]; norm_num

theorem half_tanh_real (r : ℝ) : 1 / 2 * Real.tanh (1 / 2 * r) + 1 / 2 = (1 + Real.exp (-r))⁻¹ := by
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  rw [Real.tanh_eq_sinh_div_cosh, Real.sinh_eq, Real.cosh_eq, e1]
  have p := Real.exp_pos (1 / 2 * r)
  have q := Real.exp_pos (-(1 / 2 * r))
  generalize Real.exp (1 / 2 * r) = a at *
  generalize Real.exp (-(1 / 2 * r)) = b at *
  have h1 : a + b ≠ 0 := by positivity
  have h2 : 1 + b * b ≠ 0 := by positivity
  have h3 : (a + b) / 2 ≠ 0 := by positivity
  field_simp
  linear_combination (2 * b) * e2

/-- The logistic function by the half angle's tanh, on every extended real. -/
theorem half_tanh (x : EReal) : Ideal.ofBits .f32 0x3F000000#32 * Ideal.tanh (Ideal.ofBits .f32 0x3F000000#32 * x) + Ideal.ofBits .f32 0x3F000000#32
    = Ideal.logistic x := by
  rw [half]
  induction x with
  | bot =>
    rw [EReal.coe_mul_bot_of_pos (by norm_num), Ideal.tanh_bot, Ideal.logistic_bot, ← EReal.coe_one, ← EReal.coe_neg, ← EReal.coe_mul, ← EReal.coe_add,
      ← EReal.coe_zero]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, ← EReal.coe_mul, ← EReal.coe_add, Ideal.logistic_coe, half_tanh_real]

/-- GELU with its half taken first and its cube multiplied from the left. -/
theorem gelu_left (u : EReal) : Ideal.ofBits .f32 0x3F000000#32 * u * (Ideal.ofBits .f32 0x3F800000#32
    + Ideal.tanh (Ideal.ofBits .f32 0x3F4C422A#32 * (u + Ideal.ofBits .f32 0x3D372713#32 * u * u * u))) = gelu u := by
  unfold gelu
  rw [mul_comm (Ideal.ofBits .f32 0x3F000000#32) u, mul_assoc u]
  simp only [mul_assoc]

end Cert.Outproj

end
-- ==== Proof.OutprojCells.lean ====
/- The output projection's body, entry by entry, up to the normalized rows. -/
module

public import proofs.«01_k».proof.Proof.Gen.Kernel2Ideal.Value
public import proofs.«01_k».proof.Proof.OutprojRows
public import Idealize.ShloMosaic.Lib.Pointwise
public import Idealize.ShloMosaic.Lib.Pipeline.ValueKit.Basic

@[expose] public section

set_option maxRecDepth 16384

noncomputable section

namespace Cert.Kernel2Ideal.Outproj

open Cert.Kernel2Ideal Cert.Kernel2Ideal.Gen Cert.Outproj
open Idealize.ShloMosaic Idealize.ShloMosaic.TcCoe Idealize.SL.Sem

theorem pay2_apply (a b : Vec Ideal S1x256x1024 .bf16) (w : Vec Ideal S1024x2048 .bf16) (r : Fin 256) (n : Fin 2048) :
    k0_pay2 a b w (ix2 r n) = projA (fun k => a (ix3 0 r k)) (fun k => b (ix3 0 r k)) (fun k n => w (ix2 k n)) n := by
  pointwise [k0_pay2, projA]

theorem pay3_apply (u h : Vec Ideal S1x256x1024 .bf16) (w : Vec Ideal S1024x2048 .bf16) (r : Fin 256) (n : Fin 2048) :
    k0_pay3 u h w (ix2 r n) = projB (fun k => u (ix3 0 r k)) (fun k => h (ix3 0 r k)) (fun k n => w (ix2 k n)) n := by
  refine Eq.trans ?_ (show ∑ k, h (ix3 0 r k) * (Ideal.ofBits .f32 0x3F000000#32 * u (ix3 0 r k) * (Ideal.ofBits .f32 0x3F800000#32
    + Ideal.tanh (Ideal.ofBits .f32 0x3F4C422A#32 * (u (ix3 0 r k) + Ideal.ofBits .f32 0x3D372713#32 * u (ix3 0 r k) * u (ix3 0 r k) * u (ix3 0 r k))))) * w (ix2 k n) = _ from ?_)
  · pointwise [k0_pay3]
  · unfold projB
    exact Finset.sum_congr rfl fun k _ => by rw [gelu_left]

/-- Two blocks of 1024 columns side by side. -/
def side (a b : Vec Ideal S1x256x1024 .bf16) (r : Fin 256) (n : Fin 2048) : EReal :=
  if h : n.val < 1024 then a (ix3 0 r ⟨n.val, h⟩) else b (ix3 0 r ⟨n.val - 1024, by have := n.isLt; omega⟩)

theorem pay4_apply (pa pb : FVec Ideal S256x2048 .f32) (a0 a1 b0 b1 : Vec Ideal S1x256x1024 .bf16) (r : Fin 256) (n : Fin 2048) :
    k0_pay4 pa pb a0 a1 b0 b1 (ix2 r n) = mix (side a0 a1 r) (side b0 b1 r) (fun n => pa (ix2 r n)) (fun n => pb (ix2 r n)) n := by
  unfold mix
  rw [← half_tanh, ← half_tanh]
  pointwise [k0_pay4, side]

theorem pay7_apply (mx : FVec Ideal S256x2048 .bf16) (x : FVec Ideal S256x2048 .f32) (g : FVec Ideal S1x2048 .f32) (w : Vec Ideal S2048x2048 .bf16)
    (r : Fin 256) (n : Fin 2048) :
    k0_pay7 mx x g w (ix2 r n) = resid (fun n => x (ix2 r n)) (fun n => g (ix2 0 n)) (fun n => mx (ix2 r n)) (fun k n => w (ix2 k n)) n := by
  pointwise [k0_pay7, resid]

theorem pay8_apply (mx : FVec Ideal S256x2048 .bf16) (x : FVec Ideal S256x2048 .f32) (g : FVec Ideal S1x2048 .f32) (w : Vec Ideal S2048x2048 .bf16)
    (r : Fin 256) (n : Fin 2048) : k0_pay8 mx x g w (ix3 0 r n) = k0_pay7 mx x g w (ix2 r n) := by
  unfold k0_pay8
  generalize k0_pay7 mx x g w = z
  pointwise []

theorem pay9_apply (mx : FVec Ideal S256x2048 .bf16) (x : FVec Ideal S256x2048 .f32) (g : FVec Ideal S1x2048 .f32) (w : Vec Ideal S2048x2048 .bf16)
    (ga sh : Vec Ideal S1x1x2048 .f32) (r : Fin 256) (n : Fin 2048) :
    k0_pay9 mx x g w ga sh (ix2 r n) = hid (fun n => k0_pay7 mx x g w (ix2 r n)) (fun n => ga (ix3 0 0 n)) (fun n => sh (ix3 0 0 n)) n := by
  unfold k0_pay9
  generalize k0_pay7 mx x g w = z
  pointwise [hid]

end Cert.Kernel2Ideal.Outproj

end
-- ==== Proof.OutprojRoute.lean ====
/- A token's routing as a function of its logits: the group with the greatest logit, the two greatest experts in it, and
   the weights. "First" settles a tie: of the places that hold the greatest entry, the one with the least number. -/
module

public import Idealize.ShloMosaic.PureOps.Ideal
public import Idealize.ShloMosaic.Lib.IdealHost

@[expose] public section

noncomputable section

namespace Cert.Outproj

open Idealize.ShloMosaic

/-- `i` is the first place of the greatest entry. -/
def IsFirst {n : ℕ} (f : Fin n → EReal) (i : Fin n) : Prop := (∀ j, f j ≤ f i) ∧ ∀ j, j < i → f j < f i

theorem exists_first {n : ℕ} (f : Fin (n + 1) → EReal) : ∃ i, IsFirst f i := by
  obtain ⟨m, -, hm⟩ := Finset.exists_max_image Finset.univ f ⟨0, Finset.mem_univ _⟩
  have hne : (Finset.univ.filter fun i => f m ≤ f i).Nonempty := ⟨m, by simp⟩
  have hmem := Finset.min'_mem _ hne
  refine ⟨(Finset.univ.filter fun i => f m ≤ f i).min' hne, fun j => ?_, fun j hj => ?_⟩
  · exact (hm j (Finset.mem_univ _)).trans (Finset.mem_filter.mp hmem).2
  · by_contra hlt
    refine absurd (Finset.min'_le _ j (Finset.mem_filter.mpr ⟨Finset.mem_univ _, ?_⟩)) (not_le.mpr hj)
    exact (Finset.mem_filter.mp hmem).2.trans (not_lt.mp hlt)

/-- The first place of the greatest entry. -/
def first {n : ℕ} (f : Fin (n + 1) → EReal) : Fin (n + 1) := (exists_first f).choose

theorem first_spec {n : ℕ} (f : Fin (n + 1) → EReal) : IsFirst f (first f) := (exists_first f).choose_spec

theorem IsFirst.unique {n : ℕ} {f : Fin n → EReal} {i j : Fin n} (hi : IsFirst f i) (hj : IsFirst f j) : i = j := by
  rcases lt_trichotomy i j with h | h | h
  · exact absurd (hj.2 i h) (not_lt.mpr (hi.1 j))
  · exact h
  · exact absurd (hi.2 j h) (not_lt.mpr (hj.1 i))

/-- The row without one entry. -/
def drop {n : ℕ} (f : Fin n → EReal) (i j : Fin n) : EReal := if j = i then ⊥ else f j

/-- The greatest entry as a fold. -/
theorem fold_max {n : ℕ} {f : Fin n → EReal} {i : Fin n} (h : ∀ j, f j ≤ f i) : Finset.univ.fold max ⊥ f = f i :=
  le_antisymm ((Finset.fold_max_le _).mpr ⟨bot_le, fun j _ => h j⟩) ((Finset.le_fold_max _).mpr (Or.inr ⟨i, Finset.mem_univ _, le_rfl⟩))

theorem minsi_toInt (x y : BitVec 32) : (IntOp.minsi x y).toInt = min x.toInt y.toInt := by
  unfold IntOp.minsi
  rw [BitVec.slt_eq_decide]
  by_cases h : x.toInt < y.toInt
  · rw [if_pos (by simpa using h), min_eq_left h.le]
  · rw [if_neg (by simpa using h), min_eq_right (not_lt.mp h)]

/-- The least word as a fold. -/
theorem fold_minsi {n : ℕ} {b : BitVec 32} {f : Fin n → BitVec 32} {i : Fin n} (hb : (f i).toInt ≤ b.toInt) (h : ∀ j, (f i).toInt ≤ (f j).toInt) :
    Finset.univ.fold IntOp.minsi b f = f i := by
  apply BitVec.eq_of_toInt_eq
  have key : ∀ s : Finset (Fin n), (f i).toInt ≤ (s.fold IntOp.minsi b f).toInt ∧ (i ∈ s → (s.fold IntOp.minsi b f).toInt ≤ (f i).toInt) := by
    intro s
    induction s using Finset.induction_on with
    | empty => exact ⟨by simpa using hb, fun h => absurd h (Finset.notMem_empty _)⟩
    | insert a s ha ih =>
      rw [Finset.fold_insert ha, minsi_toInt]
      refine ⟨le_min (h a) ih.1, fun hi => ?_⟩
      rcases Finset.mem_insert.mp hi with rfl | hi
      · exact min_le_left _ _
      · exact (min_le_right _ _).trans (ih.2 hi)
  exact le_antisymm ((key _).2 (Finset.mem_univ _)) (key _).1

theorem toInt_ofNat_lt {k : ℕ} (h : k < 2097152) : (BitVec.ofNat 32 k).toInt = k := by
  rw [BitVec.toInt_eq_toNat_of_lt (by rw [BitVec.toNat_ofNat]; omega), BitVec.toNat_ofNat]
  omega

/-- The number of the first place of the greatest entry, as the fold of the places' numbers that hold it. -/
theorem fold_first {n : ℕ} (hn : n ≤ 1048576) {f : Fin n → EReal} {i : Fin n} (h : IsFirst f i) :
    Finset.univ.fold IntOp.minsi 2147483647#32 (fun x => if f x = f i then BitVec.ofNat 32 x.val else 1048576#32) = BitVec.ofNat 32 i.val := by
  have hi := i.isLt
  refine (fold_minsi (i := i) ?_ fun j => ?_).trans (if_pos rfl)
  · rw [if_pos rfl, toInt_ofNat_lt (by omega), show (2147483647#32 : BitVec 32).toInt = 2147483647 from by decide]
    omega
  · have hj := j.isLt
    rw [if_pos rfl, toInt_ofNat_lt (by omega)]
    by_cases e : f j = f i
    · rw [if_pos e, toInt_ofNat_lt (by omega)]
      by_contra hlt
      exact absurd e (h.2 j (by rw [Fin.lt_def]; omega)).ne
    · rw [if_neg e, show (1048576#32 : BitVec 32).toInt = 1048576 from by decide]
      omega

/-- A row that is -∞ off a window has its first greatest entry where the window has. -/
theorem first_window {n k : ℕ} {g : Fin n → EReal} {f : Fin k → EReal} (o : ℕ) (ho : o + k ≤ n) {i : Fin k} (hi : IsFirst f i) (hb : f i ≠ ⊥)
    (hin : ∀ j : Fin k, g ⟨o + j.val, by have := j.isLt; omega⟩ = f j) (hout : ∀ l : Fin n, l.val < o ∨ o + k ≤ l.val → g l = ⊥) :
    IsFirst g ⟨o + i.val, by have := i.isLt; omega⟩ := by
  have split : ∀ l : Fin n, g l = ⊥ ∨ ∃ j : Fin k, l.val = o + j.val ∧ g l = f j := by
    intro l
    by_cases hl : l.val < o ∨ o + k ≤ l.val
    · exact Or.inl (hout l hl)
    · refine Or.inr ⟨⟨l.val - o, by omega⟩, by show l.val = o + (l.val - o); omega, ?_⟩
      rw [← hin]
      exact congrArg g (Fin.ext (by show l.val = o + (l.val - o); omega))
  refine ⟨fun l => ?_, fun l hl => ?_⟩
  · rw [hin]
    rcases split l with h | ⟨j, -, h⟩
    · rw [h]; exact bot_le
    · rw [h]; exact hi.1 j
  · rw [hin]
    rcases split l with h | ⟨j, hj, h⟩
    · rw [h]; exact bot_lt_iff_ne_bot.mpr hb
    · rw [h]; exact hi.2 j (by rw [Fin.lt_def] at hl ⊢; simp only at hl; omega)

/-- The chosen group's eight experts. -/
def pick (e : Fin 32 → EReal) (a : Fin 4) (j : Fin 8) : EReal := e ⟨8 * a.val + j.val, by have := a.isLt; have := j.isLt; omega⟩

/-- The group, -/
def group (z : Fin 4 → EReal) : Fin 4 := first z

/-- its probability, -/
def prob (z : Fin 4 → EReal) : EReal := Ideal.div 1 (∑ j, Ideal.exp (z j - z (group z)))

/-- its greatest expert and the next one, -/
def best (e : Fin 32 → EReal) (a : Fin 4) : Fin 8 := first (pick e a)
def next (e : Fin 32 → EReal) (a : Fin 4) : Fin 8 := first (drop (pick e a) (best e a))

/-- the second's exponential against the first's, -/
def odds (e : Fin 32 → EReal) (a : Fin 4) : EReal := Ideal.exp (pick e a (next e a) - pick e a (best e a))

/-- and the row of lanes: the two experts' numbers, then their weights. -/
def route (z : Fin 4 → EReal) (e : Fin 32 → EReal) (l : Fin 128) : EReal :=
  if l.val = 0 then (((8 * (group z).val + (best e (group z)).val : ℕ) : ℝ) : EReal)
  else if l.val = 1 then (((8 * (group z).val + (next e (group z)).val : ℕ) : ℝ) : EReal)
  else if l.val = 2 then Ideal.div (prob z) (1 + odds e (group z))
  else if l.val = 3 then Ideal.div (prob z * odds e (group z)) (1 + odds e (group z))
  else 0

/-- The next expert is another one, and its logit is finite when all are. -/
theorem next_ne {e : Fin 32 → EReal} (he : ∀ k, e k ≠ ⊥) (a : Fin 4) : next e a ≠ best e a ∧ drop (pick e a) (best e a) (next e a) = pick e a (next e a) := by
  have hne : next e a ≠ best e a := by
    intro h
    obtain ⟨j, hj⟩ := exists_ne (best e a)
    have := (first_spec (drop (pick e a) (best e a))).1 j
    rw [show first (drop (pick e a) (best e a)) = best e a from h] at this
    unfold drop at this
    rw [if_neg hj, if_pos rfl] at this
    exact he _ (le_bot_iff.mp this)
  exact ⟨hne, if_neg hne⟩

/-- A sum of real numbers is a real number. -/
theorem coe_sum {ι : Type} (s : Finset ι) (x : ι → ℝ) : ∑ j ∈ s, ((x j : ℝ) : EReal) = ((∑ j ∈ s, x j : ℝ) : EReal) := by
  induction s using Finset.cons_induction with
  | empty => simp
  | cons a s ha ih => rw [Finset.sum_cons, Finset.sum_cons, ih, EReal.coe_add]

/-- The shares of a row's exponentials in their sum have their first greatest entry where the row has. -/
theorem share_first {n : ℕ} (x : Fin n → ℝ) {a : Fin n} (h : IsFirst (fun j => (x j : EReal)) a) :
    IsFirst (fun j => Ideal.div (Ideal.exp ((x j : EReal) - x a)) (∑ k, Ideal.exp ((x k : EReal) - x a))) a := by
  have hs : ∑ k, Ideal.exp ((x k : EReal) - x a) = ((∑ k, Real.exp (x k - x a) : ℝ) : EReal) := by
    rw [← coe_sum]
    exact Finset.sum_congr rfl fun k _ => by rw [← EReal.coe_sub, Ideal.exp_coe]
  have hpos : 0 < ∑ k, Real.exp (x k - x a) := Finset.sum_pos (fun k _ => Real.exp_pos _) ⟨a, Finset.mem_univ a⟩
  have hd : ∀ j, Ideal.div (Ideal.exp ((x j : EReal) - x a)) (∑ k, Ideal.exp ((x k : EReal) - x a))
      = ((Real.exp (x j - x a) * (1 / ∑ k, Real.exp (x k - x a)) : ℝ) : EReal) := fun j => by
    rw [hs, ← EReal.coe_sub, Ideal.exp_coe, Ideal.div_coe hpos.ne', ← EReal.coe_mul]
  have hq : 0 < 1 / ∑ k, Real.exp (x k - x a) := one_div_pos.mpr hpos
  refine ⟨fun j => ?_, fun j hj => ?_⟩
  · show Ideal.div _ _ ≤ Ideal.div _ _
    rw [hd, hd, EReal.coe_le_coe_iff]
    have := EReal.coe_le_coe_iff.mp (h.1 j)
    exact mul_le_mul_of_nonneg_right (Real.exp_le_exp.mpr (by linarith)) hq.le
  · show Ideal.div _ _ < Ideal.div _ _
    rw [hd, hd, EReal.coe_lt_coe_iff]
    have := EReal.coe_lt_coe_iff.mp (h.2 j hj)
    exact mul_lt_mul_of_pos_right (Real.exp_lt_exp.mpr (by linarith)) hq

theorem mul_div {y : EReal} (hy : y ≠ 0) (p x : EReal) : p * Ideal.div x y = Ideal.div (p * x) y := by
  unfold Ideal.div
  rw [if_neg hy, if_neg hy, mul_assoc]

theorem exp_self (x : ℝ) : Ideal.exp ((x : EReal) - x) = 1 := by
  rw [← EReal.coe_sub, Ideal.exp_coe, sub_self, Real.exp_zero]
  rfl

theorem one_add_exp (x y : ℝ) : 1 + Ideal.exp ((x : EReal) - y) ≠ 0 := by
  rw [← EReal.coe_sub, Ideal.exp_coe, ← EReal.coe_one, ← EReal.coe_add]
  exact_mod_cast (by positivity : (1 : ℝ) + Real.exp (x - y) ≠ 0)

end Cert.Outproj

end
-- ==== Proof.OutprojLanes.lean ====
/- The routing lanes the output projection's body stores, entry by entry, as functions of a row of logits. -/
module

public import proofs.«01_k».proof.Proof.OutprojCells
public import proofs.«01_k».proof.Proof.OutprojRoute

@[expose] public section

set_option maxRecDepth 16384

noncomputable section

namespace Cert.Kernel2Ideal.Outproj

open Cert.Kernel2Ideal Cert.Kernel2Ideal.Gen Cert.Outproj
open Idealize.ShloMosaic Idealize.ShloMosaic.TcCoe Idealize.SL.Sem

/-- The lanes' numbers. -/
def lane : IVec S256x128 32 := iota .tc S256x128 32 [1] iota_S256x128_d1_w32

/-- A row's greatest lane, -/
def rowMax (f : FVec Ideal S256x128 .f32) : FVec Ideal S256x1 .f32 :=
  shapeCast S256x1 (multiReduction .maximumf [1] S256 f 0xFF800000#32 reduces_S256x128_S256 (.inl rfl) rfl) shapeCasts_S256_S256x1

/-- and the first lane that holds it. -/
def rowArg (f : FVec Ideal S256x128 .f32) : IVec S256x1 32 :=
  shapeCast S256x1 (multiReductionI .minsi [1] S256 (select (cmpf .oeq f (broadcastTo S256x128 (rowMax f) broadcasts_S256x1_S256x128)) lane
    (broadcast S256x128 1048576#32)) 2147483647#32 reduces_S256x128_S256 rfl) shapeCasts_S256_S256x1

/-- The groups' logits, -∞ past them, -/
def groups (z : FVec Ideal S256x128 .f32) : FVec Ideal S256x128 .f32 :=
  select (cmpi .slt lane (broadcast S256x128 4#32)) z (broadcast S256x128 (Scalar.ofBits .f32 0xFF800000#32))

/-- the chosen group's probability, -/
def groupProb (g : FVec Ideal S256x128 .f32) : FVec Ideal S256x1 .f32 :=
  divf (broadcast S256x1 (Scalar.ofBits .f32 0x3F800000#32))
    (shapeCast S256x1 (multiReduction .add [1] S256 (exp (subf g (broadcastTo S256x128 (rowMax g) broadcasts_S256x1_S256x128))) 0x00000000#32 reduces_S256x128_S256 (.inl rfl) rfl)
      shapeCasts_S256_S256x1)

/-- the lanes of the chosen group's experts, -∞ elsewhere, -/
def experts (z : FVec Ideal S256x128 .f32) (s : IVec S256x1 32) : FVec Ideal S256x128 .f32 :=
  select (andi
      (cmpi .sge lane (broadcastTo S256x128 (addi (broadcast S256x1 4#32) (muli s (broadcast S256x1 8#32))) broadcasts_S256x1_S256x128))
      (cmpi .slt lane (broadcastTo S256x128 (addi (addi (broadcast S256x1 4#32) (muli s (broadcast S256x1 8#32))) (broadcast S256x1 8#32)) broadcasts_S256x1_S256x128)))
    z (broadcast S256x128 (Scalar.ofBits .f32 0xFF800000#32))

/-- those without the first expert's, -/
def others (e : FVec Ideal S256x128 .f32) : FVec Ideal S256x128 .f32 :=
  select (cmpi .eq lane (broadcastTo S256x128 (rowArg e) broadcasts_S256x1_S256x128)) (broadcast S256x128 (Scalar.ofBits .f32 0xFF800000#32)) e

/-- one lane of the row by its number, -/
def put (l : BitVec 32) (v : FVec Ideal S256x1 .f32) (rest : FVec Ideal S256x128 .f32) : FVec Ideal S256x128 .f32 :=
  select (cmpi .eq lane (broadcast S256x128 l)) (broadcastTo S256x128 (shapeCast S256x1 v shapeCasts_S256x1_S256x1) broadcasts_S256x1_S256x128) rest

/-- the second expert's exponential against the first's, -/
def ratio (e : FVec Ideal S256x128 .f32) : FVec Ideal S256x1 .f32 := exp (subf (rowMax (others e)) (rowMax e))

/-- one more than it, -/
def total (e : FVec Ideal S256x128 .f32) : FVec Ideal S256x1 .f32 := addf (broadcast S256x1 (Scalar.ofBits .f32 0x3F800000#32)) (ratio e)

/-- and the stored lanes. -/
def lanes (p : FVec Ideal S256x1 .f32) (e : FVec Ideal S256x128 .f32) : FVec Ideal S256x128 .f32 :=
  put 0#32 (sitofp .f32 (subi (rowArg e) (broadcast S256x1 4#32)))
    (put 1#32 (sitofp .f32 (subi (rowArg (others e)) (broadcast S256x1 4#32)))
      (put 2#32 (divf p (total e)) (put 3#32 (divf (mulf p (ratio e)) (total e)) (broadcast S256x128 (Scalar.ofBits .f32 0x00000000#32)))))

theorem pay24_eq (h : FVec Ideal S256x2048 .bf16) (w : FVec Ideal S2048x128 .bf16) (p q : FVec Ideal S256x128 .f32) :
    k0_pay24 (iota .tc S256x128 32 [1] iota_S256x128_d1_w32) (k0_pay19 h w p q) (k0_pay20 h w p q) (k0_pay21 h w p q) (k0_pay22 h w p q) (k0_pay23 h w p q)
      = lanes (groupProb (groups (k0_pay16 h w p q))) (experts (k0_pay16 h w p q) (rowArg (groups (k0_pay16 h w p q)))) := rfl

/-! ## The pieces entry by entry -/

theorem neg_inf : Ideal.ofBits .f32 0xFF800000#32 = ⊥ := by simp [Ideal.ofBits, Ideal.ieee]

theorem rowMax_apply (f : FVec Ideal S256x128 .f32) (r : Fin 256) : rowMax f (ix2 r 0) = Finset.univ.fold max ⊥ (fun x => f (ix2 r x)) := by
  rw [← neg_inf]
  pointwise [rowMax]

theorem rowArg_apply (f : FVec Ideal S256x128 .f32) (r : Fin 256) : rowArg f (ix2 r 0)
    = Finset.univ.fold IntOp.minsi 2147483647#32 (fun x : Fin 128 => if f (ix2 r x) = rowMax f (ix2 r 0) then BitVec.ofNat 32 x.val else 1048576#32) := by
  unfold rowArg
  generalize rowMax f = m
  pointwise [lane]

theorem groups_apply (f : FVec Ideal S256x128 .f32) (r : Fin 256) (l : Fin 128) :
    groups f (ix2 r l) = Scalar.select (IntOp.cmpi .slt (BitVec.ofNat 32 l.val) 4#32) (f (ix2 r l)) ⊥ := by
  rw [← neg_inf]
  pointwise [groups, lane]

theorem groupProb_apply (f : FVec Ideal S256x128 .f32) (r : Fin 256) :
    groupProb f (ix2 r 0) = Ideal.div 1 (∑ x, Ideal.exp (f (ix2 r x) - rowMax f (ix2 r 0))) := by
  unfold groupProb
  generalize rowMax f = m
  pointwise []

theorem experts_apply (f : FVec Ideal S256x128 .f32) (s : IVec S256x1 32) (r : Fin 256) (l : Fin 128) :
    experts f s (ix2 r l) = Scalar.select (IntOp.andi (IntOp.cmpi .sge (BitVec.ofNat 32 l.val) (IntOp.addi 4#32 (IntOp.muli (s (ix2 r 0)) 8#32)))
      (IntOp.cmpi .slt (BitVec.ofNat 32 l.val) (IntOp.addi (IntOp.addi 4#32 (IntOp.muli (s (ix2 r 0)) 8#32)) 8#32))) (f (ix2 r l)) ⊥ := by
  rw [← neg_inf]
  pointwise [experts, lane]

theorem others_apply (f : FVec Ideal S256x128 .f32) (r : Fin 256) (l : Fin 128) :
    others f (ix2 r l) = Scalar.select (IntOp.cmpi .eq (BitVec.ofNat 32 l.val) (rowArg f (ix2 r 0))) ⊥ (f (ix2 r l)) := by
  rw [← neg_inf]
  unfold others
  generalize rowArg f = m
  pointwise [lane]

theorem put_apply (w : BitVec 32) (v : FVec Ideal S256x1 .f32) (f : FVec Ideal S256x128 .f32) (r : Fin 256) (l : Fin 128) :
    put w v f (ix2 r l) = Scalar.select (IntOp.cmpi .eq (BitVec.ofNat 32 l.val) w) (v (ix2 r 0)) (f (ix2 r l)) := by
  pointwise [put, lane]

/-! ## The row of lanes -/

section

variable (f : FVec Ideal S256x128 .f32) (r : Fin 256)

theorem rowMax_first {i : Fin 128} (h : IsFirst (fun x => f (ix2 r x)) i) : rowMax f (ix2 r 0) = f (ix2 r i) := by
  rw [rowMax_apply]
  exact fold_max h.1

theorem rowArg_first {i : Fin 128} (h : IsFirst (fun x => f (ix2 r x)) i) : rowArg f (ix2 r 0) = BitVec.ofNat 32 i.val := by
  rw [rowArg_apply, rowMax_first f r h]
  exact fold_first (by norm_num) h

theorem lt_four : ∀ l : Fin 128, IntOp.cmpi .slt (BitVec.ofNat 32 l.val) 4#32 = 1#1 ↔ l.val < 4 := by decide +kernel

theorem in_group : ∀ (a : Fin 4) (l : Fin 128),
    IntOp.andi (IntOp.cmpi .sge (BitVec.ofNat 32 l.val) (IntOp.addi 4#32 (IntOp.muli (BitVec.ofNat 32 a.val) 8#32)))
      (IntOp.cmpi .slt (BitVec.ofNat 32 l.val) (IntOp.addi (IntOp.addi 4#32 (IntOp.muli (BitVec.ofNat 32 a.val) 8#32)) 8#32)) = 1#1
      ↔ 4 + 8 * a.val ≤ l.val ∧ l.val < 4 + 8 * a.val + 8 := by decide +kernel

theorem lane_eq : ∀ l k : Fin 128, IntOp.cmpi .eq (BitVec.ofNat 32 l.val) (BitVec.ofNat 32 k.val) = 1#1 ↔ l.val = k.val := by decide +kernel

theorem number : ∀ k : Fin 32, (IntOp.subi (BitVec.ofNat 32 (4 + k.val)) 4#32).toInt = k.val := by decide +kernel

theorem select_one {α : Type} {c : BitVec 1} (h : c = 1#1) (a b : α) : Scalar.select c a b = a := if_pos h
theorem select_not {α : Type} {c : BitVec 1} (h : ¬ c = 1#1) (a b : α) : Scalar.select c a b = b := if_neg h

theorem groups_in {l : Fin 128} (h : l.val < 4) : groups f (ix2 r l) = f (ix2 r l) := by
  rw [groups_apply, select_one ((lt_four l).mpr h)]

theorem groups_out {l : Fin 128} (h : ¬ l.val < 4) : groups f (ix2 r l) = ⊥ := by
  rw [groups_apply, select_not fun q => h ((lt_four l).mp q)]

section

variable {s : IVec S256x1 32} {a : Fin 4} (hs : s (ix2 r 0) = BitVec.ofNat 32 a.val)

include hs in
theorem experts_in {l : Fin 128} (h : 4 + 8 * a.val ≤ l.val ∧ l.val < 4 + 8 * a.val + 8) : experts f s (ix2 r l) = f (ix2 r l) := by
  rw [experts_apply, hs, select_one ((in_group a l).mpr h)]

include hs in
theorem experts_out {l : Fin 128} (h : ¬ (4 + 8 * a.val ≤ l.val ∧ l.val < 4 + 8 * a.val + 8)) : experts f s (ix2 r l) = ⊥ := by
  rw [experts_apply, hs, select_not fun q => h ((in_group a l).mp q)]

end

theorem others_at {k l : Fin 128} (hk : rowArg f (ix2 r 0) = BitVec.ofNat 32 k.val) (h : l.val = k.val) : others f (ix2 r l) = ⊥ := by
  rw [others_apply, hk, select_one ((lane_eq l k).mpr h)]

theorem others_off {k l : Fin 128} (hk : rowArg f (ix2 r 0) = BitVec.ofNat 32 k.val) (h : ¬ l.val = k.val) : others f (ix2 r l) = f (ix2 r l) := by
  rw [others_apply, hk, select_not fun q => h ((lane_eq l k).mp q)]

theorem put_at {k l : Fin 128} (v : FVec Ideal S256x1 .f32) (h : l.val = k.val) : put (BitVec.ofNat 32 k.val) v f (ix2 r l) = v (ix2 r 0) := by
  rw [put_apply, select_one ((lane_eq l k).mpr h)]

theorem put_off {k l : Fin 128} (v : FVec Ideal S256x1 .f32) (h : ¬ l.val = k.val) : put (BitVec.ofNat 32 k.val) v f (ix2 r l) = f (ix2 r l) := by
  rw [put_apply, select_not fun q => h ((lane_eq l k).mp q)]

theorem number_lane (x : IVec S256x1 32) (k : Fin 32) (hx : x (ix2 r 0) = BitVec.ofNat 32 (4 + k.val)) :
    (sitofp .f32 (subi x (broadcast S256x1 4#32)) : FVec Ideal S256x1 .f32) (ix2 r 0) = ((k.val : ℝ) : EReal) := by
  refine (show _ = (((IntOp.subi (x (ix2 r 0)) 4#32).toInt : ℝ) : EReal) from ?_).trans ?_
  · pointwise []
    rfl
  · rw [hx, number k]
    norm_cast

variable {z : Fin 4 → EReal} {e : Fin 32 → EReal} (hz : ∀ j : Fin 4, f (ix2 r ⟨j.val, by have := j.isLt; omega⟩) = z j)
  (he : ∀ j : Fin 32, f (ix2 r ⟨4 + j.val, by have := j.isLt; omega⟩) = e j)

/-- The lanes of the groups, and of the chosen one, its first expert and its second. -/
def gLane (z : Fin 4 → EReal) : Fin 128 := ⟨0 + (group z).val, by have := (group z).isLt; omega⟩
def bestLane (e : Fin 32 → EReal) (a : Fin 4) : Fin 128 := ⟨4 + 8 * a.val + (best e a).val, by have := a.isLt; have := (best e a).isLt; omega⟩
def nextLane (e : Fin 32 → EReal) (a : Fin 4) : Fin 128 := ⟨4 + 8 * a.val + (next e a).val, by have := a.isLt; have := (next e a).isLt; omega⟩

include hz in
theorem groups_first (bz : ∀ j, z j ≠ ⊥) : IsFirst (fun x => groups f (ix2 r x)) (gLane z) := by
  refine first_window (g := fun x => groups f (ix2 r x)) (f := z) 0 (by norm_num) (first_spec z) (bz _) (fun j => ?_) (fun l hl => ?_)
  · have hj := j.isLt
    refine (groups_in f r (by show 0 + j.val < 4; omega)).trans (Eq.trans ?_ (hz j))
    exact congrArg (fun q => f (ix2 r q)) (Fin.ext (Nat.zero_add j.val))
  · exact groups_out f r (by omega)

section

variable {s : IVec S256x1 32} {a : Fin 4} (hs : s (ix2 r 0) = BitVec.ofNat 32 a.val)

include hs he in
theorem experts_pick (j : Fin 8) : experts f s (ix2 r ⟨4 + 8 * a.val + j.val, by have := a.isLt; have := j.isLt; omega⟩) = pick e a j := by
  have ha := a.isLt
  have hj := j.isLt
  refine (experts_in f r hs ⟨by show 4 + 8 * a.val ≤ 4 + 8 * a.val + j.val; omega, by show 4 + 8 * a.val + j.val < _; omega⟩).trans ?_
  refine Eq.trans ?_ (he ⟨8 * a.val + j.val, by omega⟩)
  exact congrArg (fun q => f (ix2 r q)) (Fin.ext (by show 4 + 8 * a.val + j.val = 4 + (8 * a.val + j.val); omega))

include hs he in
theorem experts_first (be : ∀ j, e j ≠ ⊥) : IsFirst (fun x => experts f s (ix2 r x)) (bestLane e a) := by
  have ha := a.isLt
  exact first_window (g := fun x => experts f s (ix2 r x)) (f := pick e a) (4 + 8 * a.val) (by omega) (first_spec (pick e a)) (be _)
    (experts_pick f r he hs) (fun l hl => experts_out f r hs (by omega))

include hs he in
theorem others_first (be : ∀ j, e j ≠ ⊥) : IsFirst (fun x => others (experts f s) (ix2 r x)) (nextLane e a) := by
  have ha := a.isLt
  have harg := rowArg_first _ r (experts_first f r he hs be)
  have hv : (bestLane e a).val = 4 + 8 * a.val + (best e a).val := rfl
  have hb := (best e a).isLt
  refine first_window (g := fun x => others (experts f s) (ix2 r x)) (f := drop (pick e a) (best e a)) (4 + 8 * a.val) (by omega) (first_spec _)
    ((next_ne be a).2.trans_ne (be _)) (fun j => ?_) (fun l hl => ?_)
  · unfold drop
    by_cases e' : j = best e a
    · rw [if_pos e', e']
      exact others_at _ r harg rfl
    · rw [if_neg e']
      refine (others_off _ r harg fun q => e' (Fin.ext ?_)).trans (experts_pick f r he hs j)
      rw [hv] at q
      exact Nat.add_left_cancel q
  · exact (others_off _ r harg (by omega)).trans (experts_out f r hs (by omega))

end

include hz in
theorem groupProb_eq (bz : ∀ j, z j ≠ ⊥) : groupProb (groups f) (ix2 r 0) = prob z := by
  rw [groupProb_apply, rowMax_first _ r (groups_first f r hz bz)]
  have hm : groups f (ix2 r (gLane z)) = z (group z) := by
    have hg := (group z).isLt
    refine (groups_in f r (by show 0 + (group z).val < 4; omega)).trans (Eq.trans ?_ (hz _))
    exact congrArg (fun q => f (ix2 r q)) (Fin.ext (Nat.zero_add _))
  rw [hm]
  unfold prob
  congr 1
  refine (Fin.sum_univ_add (a := 4) (b := 124) (fun x : Fin 128 => Ideal.exp (groups f (ix2 r x) - z (group z)))).trans ?_
  refine (congrArg₂ (· + ·) (Finset.sum_congr rfl fun j _ => ?_) (Finset.sum_eq_zero fun j _ => ?_)).trans (add_zero _)
  · have hj := j.isLt
    rw [groups_in f r (by show j.val < 4; omega)]
    exact congrArg (fun q => Ideal.exp (q - z (group z))) (hz j)
  · rw [groups_out f r (by show ¬ 4 + j.val < 4; omega), EReal.bot_sub, Ideal.exp_bot]

include hz he in
/-- A row of lanes from a row of logits. -/
theorem lanes_eq (bz : ∀ j, z j ≠ ⊥) (be : ∀ j, e j ≠ ⊥) (l : Fin 128) :
    lanes (groupProb (groups f)) (experts f (rowArg (groups f))) (ix2 r l) = route z e l := by
  have hs : rowArg (groups f) (ix2 r 0) = BitVec.ofNat 32 (group z).val := by
    rw [rowArg_first _ r (groups_first f r hz bz)]
    exact congrArg (BitVec.ofNat 32) (Nat.zero_add _)
  have hp := groupProb_eq f r hz bz
  generalize rowArg (groups f) = s at hs ⊢
  generalize groupProb (groups f) = p at hp ⊢
  have hb := experts_first f r he hs be
  have hn := others_first f r he hs be
  have eb : rowMax (experts f s) (ix2 r 0) = pick e (group z) (best e (group z)) := (rowMax_first _ r hb).trans (experts_pick f r he hs _)
  have en : rowMax (others (experts f s)) (ix2 r 0) = pick e (group z) (next e (group z)) := by
    refine (rowMax_first _ r hn).trans ?_
    refine (others_off _ r (rowArg_first _ r hb) fun q => (next_ne be (group z)).1 (Fin.ext (Nat.add_left_cancel q))).trans (experts_pick f r he hs _)
  have ab := rowArg_first _ r hb
  have an := rowArg_first _ r hn
  have hr : ratio (experts f s) (ix2 r 0) = odds e (group z) := by
    unfold odds
    rw [← eb, ← en]
    unfold ratio
    generalize rowMax (experts f s) = u
    generalize rowMax (others (experts f s)) = v
    pointwise []
  have ht : total (experts f s) (ix2 r 0) = 1 + odds e (group z) := by
    rw [← hr]
    unfold total
    generalize ratio (experts f s) = u
    pointwise []
  unfold lanes
  generalize ratio (experts f s) = u at hr ⊢
  generalize total (experts f s) = v at ht ⊢
  generalize rowArg (experts f s) = x at ab ⊢
  generalize rowArg (others (experts f s)) = y at an ⊢
  have hg := (group z).isLt
  have hbest := (best e (group z)).isLt
  have hnext := (next e (group z)).isLt
  have first_lane : (sitofp .f32 (subi x (broadcast S256x1 4#32)) : FVec Ideal S256x1 .f32) (ix2 r 0)
      = (((8 * (group z).val + (best e (group z)).val : ℕ) : ℝ) : EReal) :=
    number_lane r x ⟨8 * (group z).val + (best e (group z)).val, by omega⟩ (ab.trans (congrArg (BitVec.ofNat 32) (Nat.add_assoc _ _ _)))
  have second_lane : (sitofp .f32 (subi y (broadcast S256x1 4#32)) : FVec Ideal S256x1 .f32) (ix2 r 0)
      = (((8 * (group z).val + (next e (group z)).val : ℕ) : ℝ) : EReal) :=
    number_lane r y ⟨8 * (group z).val + (next e (group z)).val, by omega⟩ (an.trans (congrArg (BitVec.ofNat 32) (Nat.add_assoc _ _ _)))
  have third_lane : divf p v (ix2 r 0) = Ideal.div (prob z) (1 + odds e (group z)) := by
    rw [← hp, ← ht]
    pointwise []
  have fourth_lane : divf (mulf p u) v (ix2 r 0) = Ideal.div (prob z * odds e (group z)) (1 + odds e (group z)) := by
    rw [← ht, ← hp, ← hr]
    pointwise []
  unfold route
  by_cases h0 : l.val = 0
  · rw [if_pos h0]
    exact (put_at (k := ⟨0, by norm_num⟩) _ r _ h0).trans first_lane
  rw [if_neg h0]
  refine (put_off (k := ⟨0, by norm_num⟩) _ r _ h0).trans ?_
  by_cases h1 : l.val = 1
  · rw [if_pos h1]
    exact (put_at (k := ⟨1, by norm_num⟩) _ r _ h1).trans second_lane
  rw [if_neg h1]
  refine (put_off (k := ⟨1, by norm_num⟩) _ r _ h1).trans ?_
  by_cases h2 : l.val = 2
  · rw [if_pos h2]
    exact (put_at (k := ⟨2, by norm_num⟩) _ r _ h2).trans third_lane
  rw [if_neg h2]
  refine (put_off (k := ⟨2, by norm_num⟩) _ r _ h2).trans ?_
  by_cases h3 : l.val = 3
  · rw [if_pos h3]
    exact (put_at (k := ⟨3, by norm_num⟩) _ r _ h3).trans fourth_lane
  rw [if_neg h3]
  refine (put_off (k := ⟨3, by norm_num⟩) _ r _ h3).trans ?_
  pointwise []

end

/-- The lane that holds a group's logit, and an expert's. -/
def gAt (j : Fin 4) : Fin 128 := ⟨j.val, by have := j.isLt; omega⟩
def eAt (j : Fin 32) : Fin 128 := ⟨4 + j.val, by have := j.isLt; omega⟩

theorem lanes_row (f : FVec Ideal S256x128 .f32) (r : Fin 256) (g : Fin 128 → EReal) (hg : ∀ l, f (ix2 r l) = g l) (bot : ∀ l, g l ≠ ⊥) (l : Fin 128) :
    lanes (groupProb (groups f)) (experts f (rowArg (groups f))) (ix2 r l) = route (fun j => g (gAt j)) (fun j => g (eAt j)) l :=
  lanes_eq f r (fun j => hg (gAt j)) (fun j => hg (eAt j)) (fun j => bot (gAt j)) (fun j => bot (eAt j)) l

end Cert.Kernel2Ideal.Outproj

end
-- ==== Proof.OutprojValue.lean ====
/- The three arrays the output projection leaves, entry by entry, as functions of the arrays its windows stage. -/
module

public import proofs.«01_k».proof.Proof.OutprojBlocks
public import proofs.«01_k».proof.Proof.OutprojLanes

@[expose] public section

set_option maxRecDepth 16384

noncomputable section

namespace Cert.Kernel2Ideal.Outproj

open Cert.Kernel2Ideal Cert.Kernel2Ideal.Gen Cert.Outproj
open Idealize.ShloMosaic Idealize.ShloMosaic.TcCoe Idealize.SL.Sem
open Idealize.ShloMosaic.Pipeline (Dat)

/-! ## A block's rows -/

/-- The logits the body computes: the product of the leading parts, and the two products with what is left. -/
def split (h : Fin 2048 → EReal) (w : Fin 2048 → Fin 128 → EReal) (l : Fin 128) : EReal :=
  logit h w l + (∑ k, h k * (w k l - w k l) + ∑ k, (h k - h k) * w k l)

theorem pay5_apply (x : Vec Ideal S1x256x2048 .f32) (r : Fin 256) (n : Fin 2048) : k0_pay5 x (ix2 r n) = x (ix3 0 r n) := by
  pointwise [k0_pay5]

theorem pay6_apply (x : Vec Ideal S1x1x2048 .f32) (n : Fin 2048) : k0_pay6 x (ix2 0 n) = x (ix3 0 0 n) := by
  pointwise [k0_pay6]

theorem pay1_apply (x : FVec Ideal S256x128 .f32) (r : Fin 256) (n : Fin 128) : k0_pay1 x (ix3 0 r n) = x (ix2 r n) := by
  pointwise [k0_pay1]

theorem pay7_row (x0 x1 x2 x3 x4 x5 x6 x7 : Vec Ideal S1x256x1024 .bf16) (x8 : Vec Ideal S1x256x2048 .f32) (x9 : Vec Ideal S1x1x2048 .f32)
    (x12 x13 : Vec Ideal S1024x2048 .bf16) (x14 : Vec Ideal S2048x2048 .bf16) (r : Fin 256) (n : Fin 2048) :
    k0_pay7 (k0_pay4 (k0_pay2 x0 x1 x12) (k0_pay3 x3 x2 x13) x4 x5 x6 x7) (k0_pay5 x8) (k0_pay6 x9) x14 (ix2 r n)
      = resid (fun n => x8 (ix3 0 r n)) (fun n => x9 (ix3 0 0 n)) (mix (side x4 x5 r) (side x6 x7 r)
          (projA (fun k => x0 (ix3 0 r k)) (fun k => x1 (ix3 0 r k)) fun k n => x12 (ix2 k n))
          (projB (fun k => x3 (ix3 0 r k)) (fun k => x2 (ix3 0 r k)) fun k n => x13 (ix2 k n))) (fun k n => x14 (ix2 k n)) n := by
  rw [pay7_apply]
  simp only [pay4_apply, pay5_apply, pay6_apply, pay2_apply, pay3_apply]

theorem pay16_row (a : FVec Ideal S256x2048 .bf16) (x : FVec Ideal S256x2048 .f32) (g : FVec Ideal S1x2048 .f32) (w : Vec Ideal S2048x2048 .bf16)
    (ga sh : Vec Ideal S1x1x2048 .f32) (wr : Vec Ideal S2048x128 .f32) (r : Fin 256) (l : Fin 128) :
    k0_pay16 (k0_pay12 a x g w ga sh) (k0_pay13 wr) (k0_pay14 a x g w ga sh wr) (k0_pay15 a x g w ga sh wr) (ix2 r l)
      = split (fun n => k0_pay9 a x g w ga sh (ix2 r n)) (fun k l => wr (ix2 k l)) l := by
  unfold k0_pay12 k0_pay14 k0_pay15 k0_pay11
  generalize k0_pay9 a x g w ga sh = z
  pointwise [k0_pay16, k0_pay13, k0_pay10, split, logit]

variable (m : (ℓ : Loc nD τ sig) → Buf (Elt Ideal) ℓ) (ρ : Dev nD → PrngReg)

/-! ## The rows of the three arrays -/

/-- Row `r` of batch `b` of the residual stream, -/
def X (c : Dev nD) (b : Fin 4) (r : Fin 2048) : Fin 2048 → EReal :=
  x1Row (fun k => (V m c main_arg0 : Vec Ideal S4x2048x1024 .bf16) (ix3 b r k)) (fun k => (V m c main_arg1 : Vec Ideal S4x2048x1024 .bf16) (ix3 b r k))
    (fun k => (V m c main_arg2 : Vec Ideal S4x2048x1024 .bf16) (ix3 b r k)) (fun k => (V m c main_arg3 : Vec Ideal S4x2048x11264 .bf16) (ix3 b r k))
    (fun n => (V m c main_arg4 : Vec Ideal S4x2048x2048 .f32) (ix3 b r n)) (fun n => (V m c main_arg5 : Vec Ideal S4x1x2048 .f32) (ix3 b 0 n))
    (fun k n => (V m c main_v14 : Vec Ideal S1024x2048 .bf16) (ix2 k n)) (fun k n => (V m c main_v16 : Vec Ideal S1024x2048 .bf16) (ix2 k n))
    (fun k n => (V m c main_v18 : Vec Ideal S2048x2048 .bf16) (ix2 k n))

/-- of its normalized rows, -/
def H (c : Dev nD) (b : Fin 4) (r : Fin 2048) : Fin 2048 → EReal :=
  hid (X m c b r) (fun n => (V m c main_v12 : Vec Ideal S4x1x2048 .f32) (ix3 b 0 n)) (fun n => (V m c main_arg7 : Vec Ideal S4x1x2048 .f32) (ix3 b 0 n))

/-- of its logits -/
def L (c : Dev nD) (b : Fin 4) (r : Fin 2048) : Fin 128 → EReal := split (H m c b r) fun k l => (V m c main_v6 : Vec Ideal S2048x128 .f32) (ix2 k l)

/-- and of its routes. -/
def R (c : Dev nD) (b : Fin 4) (r : Fin 2048) : Fin 128 → EReal :=
  route (fun j => L m c b r (gAt j)) (fun j => L m c b r (eAt j))

/-- The block of the stream at point `t`. -/
abbrev blockX (c : Dev nD) (t : Fin cfg0.N) : FVec Ideal S256x2048 .f32 :=
  k0_pay7 (k0_pay4 (k0_pay2 (iblk m c 0 t) (iblk m c 1 t) (iblk m c 12 t)) (k0_pay3 (iblk m c 3 t) (iblk m c 2 t) (iblk m c 13 t)) (iblk m c 4 t) (iblk m c 5 t) (iblk m c 6 t)
    (iblk m c 7 t)) (k0_pay5 (iblk m c 8 t)) (k0_pay6 (iblk m c 9 t)) (iblk m c 14 t)

theorem side_a (c : Dev nD) (t : Fin cfg0.N) (r : Fin 256) (n : Fin 2048) : side (iblk m c 4 t) (iblk m c 5 t) r n
    = (V m c main_arg3 : Vec Ideal S4x2048x11264 .bf16) (ix3 (batch t) (row t r) ⟨7168 + n.val, by have := n.isLt; omega⟩) := by
  unfold side
  split
  · rw [blk_4]
  · rw [blk_5]
    exact congrArg (fun q => (V m c main_arg3 : Vec Ideal S4x2048x11264 .bf16) (ix3 (batch t) (row t r) q)) (Fin.ext (by show 8192 + (n.val - 1024) = 7168 + n.val; omega))

theorem side_b (c : Dev nD) (t : Fin cfg0.N) (r : Fin 256) (n : Fin 2048) : side (iblk m c 6 t) (iblk m c 7 t) r n
    = (V m c main_arg3 : Vec Ideal S4x2048x11264 .bf16) (ix3 (batch t) (row t r) ⟨9216 + n.val, by have := n.isLt; omega⟩) := by
  unfold side
  split
  · rw [blk_6]
  · rw [blk_7]
    exact congrArg (fun q => (V m c main_arg3 : Vec Ideal S4x2048x11264 .bf16) (ix3 (batch t) (row t r) q)) (Fin.ext (by show 10240 + (n.val - 1024) = 9216 + n.val; omega))

theorem blockX_row (c : Dev nD) (t : Fin cfg0.N) (r : Fin 256) (n : Fin 2048) : blockX m c t (ix2 r n) = X m c (batch t) (row t r) n := by
  refine (pay7_row _ _ _ _ _ _ _ _ _ _ _ _ _ r n).trans ?_
  unfold X x1Row
  simp only [blk_0, blk_1, blk_2, blk_3, blk_8, blk_9, blk_12, blk_13, blk_14]
  rw [funext (side_a m c t r), funext (side_b m c t r)]

/-- The block of the normalized rows. -/
abbrev blockH (c : Dev nD) (t : Fin cfg0.N) : FVec Ideal S256x2048 .f32 :=
  k0_pay9 (k0_pay4 (k0_pay2 (iblk m c 0 t) (iblk m c 1 t) (iblk m c 12 t)) (k0_pay3 (iblk m c 3 t) (iblk m c 2 t) (iblk m c 13 t)) (iblk m c 4 t) (iblk m c 5 t) (iblk m c 6 t)
    (iblk m c 7 t)) (k0_pay5 (iblk m c 8 t)) (k0_pay6 (iblk m c 9 t)) (iblk m c 14 t) (iblk m c 10 t) (iblk m c 11 t)

theorem blockH_row (c : Dev nD) (t : Fin cfg0.N) (r : Fin 256) (n : Fin 2048) : blockH m c t (ix2 r n) = H m c (batch t) (row t r) n := by
  refine (pay9_apply _ _ _ _ _ _ r n).trans ?_
  unfold H
  simp only [blk_10, blk_11]
  rw [show (fun n => k0_pay7 _ _ _ _ (ix2 r n)) = X m c (batch t) (row t r) from funext (blockX_row m c t r)]

/-- The block of the logits. -/
abbrev blockL (c : Dev nD) (t : Fin cfg0.N) : FVec Ideal S256x128 .f32 :=
  let a := k0_pay4 (k0_pay2 (iblk m c 0 t) (iblk m c 1 t) (iblk m c 12 t)) (k0_pay3 (iblk m c 3 t) (iblk m c 2 t) (iblk m c 13 t)) (iblk m c 4 t) (iblk m c 5 t) (iblk m c 6 t) (iblk m c 7 t)
  let x := k0_pay5 (iblk m c 8 t)
  let g := k0_pay6 (iblk m c 9 t)
  k0_pay16 (k0_pay12 a x g (iblk m c 14 t) (iblk m c 10 t) (iblk m c 11 t)) (k0_pay13 (iblk m c 15 t))
    (k0_pay14 a x g (iblk m c 14 t) (iblk m c 10 t) (iblk m c 11 t) (iblk m c 15 t)) (k0_pay15 a x g (iblk m c 14 t) (iblk m c 10 t) (iblk m c 11 t) (iblk m c 15 t))

theorem blockL_row (c : Dev nD) (t : Fin cfg0.N) (r : Fin 256) (l : Fin 128) : blockL m c t (ix2 r l) = L m c (batch t) (row t r) l := by
  refine (pay16_row _ _ _ _ _ _ _ r l).trans ?_
  unfold L
  simp only [blk_15]
  rw [show (fun n => k0_pay9 _ _ _ _ _ _ (ix2 r n)) = H m c (batch t) (row t r) from funext (blockH_row m c t r)]

/-! ## The arrays -/

def GX (c : Dev nD) : Vec Ideal S4x2048x2048 .f32 := fun i => X m c (i 0) (i 1) (i 2)
def GH (c : Dev nD) : Vec Ideal S8192x2048 .f32 := fun i =>
  H m c ⟨(i 0).val / 2048, by have h : (i 0).val < 8192 := (i 0).isLt; omega⟩ ⟨(i 0).val % 2048, by omega⟩ (i 1)
def GR (c : Dev nD) : Vec Ideal S4x2048x128 .f32 := fun i => R m c (i 0) (i 1) (i 2)

theorem ld_a (x : Vec Ideal S1x256x1024 .bf16) : View.ld x r0_0 = x := by unfold r0_0; exact View.ld_unit_lit _ _ (by decide)
theorem ld_b (x : Vec Ideal S1024x2048 .bf16) : View.ld x r0_1 = x := by unfold r0_1; exact View.ld_unit_lit _ _ (by decide)
theorem ld_c (x : Vec Ideal S1x256x2048 .f32) : View.ld x r0_2 = x := by unfold r0_2; exact View.ld_unit_lit _ _ (by decide)
theorem ld_d (x : Vec Ideal S1x1x2048 .f32) : View.ld x r0_3 = x := by unfold r0_3; exact View.ld_unit_lit _ _ (by decide)
theorem ld_e (x : Vec Ideal S2048x2048 .bf16) : View.ld x r0_4 = x := by unfold r0_4; exact View.ld_unit_lit _ _ (by decide)
theorem ld_f (x : Vec Ideal S2048x128 .f32) : View.ld x r0_6 = x := by unfold r0_6; exact View.ld_unit_lit _ _ (by decide)

theorem flushed_16 (c : Dev nD) (t : Fin cfg0.N) :
    (dats m 0 c).flushed 16 t = ((cfg0.win 16).blk t).view.read (Elt Ideal) (GX m c) := by
  rw [Value.flushed16]
  obtain ⟨e0, e1, e2⟩ := idx_16 t
  funext y
  obtain ⟨r, n, rfl⟩ : ∃ (r : Fin 256) (n : Fin 2048), y = ix3 (0 : Fin 1) r n := ⟨y 1, y 2, funext fun a => by
    match a with
    | ⟨0, _⟩ => exact Fin.ext (by have : (y 0).val < 1 := (y 0).isLt; show (y 0).val = 0; omega)
    | ⟨1, _⟩ => rfl
    | ⟨2, _⟩ => rfl⟩
  have he : ((cfg0.win 16).blk t).view.emb (ix3 (0 : Fin 1) r n) = ix3 (batch t) (row t r) n := by
    funext a; apply Fin.ext
    match a with
    | ⟨0, _⟩ => show win0_16.index t (0 : Fin 3) * 1 + 1 * 0 = t.val / 8; omega
    | ⟨1, _⟩ => show win0_16.index t (1 : Fin 3) * 256 + 1 * r.val = t.val % 8 * 256 + r.val; omega
    | ⟨2, _⟩ => show win0_16.index t (2 : Fin 3) * 2048 + 1 * n.val = n.val; omega
  show out0_16 _ _ _ _ _ _ _ _ _ _ _ _ _ _ _ _ (ix3 (0 : Fin 1) r n) = GX m c (((cfg0.win 16).blk t).view.emb (ix3 (0 : Fin 1) r n))
  rw [he]
  refine (show _ = k0_pay8 (k0_pay4 (k0_pay2 (iblk m c 0 t) (iblk m c 1 t) (iblk m c 12 t)) (k0_pay3 (iblk m c 3 t) (iblk m c 2 t) (iblk m c 13 t)) (iblk m c 4 t) (iblk m c 5 t) (iblk m c 6 t) (iblk m c 7 t)) (k0_pay5 (iblk m c 8 t)) (k0_pay6 (iblk m c 9 t)) (iblk m c 14 t) (ix3 0 r n) from ?_).trans ?_
  · unfold out0_16 k0_pay25 k0_pay26 k0_pay27
    rw [View.canon_cons_unit_lit _ _ _ (by decide)]
    simp only [ld_a, ld_b, ld_c, ld_d, ld_e, ld_f]
  exact (pay8_apply _ _ _ _ r n).trans (blockX_row m c t r n)

theorem cover_16 (i : S4x2048x2048.Idx) : ∃ t : Fin cfg0.N, (cfg0.win 16).flush t = true ∧ i ∈ ((cfg0.win 16).blk t).view.set := by
  have h0 : (i 0).val < 4 := (i 0).isLt
  have h1 : (i 1).val < 2048 := (i 1).isLt
  have h2 : (i 2).val < 2048 := (i 2).isLt
  let t : Fin cfg0.N := ⟨8 * (i 0).val + (i 1).val / 256, lt_of_lt_of_eq (by omega) N_0.symm⟩
  have ht : t.val = 8 * (i 0).val + (i 1).val / 256 := rfl
  obtain ⟨e0, e1, e2⟩ := idx_16 t
  refine ⟨t, flush_16 t, ?_⟩
  show i ∈ ((View.whole main_v19_0).slice (win0_16.rect t)).set
  rw [View.set_slice_whole, Rect.mem_set_unit]
  intro a
  match a with
  | ⟨0, _⟩ => show win0_16.index t (0 : Fin 3) * 1 ≤ (i 0).val ∧ (i 0).val < win0_16.index t (0 : Fin 3) * 1 + 1; omega
  | ⟨1, _⟩ => show win0_16.index t (1 : Fin 3) * 256 ≤ (i 1).val ∧ (i 1).val < win0_16.index t (1 : Fin 3) * 256 + 256; omega
  | ⟨2, _⟩ => show win0_16.index t (2 : Fin 3) * 2048 ≤ (i 2).val ∧ (i 2).val < win0_16.index t (2 : Fin 3) * 2048 + 2048; omega

theorem final_16 (c : Dev nD) : (dats m 0 c).arrAt 16 cfg0.N = GX m c :=
  (dats m 0 c).arrAt_eq_of_cover 16 _ (fun t _ => flushed_16 m c t) cover_16

theorem flushed_17 (c : Dev nD) (t : Fin cfg0.N) :
    (dats m 0 c).flushed 17 t = ((cfg0.win 17).blk t).view.read (Elt Ideal) (GH m c) := by
  rw [Value.flushed17]
  have ht := lt_32 t
  obtain ⟨e0, e1⟩ := idx_17 t
  funext y
  obtain ⟨r, n, rfl⟩ : ∃ (r : Fin 256) (n : Fin 2048), y = ix2 r n := ⟨y 0, y 1, eq_ix2 y⟩
  have hr := r.isLt
  have he : ((cfg0.win 17).blk t).view.emb (ix2 r n) = ix2 (⟨t.val * 256 + r.val, by omega⟩ : Fin 8192) n := by
    funext a; apply Fin.ext
    match a with
    | ⟨0, _⟩ => show win0_17.index t (0 : Fin 2) * 256 + 1 * r.val = t.val * 256 + r.val; omega
    | ⟨1, _⟩ => show win0_17.index t (1 : Fin 2) * 2048 + 1 * n.val = n.val; omega
  show out0_17 _ _ _ _ _ _ _ _ _ _ _ _ _ _ _ _ (ix2 r n) = GH m c (((cfg0.win 17).blk t).view.emb (ix2 r n))
  rw [he]
  refine (show _ = blockH m c t (ix2 r n) from ?_).trans ?_
  · unfold out0_17 k0_pay25 k0_pay26 k0_pay27
    rw [View.canon_cons_unit_lit _ _ _ (by decide)]
    simp only [ld_a, ld_b, ld_c, ld_d, ld_e, ld_f]
  refine (blockH_row m c t r n).trans ?_
  have f0 : batch t = ⟨(t.val * 256 + r.val) / 2048, by omega⟩ := Fin.ext (by show t.val / 8 = (t.val * 256 + r.val) / 2048; omega)
  have f1 : row t r = ⟨(t.val * 256 + r.val) % 2048, by omega⟩ := Fin.ext (by show t.val % 8 * 256 + r.val = (t.val * 256 + r.val) % 2048; omega)
  rw [f0, f1]
  rfl

theorem cover_17 (i : S8192x2048.Idx) : ∃ t : Fin cfg0.N, (cfg0.win 17).flush t = true ∧ i ∈ ((cfg0.win 17).blk t).view.set := by
  have h0 : (i 0).val < 8192 := (i 0).isLt
  have h1 : (i 1).val < 2048 := (i 1).isLt
  let t : Fin cfg0.N := ⟨(i 0).val / 256, lt_of_lt_of_eq (by omega) N_0.symm⟩
  have ht : t.val = (i 0).val / 256 := rfl
  obtain ⟨e0, e1⟩ := idx_17 t
  refine ⟨t, flush_17 t, ?_⟩
  show i ∈ ((View.whole main_v19_1).slice (win0_17.rect t)).set
  rw [View.set_slice_whole, Rect.mem_set_unit]
  intro a
  match a with
  | ⟨0, _⟩ => show win0_17.index t (0 : Fin 2) * 256 ≤ (i 0).val ∧ (i 0).val < win0_17.index t (0 : Fin 2) * 256 + 256; omega
  | ⟨1, _⟩ => show win0_17.index t (1 : Fin 2) * 2048 ≤ (i 1).val ∧ (i 1).val < win0_17.index t (1 : Fin 2) * 2048 + 2048; omega

theorem final_17 (c : Dev nD) : (dats m 0 c).arrAt 17 cfg0.N = GH m c :=
  (dats m 0 c).arrAt_eq_of_cover 17 _ (fun t _ => flushed_17 m c t) cover_17

theorem flushed_18 (c : Dev nD) (hL : ∀ b r l, L m c b r l ≠ ⊥) (t : Fin cfg0.N) :
    (dats m 0 c).flushed 18 t = ((cfg0.win 18).blk t).view.read (Elt Ideal) (GR m c) := by
  rw [Value.flushed18]
  obtain ⟨e0, e1, e2⟩ := idx_18 t
  funext y
  obtain ⟨r, n, rfl⟩ : ∃ (r : Fin 256) (n : Fin 128), y = ix3 (0 : Fin 1) r n := ⟨y 1, y 2, funext fun a => by
    match a with
    | ⟨0, _⟩ => exact Fin.ext (by have : (y 0).val < 1 := (y 0).isLt; show (y 0).val = 0; omega)
    | ⟨1, _⟩ => rfl
    | ⟨2, _⟩ => rfl⟩
  have he : ((cfg0.win 18).blk t).view.emb (ix3 (0 : Fin 1) r n) = ix3 (batch t) (row t r) n := by
    funext a; apply Fin.ext
    match a with
    | ⟨0, _⟩ => show win0_18.index t (0 : Fin 3) * 1 + 1 * 0 = t.val / 8; omega
    | ⟨1, _⟩ => show win0_18.index t (1 : Fin 3) * 256 + 1 * r.val = t.val % 8 * 256 + r.val; omega
    | ⟨2, _⟩ => show win0_18.index t (2 : Fin 3) * 128 + 1 * n.val = n.val; omega
  show out0_18 _ _ _ _ _ _ _ _ _ _ _ _ _ _ _ _ (ix3 (0 : Fin 1) r n) = GR m c (((cfg0.win 18).blk t).view.emb (ix3 (0 : Fin 1) r n))
  rw [he]
  refine (show _ = k0_pay1 (lanes (groupProb (groups (blockL m c t))) (experts (blockL m c t) (rowArg (groups (blockL m c t))))) (ix3 0 r n) from ?_).trans ?_
  · unfold out0_18 k0_pay31 k0_pay30 k0_pay29 k0_pay28 k0_pay27 k0_pay26 k0_pay25
    rw [View.canon_cons_unit_lit _ _ _ (by decide)]
    simp only [ld_a, ld_b, ld_c, ld_d, ld_e, ld_f]
    rw [pay24_eq]
  refine (pay1_apply _ r n).trans ?_
  exact lanes_row (blockL m c t) r (L m c (batch t) (row t r)) (fun l => blockL_row m c t r l) (fun l => hL _ _ _) n

theorem cover_18 (i : S4x2048x128.Idx) : ∃ t : Fin cfg0.N, (cfg0.win 18).flush t = true ∧ i ∈ ((cfg0.win 18).blk t).view.set := by
  have h0 : (i 0).val < 4 := (i 0).isLt
  have h1 : (i 1).val < 2048 := (i 1).isLt
  have h2 : (i 2).val < 128 := (i 2).isLt
  let t : Fin cfg0.N := ⟨8 * (i 0).val + (i 1).val / 256, lt_of_lt_of_eq (by omega) N_0.symm⟩
  have ht : t.val = 8 * (i 0).val + (i 1).val / 256 := rfl
  obtain ⟨e0, e1, e2⟩ := idx_18 t
  refine ⟨t, flush_18 t, ?_⟩
  show i ∈ ((View.whole main_v19_2).slice (win0_18.rect t)).set
  rw [View.set_slice_whole, Rect.mem_set_unit]
  intro a
  match a with
  | ⟨0, _⟩ => show win0_18.index t (0 : Fin 3) * 1 ≤ (i 0).val ∧ (i 0).val < win0_18.index t (0 : Fin 3) * 1 + 1; omega
  | ⟨1, _⟩ => show win0_18.index t (1 : Fin 3) * 256 ≤ (i 1).val ∧ (i 1).val < win0_18.index t (1 : Fin 3) * 256 + 256; omega
  | ⟨2, _⟩ => show win0_18.index t (2 : Fin 3) * 128 ≤ (i 2).val ∧ (i 2).val < win0_18.index t (2 : Fin 3) * 128 + 128; omega

theorem final_18 (c : Dev nD) (hL : ∀ b r l, L m c b r l ≠ ⊥) : (dats m 0 c).arrAt 18 cfg0.N = GR m c :=
  (dats m 0 c).arrAt_eq_of_cover 18 _ (fun t _ => flushed_18 m c hL t) cover_18

end Cert.Kernel2Ideal.Outproj

end
-- ==== Proof.OutprojHost.lean ====
/- What the host code before the output projection leaves in the arrays its windows stage. -/
module

public import proofs.«01_k».proof.Proof.Gen.Kernel2Ideal.Frame
public import Idealize.ShloMosaic.Lib.Pointwise
public import Idealize.ShloMosaic.Lib.Routing.OpsPair
public import Idealize.ShloMosaic.Lib.Routing.OpsSet

@[expose] public section

set_option maxRecDepth 16384

noncomputable section

namespace Cert.Kernel2Ideal.Outproj

open Cert.Kernel2Ideal Cert.Kernel2Ideal.Gen
open Idealize.ShloMosaic Idealize.ShloMosaic.TcCoe

/-! ## What the host code computes -/

section
variable {F : FTy → Type} [FloatOps F]

/-- The norm's gain times one plus the scale. -/
def gain (g : Vec F S1x2048 .f32) (z : Vec F S4x1x2048 .f32) : Vec F S4x1x2048 .f32 :=
  mulf (broadcastInDim S4x1x2048 ![0, 1, 2] bcast_S1x1x2048_S4x1x2048_0_1_2 (broadcastInDim S1x1x2048 ![2] bcast_S2048_S1x1x2048_2
      (shapeCast S2048 g shapeCasts_S1x2048_S2048)))
    (addf (broadcastInDim S4x1x2048 ![] bcast_S_S4x1x2048 (constant S_ .f32 0x3F800000#32)) z)

/-- The column a router's weights begin at. -/
def start (n : BitVec 32) : IVec S1 32 := broadcastInDim S1 ![] bcast_S_S1 (constantI S_ 32 n)

/-- The groups' weights in the first 4 of 128 columns, -/
def onlyGroups (g : Vec F S1x2048x4 .f32) : Vec F S2048x128 .f32 :=
  Host.scatter scatter_S2048x128_S1_S2048x4_01_n_1_0 (fun _ b => b) (broadcastInDim S2048x128 ![] bcast_S_S2048x128 (constant S_ .f32 0x00000000#32 : FVec F S_ .f32)) (start 0#32)
    (shapeCast S2048x4 g shapeCasts_S1x2048x4_S2048x4)

/-- and the experts' in the 32 after them. -/
def routers (g : Vec F S1x2048x4 .f32) (e : Vec F S1x2048x32 .f32) : Vec F S2048x128 .f32 :=
  Host.scatter scatter_S2048x128_S1_S2048x32_01_n_1_0 (fun _ b => b) (onlyGroups g) (start 4#32) (shapeCast S2048x32 e shapeCasts_S1x2048x32_S2048x32)

/-- The projections' weights. -/
def branch (w : Vec F S1x1024x2048 .f32) : Vec F S1024x2048 .bf16 := truncf .bf16 (shapeCast S1024x2048 w shapeCasts_S1x1024x2048_S1024x2048) bitsLt_bf16_f32
def outer (w : Vec F S1x2048x2048 .f32) : Vec F S2048x2048 .bf16 := truncf .bf16 (shapeCast S2048x2048 w shapeCasts_S1x2048x2048_S2048x2048) bitsLt_bf16_f32

variable (m : (ℓ : Loc nD τ sig) → Buf (Elt F) ℓ)

theorem V_gain (c : Dev nD) : V m c main_v12 = gain (m ((c.tc : Thread nD τ).loc main_arg8)) (m ((c.tc : Thread nD τ).loc main_arg6)) := by
  show StableHlo.after hostOps0 _ _ = _
  after_results_simp
  rfl

theorem V_routers (c : Dev nD) : V m c main_v6 = routers (m ((c.tc : Thread nD τ).loc main_arg12)) (m ((c.tc : Thread nD τ).loc main_arg13)) := by
  show StableHlo.after hostOps0 _ _ = _
  after_results_simp
  rfl

theorem V_pa (c : Dev nD) : V m c main_v14 = branch (m ((c.tc : Thread nD τ).loc main_arg9)) := by
  show StableHlo.after hostOps0 _ _ = _
  after_results_simp
  rfl

theorem V_pb (c : Dev nD) : V m c main_v16 = branch (m ((c.tc : Thread nD τ).loc main_arg10)) := by
  show StableHlo.after hostOps0 _ _ = _
  after_results_simp
  rfl

theorem V_out (c : Dev nD) : V m c main_v18 = outer (m ((c.tc : Thread nD τ).loc main_arg11)) := by
  show StableHlo.after hostOps0 _ _ = _
  after_results_simp
  rfl

end

/-! ## Entry by entry -/

theorem branch_apply (w : Vec Ideal S1x1024x2048 .f32) (k : Fin 1024) (n : Fin 2048) : branch w (ix2 k n) = w (ix3 0 k n) := by
  pointwise [branch]

theorem outer_apply (w : Vec Ideal S1x2048x2048 .f32) (k n : Fin 2048) : outer w (ix2 k n) = w (ix3 0 k n) := by
  pointwise [outer]

theorem gain_apply (g : Vec Ideal S1x2048 .f32) (z : Vec Ideal S4x1x2048 .f32) (b : Fin 4) (k : Fin 2048) :
    gain g z (ix3 b 0 k) = g (ix2 0 k) * (Ideal.ofBits .f32 0x3F800000#32 + z (ix3 b 0 k)) := by
  pointwise [gain]

theorem start_apply (n : BitVec 32) (j : S1.Idx) : start n j = n := rfl

theorem start4_0 (j : S2048x4.Idx) (n : BitVec 32) : scatter_S2048x128_S1_S2048x4_01_n_1_0.start j (start n) 0 = 0 := rfl
theorem start4_1 (j : S2048x4.Idx) (n : BitVec 32) : scatter_S2048x128_S1_S2048x4_01_n_1_0.start j (start n) 1 = n.toInt := rfl
theorem start32_0 (j : S2048x32.Idx) (n : BitVec 32) : scatter_S2048x128_S1_S2048x32_01_n_1_0.start j (start n) 0 = 0 := rfl
theorem start32_1 (j : S2048x32.Idx) (n : BitVec 32) : scatter_S2048x128_S1_S2048x32_01_n_1_0.start j (start n) 1 = n.toInt := rfl

theorem lands4 (k k' : Fin 2048) (j : Fin 4) (l : Fin 128) :
    scatter_S2048x128_S1_S2048x4_01_n_1_0.resultIdx? (ix2 k j) (start 0#32) = some (ix2 k' l) ↔ k = k' ∧ j.val = l.val := by
  rw [Routing.resultIdx?_eq_some]
  constructor
  · intro h
    have h0 := h 0
    have h1 := h 1
    rw [start4_0] at h0
    rw [start4_1] at h1
    have g0 : (0 : Int) + (k.val : Int) = (k'.val : Int) := h0
    have g1 : (0 : Int) + (j.val : Int) = (l.val : Int) := h1
    exact ⟨Fin.ext (by omega), by omega⟩
  · rintro ⟨rfl, h⟩ a
    match a with
    | ⟨0, _⟩ => show (0 : Int) + (k.val : Int) = (k.val : Int); omega
    | ⟨1, _⟩ => show (0 : Int) + (j.val : Int) = (l.val : Int); omega

theorem lands32 (k k' : Fin 2048) (j : Fin 32) (l : Fin 128) :
    scatter_S2048x128_S1_S2048x32_01_n_1_0.resultIdx? (ix2 k j) (start 4#32) = some (ix2 k' l) ↔ k = k' ∧ 4 + j.val = l.val := by
  rw [Routing.resultIdx?_eq_some]
  constructor
  · intro h
    have h0 := h 0
    have h1 := h 1
    rw [start32_0] at h0
    rw [start32_1] at h1
    have g0 : (0 : Int) + (k.val : Int) = (k'.val : Int) := h0
    have g1 : (4 : Int) + (j.val : Int) = (l.val : Int) := h1
    exact ⟨Fin.ext (by omega), by omega⟩
  · rintro ⟨rfl, h⟩ a
    match a with
    | ⟨0, _⟩ => show (0 : Int) + (k.val : Int) = (k.val : Int); omega
    | ⟨1, _⟩ => show (4 : Int) + (j.val : Int) = (l.val : Int); omega

theorem onlyGroups_in (g : Vec Ideal S1x2048x4 .f32) (k : Fin 2048) (j : Fin 4) (l : Fin 128) (h : j.val = l.val) : onlyGroups g (ix2 k l) = g (ix3 0 k j) := by
  refine Routing.scatter_set_hit _ _ _ _ _ _ (fun i e => ?_) (ix2 k j) ((lands4 _ _ _ _).mpr ⟨rfl, h⟩)
  obtain ⟨k', j', rfl⟩ : ∃ (k' : Fin 2048) (j' : Fin 4), i = ix2 k' j' := ⟨i 0, i 1, eq_ix2 i⟩
  obtain ⟨rfl, e⟩ := (lands4 _ _ _ _).mp e
  obtain rfl : j' = j := Fin.ext (by omega)
  pointwise []

theorem onlyGroups_out (g : Vec Ideal S1x2048x4 .f32) (k : Fin 2048) (l : Fin 128) (h : 4 ≤ l.val) : onlyGroups g (ix2 k l) = Ideal.ofBits .f32 0x00000000#32 := by
  refine (Routing.scatter_set_miss _ _ _ _ _ fun i e => ?_).trans rfl
  obtain ⟨k', j', rfl⟩ : ∃ (k' : Fin 2048) (j' : Fin 4), i = ix2 k' j' := ⟨i 0, i 1, eq_ix2 i⟩
  have e := ((lands4 _ _ _ _).mp e).2
  have := j'.isLt
  omega

theorem routers_out (g : Vec Ideal S1x2048x4 .f32) (e : Vec Ideal S1x2048x32 .f32) (k : Fin 2048) (l : Fin 128) (h : l.val < 4 ∨ 36 ≤ l.val) :
    routers g e (ix2 k l) = onlyGroups g (ix2 k l) := by
  refine Routing.scatter_set_miss _ _ _ _ _ fun i e => ?_
  obtain ⟨k', j', rfl⟩ : ∃ (k' : Fin 2048) (j' : Fin 32), i = ix2 k' j' := ⟨i 0, i 1, eq_ix2 i⟩
  have e := ((lands32 _ _ _ _).mp e).2
  have := j'.isLt
  omega

/-- The weights of the groups, of the experts, and no others. -/
theorem routers_group (g : Vec Ideal S1x2048x4 .f32) (e : Vec Ideal S1x2048x32 .f32) (k : Fin 2048) (j : Fin 4) (l : Fin 128) (h : j.val = l.val) :
    routers g e (ix2 k l) = g (ix3 0 k j) := by
  have := j.isLt
  exact (routers_out g e k l (by omega)).trans (onlyGroups_in g k j l h)

theorem routers_expert (g : Vec Ideal S1x2048x4 .f32) (e : Vec Ideal S1x2048x32 .f32) (k : Fin 2048) (j : Fin 32) (l : Fin 128) (h : 4 + j.val = l.val) :
    routers g e (ix2 k l) = e (ix3 0 k j) := by
  refine Routing.scatter_set_hit _ _ _ _ _ _ (fun i q => ?_) (ix2 k j) ((lands32 _ _ _ _).mpr ⟨rfl, h⟩)
  obtain ⟨k', j', rfl⟩ : ∃ (k' : Fin 2048) (j' : Fin 32), i = ix2 k' j' := ⟨i 0, i 1, eq_ix2 i⟩
  obtain ⟨rfl, q⟩ := (lands32 _ _ _ _).mp q
  obtain rfl : j' = j := Fin.ext (by omega)
  pointwise []

theorem routers_rest (g : Vec Ideal S1x2048x4 .f32) (e : Vec Ideal S1x2048x32 .f32) (k : Fin 2048) (l : Fin 128) (h : 36 ≤ l.val) :
    routers g e (ix2 k l) = Ideal.ofBits .f32 0x00000000#32 :=
  (routers_out g e k l (Or.inr h)).trans (onlyGroups_out g k l (by omega))

end Cert.Kernel2Ideal.Outproj

end
-- ==== Proof.OutprojTopK.lean ====
/- The greatest entries of a row by a stable sort: the first and the second place of the sorted row. -/
module

public import proofs.«01_k».proof.Proof.OutprojRoute
public import Idealize.ShloMosaic.Lib.SortPrefix
public import Idealize.ShloMosaic.Lib.Pointwise

@[expose] public section

noncomputable section

namespace Cert.Outproj

open Idealize.ShloMosaic

/-- A stable sort of ascending places asks its order only about a later place and an earlier one. -/
theorem stableSort_later {n : ℕ} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_later R R' h l hl.2]
    exact insertBefore_congr R R' a _ fun b hb => h a b (hl.1 b ((perm_stableSort R' l).mem_iff.mp hb))

theorem sortedFrom_later {n : ℕ} (R R' : Fin n → Fin n → Bool) (h : ∀ a b, a < b → R b a = R' b a) : sortedFrom R = sortedFrom R' := by
  have e : sortPositions n R = sortPositions n R' := stableSort_later R R' h _ (List.pairwise_lt_finRange n)
  funext k
  unfold sortedFrom
  rw [List.get_of_eq e]
  rfl

/-- Greater entries before smaller ones. -/
def above {n : ℕ} (f : Fin n → EReal) (k k' : Fin n) : Bool := Ideal.cmpTotal .gt (f k) (f k') == 1#1

/-- The same, equal entries in the places' order. -/
def above' {n : ℕ} (f : Fin n → EReal) (k k' : Fin n) : Bool := decide (f k' < f k) || (decide (f k = f k') && decide (k < k'))

theorem above_eq {n : ℕ} (f : Fin n → EReal) (k k' : Fin n) : above f k k' = decide (f k' < f k) := by
  unfold above Ideal.cmpTotal Ideal.cmp CmpDirection.ordered
  by_cases h : f k' < f k <;> simp [h]

theorem sorted_above {n : ℕ} (f : Fin n → EReal) : sortedFrom (above f) = sortedFrom (above' f) :=
  sortedFrom_later _ _ fun a b hab => by
    rw [above_eq]
    unfold above'
    rw [decide_eq_false (not_lt.mpr hab.le), Bool.and_false, Bool.or_false]

theorem strict {n : ℕ} (f : Fin n → EReal) : StrictTotalBefore (above' f) :=
  StrictTotalBefore.of_key_then_position (fun a b : EReal => decide (b < a)) f (by simp)
    (fun a b c hab hbc => by simp only [decide_eq_true_eq] at *; exact hbc.trans hab)
    (fun a b => by simp only [decide_eq_true_eq]; rcases lt_trichotomy a b with h | h | h <;> simp [h])

theorem not_above {n : ℕ} {f : Fin n → EReal} {p i : Fin n} (h : f p ≤ f i) (h' : p < i → f p < f i) : above' f p i = false := by
  unfold above'
  rw [decide_eq_false (not_lt.mpr h), Bool.false_or, Bool.and_eq_false_iff]
  by_cases q : p < i
  · exact Or.inl (decide_eq_false (h' q).ne)
  · exact Or.inr (decide_eq_false q)

/-- The first place of the sorted row, -/
theorem sorted_first {n : ℕ} (f : Fin (n + 1) → EReal) {i : Fin (n + 1)} (h : IsFirst f i) : sortedFrom (above f) 0 = i := by
  rw [sorted_above]
  exact (strict f).sortedFrom_eq_of_prefix (k := 1) (by omega) (fun _ => i) (fun a b _ => Subsingleton.elim a b)
    (fun a b hab => absurd hab (by rw [Subsingleton.elim a b]; exact lt_irrefl b)) (fun _ p _ => not_above (h.1 p) (h.2 p)) 0

/-- and the second. -/
theorem sorted_second {n : ℕ} (f : Fin (n + 2) → EReal) {i i' : Fin (n + 2)} (h : IsFirst f i) (h' : IsFirst (drop f i) i') (hne : i' ≠ i) :
    sortedFrom (above f) 1 = i' := by
  rw [sorted_above]
  have hp : ∀ p, p ≠ i → drop f i p = f p := fun p hp => if_neg hp
  refine (strict f).sortedFrom_eq_of_prefix (k := 2) (by omega) ![i, i'] (fun a b hab => ?_) (fun a b hab => ?_) (fun a p hout => ?_) 1
  · fin_cases a <;> fin_cases b <;> simp_all
  · fin_cases a <;> fin_cases b <;> first | exact absurd hab (by decide) | exact not_above (h.1 i') (h.2 i')
  · fin_cases a
    · exact not_above (h.1 p) (h.2 p)
    · have h0 : p ≠ i := fun q => hout 0 q.symm
      have h1 := h'.1 p
      have h2 := h'.2 p
      rw [hp p h0, hp i' hne] at h1 h2
      exact not_above h1 h2

end Cert.Outproj

end
-- ==== Proof.OutprojRefRoute.lean ====
/- The reference's routing entry by entry. -/
module

public import proofs.«01_k».proof.Proof.OutprojTopK
public import proofs.«01_k».proof.Proof.Gen.Reference2Ideal.Run

@[expose] public section

set_option maxRecDepth 16384

noncomputable section

namespace Cert.Reference2Ideal.Outproj

open Cert.Reference2Ideal Cert.Reference2Ideal.Gen Cert.Outproj
open Idealize.ShloMosaic Idealize.ShloMosaic.TcCoe Idealize.SL.Sem

theorem topK_apply {n k : ℕ} (x : (⟨2, ![8192, n]⟩ : Shape).Idx → Ideal .f32) (h : (⟨2, ![8192, n]⟩ : Shape).Slices (fun _ => 0) ⟨2, ![8192, k]⟩)
    (r : Fin 8192) (j : Fin k) (hj : j.val < n) :
    (Host.topK ⟨2, ![8192, k]⟩ 1 (FloatOps.cmpfTotal .gt) x h).1 (ix2 r j) = x (ix2 r (sortedFrom (above fun l => x (ix2 r l)) ⟨j.val, hj⟩))
    ∧ (Host.topK ⟨2, ![8192, k]⟩ 1 (FloatOps.cmpfTotal .gt) x h).2 (ix2 r j) = BitVec.ofNat 32 (sortedFrom (above fun l => x (ix2 r l)) ⟨j.val, hj⟩).val := by
  have hidx : (fun a => (⟨0 + ((ix2 r j : (⟨2, ![8192, k]⟩ : Shape).Idx) (a.cast h.1.symm)).val, Nat.lt_of_lt_of_le (Nat.add_lt_add_left (Fin.isLt _) _) (h.2 a)⟩ : Fin ((⟨2, ![8192, n]⟩ : Shape).size a)))
      = (ix2 r ⟨j.val, hj⟩ : (⟨2, ![8192, n]⟩ : Shape).Idx) := by
    funext a
    match a with
    | ⟨0, _⟩ => exact Fin.ext (Nat.zero_add _)
    | ⟨1, _⟩ => exact Fin.ext (Nat.zero_add _)
  have hal : ∀ k' : Fin n, Shape.Idx.along (s := ⟨2, ![8192, n]⟩) (ix2 r ⟨j.val, hj⟩) (1 : Fin 2) k' = ix2 r k' := by
    intro k'
    funext a
    match a with
    | ⟨0, _⟩ => rfl
    | ⟨1, _⟩ => rfl
  have hw : (fun l : Fin n => x (Shape.Idx.along (s := ⟨2, ![8192, n]⟩) (ix2 r ⟨j.val, hj⟩) (1 : Fin 2) l)) = fun l => x (ix2 r l) :=
    funext fun l => congrArg x (hal l)
  unfold Host.topK Host.sort2 extractStridedSlice
  simp only [hidx]
  constructor
  · exact (congrArg x (hal (sortedFrom (above fun l => x (Shape.Idx.along (s := ⟨2, ![8192, n]⟩) (ix2 r ⟨j.val, hj⟩) (1 : Fin 2) l)) ⟨j.val, hj⟩))).trans
      (congrArg (fun q : Fin n → EReal => x (ix2 r (sortedFrom (above q) ⟨j.val, hj⟩))) hw)
  · exact congrArg (fun q : Fin n → EReal => BitVec.ofNat 32 (sortedFrom (above q) ⟨j.val, hj⟩).val) hw

/-- The chosen groups' experts' logits. -/
def chosen (e : FVec Ideal S8192x32 .f32) (i : IVec S8192x1x1 32) : FVec Ideal S8192x1x8 .f32 :=
  Host.gather gather_S8192x4x8_S8192x1x1_S8192x1x8_2_1_0_0_1_2_118 (shapeCast S8192x4x8 e shapeCasts_S8192x32_S8192x4x8) i

theorem chosen_apply (e : FVec Ideal S8192x32 .f32) (i : IVec S8192x1x1 32) (r : Fin 8192) (a : Fin 4) (hi : i (ix3 r 0 0) = BitVec.ofNat 32 a.val) (j : Fin 8) :
    chosen e i (ix3 r 0 j) = e (ix2 r ⟨8 * a.val + j.val, by have := a.isLt; have := j.isLt; omega⟩) := by
  have ha := a.isLt
  have hj := j.isLt
  have hsi : ∀ q, gather_S8192x4x8_S8192x1x1_S8192x1x8_2_1_0_0_1_2_118.siIdx (ix3 r 0 j) q = ix3 r 0 0 := by
    intro q
    funext b
    match b with
    | ⟨0, _⟩ => rfl
    | ⟨1, _⟩ => rfl
    | ⟨2, _⟩ => exact Subsingleton.elim (α := Fin 1) _ _
  have hix : gather_S8192x4x8_S8192x1x1_S8192x1x8_2_1_0_0_1_2_118.operandIdx (ix3 r 0 j) i = ix3 r a j := by
    funext b
    apply Fin.ext
    match b with
    | ⟨0, _⟩ => exact (Nat.zero_add _ : 0 + (r.val + 0) = r.val)
    | ⟨1, _⟩ =>
      refine (show _ = min (i (gather_S8192x4x8_S8192x1x1_S8192x1x8_2_1_0_0_1_2_118.siIdx (ix3 r 0 j) ⟨0, by decide⟩)).toInt.toNat 3 from rfl).trans ?_
      rw [hsi, hi, toInt_ofNat_lt (by omega)]
      show min ((a.val : ℤ).toNat) 3 = a.val
      rw [Int.toNat_natCast]
      omega
    | ⟨2, _⟩ => exact (Nat.zero_add _ : 0 + j.val = j.val)
  unfold chosen Host.gather
  rw [hix]
  pointwise []
  exact congrArg (fun q => e (ix2 r q)) (Fin.ext (by show a.val * 8 + j.val = 8 * a.val + j.val; omega))

/-- Whether a group's number is one of the four. -/
def inRange (i : IVec S8192x1x1 32) : IVec S8192x1x8 1 :=
  broadcastInDim S8192x1x8 ![0, 1] bcast_S8192x1_S8192x1x8_0_1 (Host.reduce IntOp.andi
    (andi (cmpi .sge i (broadcastInDim S8192x1x1 ![] bcast_S_S8192x1x1 (constantI S_ 32 0#32)))
      (cmpi .sle i (broadcastInDim S8192x1x1 ![0, 1, 2] bcast_S1x1x1_S8192x1x1_0_1_2 (broadcastInDim S1x1x1 ![2] bcast_S1_S1x1x1_2 (constantI S1 32 3#32)))))
    (constantI S_ 1 1#1) reducesTo_S8192x1x1_S8192x1_d2 h_S_)

theorem inRange_apply (i : IVec S8192x1x1 32) (r : Fin 8192) (a : Fin 4) (hi : i (ix3 r 0 0) = BitVec.ofNat 32 a.val) (j : Fin 8) :
    inRange i (ix3 r 0 j) = 1#1 := by
  refine (show _ = Finset.univ.fold IntOp.andi (1#1) (fun x : Fin 1 => IntOp.andi (IntOp.cmpi .sge (i (ix3 r 0 x)) 0#32) (IntOp.cmpi .sle (i (ix3 r 0 x)) 3#32)) from ?_).trans ?_
  · pointwise [inRange]
  · rw [Finset.univ_unique, Finset.fold_singleton]
    rw [show (default : Fin 1) = 0 from rfl, hi]
    exact (by decide : ∀ a : Fin 4, IntOp.andi (IntOp.andi (IntOp.cmpi .sge (BitVec.ofNat 32 a.val) 0#32) (IntOp.cmpi .sle (BitVec.ofNat 32 a.val) 3#32)) (1#1) = 1#1) a

section

variable {F : FTy → Type} [FloatOps F]

/-- The exponentials of a row of four less its greatest, -/
def expo4 (z : FVec F S8192x4 .f32) : FVec F S8192x4 .f32 :=
  Host.exp (subf z (broadcastInDim S8192x4 ![0, 1] bcast_S8192x1_S8192x4_0_1 (broadcastInDim S8192x1 ![0] bcast_S8192_S8192x1_0
    (maximumf (broadcastInDim S8192 ![] bcast_S_S8192 (constant S_ .f32 0xFF800000#32))
      (Host.reduce FloatOps.maximumf z (constant S_ .f32 0xFF800000#32) reducesTo_S8192x4_S8192_d1 h_S_)))))

/-- their shares of their sum, -/
def share4 (x : FVec F S8192x4 .f32) : FVec F S8192x4 .f32 :=
  Host.divf x (broadcastInDim S8192x4 ![0, 1] bcast_S8192x1_S8192x4_0_1 (broadcastInDim S8192x1 ![0] bcast_S8192_S8192x1_0
    (Host.reduceAdd x (constant S_ .f32 0x00000000#32) reducesTo_S8192x4_S8192_d1 h_S_)))

/-- the number of the greatest, -/
def number (p : FVec F S8192x4 .f32) : IVec S8192x1 32 := (Host.topK S8192x1 1 (FloatOps.cmpfTotal .gt) p sliceFits_S8192x4_S8192x1).2

/-- with the negative numbers counted from the end, -/
def wrapped (i : IVec S8192x1x1 32) : IVec S8192x1x1 32 :=
  select (cmpi .slt i (broadcastInDim S8192x1x1 ![] bcast_S_S8192x1x1 (constantI S_ 32 0#32))) (addi i (broadcastInDim S8192x1x1 ![] bcast_S_S8192x1x1 (constantI S_ 32 4#32))) i

/-- the exponentials of a row of two less its greatest, -/
def expo2 (z : FVec F S8192x2 .f32) : FVec F S8192x2 .f32 :=
  Host.exp (subf z (broadcastInDim S8192x2 ![0, 1] bcast_S8192x1_S8192x2_0_1 (broadcastInDim S8192x1 ![0] bcast_S8192_S8192x1_0
    (maximumf (broadcastInDim S8192 ![] bcast_S_S8192 (constant S_ .f32 0xFF800000#32))
      (Host.reduce FloatOps.maximumf z (constant S_ .f32 0xFF800000#32) reducesTo_S8192x2_S8192_d1 h_S_)))))

/-- and their shares. -/
def share2 (x : FVec F S8192x2 .f32) : FVec F S8192x2 .f32 :=
  Host.divf x (broadcastInDim S8192x2 ![0, 1] bcast_S8192x1_S8192x2_0_1 (broadcastInDim S8192x1 ![0] bcast_S8192_S8192x1_0
    (Host.reduceAdd x (constant S_ .f32 0x00000000#32) reducesTo_S8192x2_S8192_d1 h_S_)))

end

theorem neg_inf : Ideal.ofBits .f32 0xFF800000#32 = ⊥ := by simp [Ideal.ofBits, Ideal.ieee]

theorem expo4_apply (z : FVec Ideal S8192x4 .f32) (r : Fin 8192) {a : Fin 4} (h : IsFirst (fun j => z (ix2 r j)) a) (j : Fin 4) :
    expo4 z (ix2 r j) = Ideal.exp (z (ix2 r j) - z (ix2 r a)) := by
  rw [← fold_max h.1, ← max_eq_right (bot_le : ⊥ ≤ Finset.univ.fold max ⊥ (fun j => z (ix2 r j))), ← neg_inf]
  pointwise [expo4]

theorem share4_apply (x : FVec Ideal S8192x4 .f32) (r : Fin 8192) (j : Fin 4) : share4 x (ix2 r j) = Ideal.div (x (ix2 r j)) (∑ k, x (ix2 r k)) := by
  pointwise [share4]

theorem expo2_apply (z : FVec Ideal S8192x2 .f32) (r : Fin 8192) {a : Fin 2} (h : IsFirst (fun j => z (ix2 r j)) a) (j : Fin 2) :
    expo2 z (ix2 r j) = Ideal.exp (z (ix2 r j) - z (ix2 r a)) := by
  rw [← fold_max h.1, ← max_eq_right (bot_le : ⊥ ≤ Finset.univ.fold max ⊥ (fun j => z (ix2 r j))), ← neg_inf]
  pointwise [expo2]

theorem share2_apply (x : FVec Ideal S8192x2 .f32) (r : Fin 8192) (j : Fin 2) : share2 x (ix2 r j) = Ideal.div (x (ix2 r j)) (∑ k, x (ix2 r k)) := by
  pointwise [share2]

theorem wrapped_apply (i : IVec S8192x1x1 32) (r : Fin 8192) (a : Fin 4) (hi : i (ix3 r 0 0) = BitVec.ofNat 32 a.val) :
    wrapped i (ix3 r 0 0) = BitVec.ofNat 32 a.val := by
  refine (show _ = Scalar.select (IntOp.cmpi .slt (i (ix3 r 0 0)) 0#32) (IntOp.addi (i (ix3 r 0 0)) 4#32) (i (ix3 r 0 0)) from ?_).trans ?_
  · pointwise [wrapped]
  · rw [hi]
    exact (by decide : ∀ a : Fin 4, Scalar.select (IntOp.cmpi .slt (BitVec.ofNat 32 a.val) 0#32) (IntOp.addi (BitVec.ofNat 32 a.val) 4#32) (BitVec.ofNat 32 a.val) = BitVec.ofNat 32 a.val) a

/-- The chosen group's experts, if it is one of the four, -/
def picked (e : FVec Ideal S8192x32 .f32) (w : IVec S8192x1x1 32) : FVec Ideal S8192x8 .f32 :=
  shapeCast S8192x8 (select (inRange w) (chosen e w) (broadcastInDim S8192x1x8 ![] bcast_S_S8192x1x8 (constant S_ .f32 0x7FC00000#32))) shapeCasts_S8192x1x8_S8192x8

theorem picked_apply (e : FVec Ideal S8192x32 .f32) (w : IVec S8192x1x1 32) (r : Fin 8192) (a : Fin 4) (hi : w (ix3 r 0 0) = BitVec.ofNat 32 a.val) (j : Fin 8) :
    picked e w (ix2 r j) = pick (fun k => e (ix2 r k)) a j := by
  refine (show _ = Scalar.select (inRange w (ix3 r 0 j)) (chosen e w (ix3 r 0 j)) (Ideal.ofBits .f32 0x7FC00000#32) from ?_).trans ?_
  · unfold picked
    generalize inRange w = x
    generalize chosen e w = y
    pointwise []
  · rw [inRange_apply w r a hi, chosen_apply e w r a hi]
    exact if_pos rfl

/-- the lanes from the group's number and probability and the two experts' places and logits. -/
def assemble (g : IVec S8192x1 32) (p : FVec Ideal S8192x1 .f32) (i : IVec S8192x2 32) (s : FVec Ideal S8192x2 .f32) : FVec Ideal S8192x128 .f32 :=
  concatenate S8192x128 1 [⟨S8192x2, sitofp .f32 (addi (broadcastInDim S8192x2 ![0, 1] bcast_S8192x1_S8192x2_0_1
        (muli g (broadcastInDim S8192x1 ![] bcast_S_S8192x1 (constantI S_ 32 8#32)))) i)⟩,
      ⟨S8192x2, mulf (broadcastInDim S8192x2 ![0, 1] bcast_S8192x1_S8192x2_0_1 p) s⟩,
      ⟨S8192x124, broadcastInDim S8192x124 ![] bcast_S_S8192x124 (constant S_ .f32 0x00000000#32)⟩] concatenates_S8192x2_S8192x2_S8192x124_S8192x128_d1

theorem assemble_apply (g : IVec S8192x1 32) (p : FVec Ideal S8192x1 .f32) (i : IVec S8192x2 32) (s : FVec Ideal S8192x2 .f32) (r : Fin 8192) (l : Fin 128) :
    assemble g p i s (ix2 r l)
      = if h : l.val < 2 then (((IntOp.addi (IntOp.muli (g (ix2 r 0)) 8#32) (i (ix2 r ⟨l.val, h⟩))).toInt : ℝ) : EReal)
        else if h : l.val - 2 < 2 then p (ix2 r 0) * s (ix2 r ⟨l.val - 2, h⟩) else 0 := by
  pointwise [assemble]
  rfl

/-- The reference's lanes from the logits. -/
def routed (z : FVec Ideal S8192x4 .f32) (e : FVec Ideal S8192x32 .f32) : FVec Ideal S8192x128 .f32 :=
  assemble (number (share4 (expo4 z))) (Host.topK S8192x1 1 (FloatOps.cmpfTotal .gt) (share4 (expo4 z)) sliceFits_S8192x4_S8192x1).1
    (Host.topK S8192x2 1 (FloatOps.cmpfTotal .gt)
      (picked e (wrapped (broadcastInDim S8192x1x1 ![0, 1] bcast_S8192x1_S8192x1x1_0_1 (number (share4 (expo4 z)))))) sliceFits_S8192x8_S8192x2).2
    (share2 (expo2 (Host.topK S8192x2 1 (FloatOps.cmpfTotal .gt)
      (picked e (wrapped (broadcastInDim S8192x1x1 ![0, 1] bcast_S8192x1_S8192x1x1_0_1 (number (share4 (expo4 z)))))) sliceFits_S8192x8_S8192x2).1))

theorem word : ∀ (a : Fin 4) (b : Fin 8), (IntOp.addi (IntOp.muli (BitVec.ofNat 32 a.val) 8#32) (BitVec.ofNat 32 b.val)).toInt = ((8 * a.val + b.val : ℕ) : ℤ) := by
  decide +kernel

/-- The group's number and its probability. -/
theorem group_eq (z : FVec Ideal S8192x4 .f32) (r : Fin 8192) (x : Fin 4 → ℝ) (hx : ∀ j, z (ix2 r j) = (x j : EReal)) :
    number (share4 (expo4 z)) (ix2 r 0) = BitVec.ofNat 32 (group fun j => (x j : EReal)).val
    ∧ (Host.topK S8192x1 1 (FloatOps.cmpfTotal .gt) (share4 (expo4 z)) sliceFits_S8192x4_S8192x1).1 (ix2 r 0) = prob fun j => (x j : EReal) := by
  have hf : IsFirst (fun j => (x j : EReal)) (group fun j => (x j : EReal)) := first_spec _
  have hz : IsFirst (fun j => z (ix2 r j)) (group fun j => (x j : EReal)) := by rw [funext hx]; exact hf
  generalize ha : group (fun j => (x j : EReal)) = a at hf hz ⊢
  have hrow : (fun j => share4 (expo4 z) (ix2 r j)) = fun j => Ideal.div (Ideal.exp ((x j : EReal) - x a)) (∑ k, Ideal.exp ((x k : EReal) - x a)) := by
    funext j
    rw [share4_apply]
    simp only [expo4_apply z r hz, hx]
  have hs : IsFirst (fun j => share4 (expo4 z) (ix2 r j)) a := by rw [hrow]; exact share_first x hf
  obtain ⟨h1, h2⟩ := topK_apply (k := 1) (share4 (expo4 z)) sliceFits_S8192x4_S8192x1 r 0 (by norm_num)
  have hsort : sortedFrom (above fun j => share4 (expo4 z) (ix2 r j)) ⟨(0 : Fin 1).val, by norm_num⟩ = a := sorted_first _ hs
  rw [hsort] at h1 h2
  refine ⟨h2, h1.trans ((congrFun hrow a).trans ?_)⟩
  unfold prob
  rw [ha, exp_self]

/-- A row of the reference's lanes from a row of real logits. -/
theorem routed_apply (z : FVec Ideal S8192x4 .f32) (e : FVec Ideal S8192x32 .f32) (r : Fin 8192) (x : Fin 4 → ℝ) (hx : ∀ j, z (ix2 r j) = (x j : EReal))
    (y : Fin 32 → ℝ) (hy : ∀ j, e (ix2 r j) = (y j : EReal)) (l : Fin 128) :
    routed z e (ix2 r l) = route (fun j => (x j : EReal)) (fun j => (y j : EReal)) l := by
  obtain ⟨hg, hp⟩ := group_eq z r x hx
  unfold routed
  generalize number (share4 (expo4 z)) = g at hg ⊢
  generalize (Host.topK S8192x1 1 (FloatOps.cmpfTotal .gt) (share4 (expo4 z)) sliceFits_S8192x4_S8192x1).1 = p at hp ⊢
  have hw : wrapped (broadcastInDim S8192x1x1 ![0, 1] bcast_S8192x1_S8192x1x1_0_1 g) (ix3 r 0 0) = BitVec.ofNat 32 (group fun j => (x j : EReal)).val :=
    wrapped_apply _ r _ (((show _ = g (ix2 r 0) by pointwise [])).trans hg)
  have hrow : (fun j => picked e (wrapped (broadcastInDim S8192x1x1 ![0, 1] bcast_S8192x1_S8192x1x1_0_1 g)) (ix2 r j))
      = pick (fun j => (y j : EReal)) (group fun j => (x j : EReal)) := by
    funext j
    rw [picked_apply e _ r _ hw j, funext hy]
  generalize picked e (wrapped (broadcastInDim S8192x1x1 ![0, 1] bcast_S8192x1_S8192x1x1_0_1 g)) = q at hrow ⊢
  have hb : ∀ k, (y k : EReal) ≠ ⊥ := fun k => EReal.coe_ne_bot _
  unfold route
  generalize group (fun j => (x j : EReal)) = a at hg hrow ⊢
  have h0 : sortedFrom (above fun j => q (ix2 r j)) 0 = best (fun j => (y j : EReal)) a := by
    rw [hrow]; exact sorted_first _ (first_spec _)
  have h1 : sortedFrom (above fun j => q (ix2 r j)) 1 = next (fun j => (y j : EReal)) a := by
    rw [hrow]; exact sorted_second _ (first_spec _) (first_spec _) (next_ne hb a).1
  obtain ⟨v0, i0⟩ := topK_apply (k := 2) q sliceFits_S8192x8_S8192x2 r 0 (by norm_num)
  obtain ⟨v1, i1⟩ := topK_apply (k := 2) q sliceFits_S8192x8_S8192x2 r 1 (by norm_num)
  have k0 : sortedFrom (above fun j => q (ix2 r j)) ⟨(0 : Fin 2).val, by norm_num⟩ = best (fun j => (y j : EReal)) a := h0
  have k1 : sortedFrom (above fun j => q (ix2 r j)) ⟨(1 : Fin 2).val, by norm_num⟩ = next (fun j => (y j : EReal)) a := h1
  rw [k0] at v0 i0
  rw [k1] at v1 i1
  replace v0 := v0.trans (congrFun hrow (best (fun j => (y j : EReal)) a))
  replace v1 := v1.trans (congrFun hrow (next (fun j => (y j : EReal)) a))
  have hle : pick (fun j => (y j : EReal)) a (next (fun j => (y j : EReal)) a) ≤ pick (fun j => (y j : EReal)) a (best (fun j => (y j : EReal)) a) :=
    (first_spec (pick (fun j => (y j : EReal)) a)).1 _
  have hfirst : IsFirst (fun j => (Host.topK S8192x2 1 (FloatOps.cmpfTotal .gt) q sliceFits_S8192x8_S8192x2).1 (ix2 r j)) 0 := by
    refine ⟨fun j => ?_, fun j hj => absurd hj (Fin.not_lt_zero j)⟩
    fin_cases j
    · exact le_rfl
    · exact v1.trans_le (hle.trans_eq v0.symm)
  have x0 := expo2_apply _ r hfirst 0
  have x1 := expo2_apply _ r hfirst 1
  rw [v0] at x0 x1
  rw [v1] at x1
  replace x0 : _ = (1 : EReal) := x0.trans (exp_self _)
  replace x1 : _ = odds (fun j => (y j : EReal)) a := x1
  generalize (Host.topK S8192x2 1 (FloatOps.cmpfTotal .gt) q sliceFits_S8192x8_S8192x2).1 = t at x0 x1 ⊢
  generalize (Host.topK S8192x2 1 (FloatOps.cmpfTotal .gt) q sliceFits_S8192x8_S8192x2).2 = i at i0 i1 ⊢
  have s0 := share2_apply (expo2 t) r 0
  have s1 := share2_apply (expo2 t) r 1
  rw [Fin.sum_univ_two, x0, x1] at s0 s1
  have hne : 1 + odds (fun j => (y j : EReal)) a ≠ 0 := one_add_exp _ _
  rw [assemble_apply]
  by_cases l0 : l.val = 0
  · rw [if_pos l0, dif_pos (by omega), hg, show (⟨l.val, by omega⟩ : Fin 2) = 0 from Fin.ext l0, i0, word]
    norm_cast
  rw [if_neg l0]
  by_cases l1 : l.val = 1
  · rw [if_pos l1, dif_pos (by omega), hg, show (⟨l.val, by omega⟩ : Fin 2) = 1 from Fin.ext l1, i1, word]
    norm_cast
  rw [if_neg l1, dif_neg (by omega)]
  by_cases l2 : l.val = 2
  · rw [if_pos l2, dif_pos (by omega), hp, show (⟨l.val - 2, by omega⟩ : Fin 2) = 0 from Fin.ext (by show l.val - 2 = 0; omega), s0, mul_div hne, mul_one]
  rw [if_neg l2]
  by_cases l3 : l.val = 3
  · rw [if_pos l3, dif_pos (by omega), hp, show (⟨l.val - 2, by omega⟩ : Fin 2) = 1 from Fin.ext (by show l.val - 2 = 1; omega), s1, mul_div hne]
  rw [if_neg l3, dif_neg (by omega)]

end Cert.Reference2Ideal.Outproj

end
-- ==== Proof.OutprojRef.lean ====
/- The output projection's reference: its residual stream, its normalized rows and its logits entry by entry, and its run. -/
module

public import proofs.«01_k».proof.Proof.OutprojRows
public import proofs.«01_k».proof.Proof.OutprojRefRoute

@[expose] public section

set_option maxRecDepth 16384

noncomputable section

namespace Cert.Reference2Ideal.Outproj

open Cert.Reference2Ideal Cert.Reference2Ideal.Gen Cert.Reference2Ideal.Value Cert.Outproj
open Idealize.ShloMosaic Idealize.ShloMosaic.TcCoe Idealize.SL.Sem

/-- GELU of the recurrence's columns, -/
def act (u : FVec Ideal S4x2048x1024 .f32) : FVec Ideal S4x2048x1024 .f32 :=
  mulf u (mulf (broadcastInDim S4x2048x1024 ![] bcast_S_S4x2048x1024 (constant S_ .f32 0x3F000000#32))
    (addf (broadcastInDim S4x2048x1024 ![] bcast_S_S4x2048x1024 (constant S_ .f32 0x3F800000#32))
      (Host.tanh (mulf (broadcastInDim S4x2048x1024 ![] bcast_S_S4x2048x1024 (constant S_ .f32 0x3F4C422A#32))
        (addf u (mulf (broadcastInDim S4x2048x1024 ![] bcast_S_S4x2048x1024 (constant S_ .f32 0x3D372713#32)) (mulf (mulf u u) u)))))))

/-- a gate, -/
def gate (v : FVec Ideal S4x2048x2048 .f32) : FVec Ideal S4x2048x2048 .f32 :=
  Host.divf (broadcastInDim S4x2048x2048 ![] bcast_S_S4x2048x2048 (constant S_ .f32 0x3F800000#32))
    (addf (broadcastInDim S4x2048x2048 ![] bcast_S_S4x2048x2048 (constant S_ .f32 0x3F800000#32)) (Host.exp (Host.negf v)))

/-- a projection of 1024 columns, -/
def proj (a : FVec Ideal S4x2048x1024 .f32) (w : Vec Ideal S1x1024x2048 .f32) : FVec Ideal S4x2048x2048 .f32 :=
  Host.dotGeneral (F := Ideal) (φ₁ := .f32) (φ₂ := .f32) dot_S4x2048x1024_S1024x2048_S4x2048x2048_2_0_01_1_n_n none a (shapeCast S1024x2048 w shapeCasts_S1x1024x2048_S1024x2048)

/-- the two branches mixed, -/
def mixed (ya yb hr : Vec Ideal S4x2048x1024 .bf16) (u : Vec Ideal S4x2048x11264 .bf16) (wa wb : Vec Ideal S1x1024x2048 .f32) : FVec Ideal S4x2048x2048 .f32 :=
  addf (mulf (gate (extf .f32 (extractStridedSlice S4x2048x2048 ![0, 0, 7168] u slices_S4x2048x11264_S4x2048x2048_0_0_7168) bitsLt_bf16_f32))
      (proj (addf (extf .f32 ya bitsLt_bf16_f32) (extf .f32 yb bitsLt_bf16_f32)) wa))
    (mulf (gate (extf .f32 (extractStridedSlice S4x2048x2048 ![0, 0, 9216] u slices_S4x2048x11264_S4x2048x2048_0_0_9216) bitsLt_bf16_f32))
      (proj (mulf (extf .f32 hr bitsLt_bf16_f32) (act (extf .f32 (extractStridedSlice S4x2048x1024 ![0, 0, 6144] u slices_S4x2048x11264_S4x2048x1024_0_0_6144) bitsLt_bf16_f32))) wb))

/-- the residual stream with the mix projected, -/
def stream (mx : FVec Ideal S4x2048x2048 .f32) (x : Vec Ideal S4x2048x2048 .f32) (g : Vec Ideal S4x1x2048 .f32) (wo : Vec Ideal S1x2048x2048 .f32) :
    FVec Ideal S4x2048x2048 .f32 :=
  addf x (mulf (broadcastInDim S4x2048x2048 ![0, 1, 2] bcast_S4x1x2048_S4x2048x2048_0_1_2 g)
    (Host.dotGeneral (F := Ideal) (φ₁ := .f32) (φ₂ := .f32) dot_S4x2048x2048_S2048x2048_S4x2048x2048_2_0_01_1_n_n none mx (shapeCast S2048x2048 wo shapeCasts_S1x2048x2048_S2048x2048)))

/-- and its rows normalized and modulated. -/
def normed (x : FVec Ideal S4x2048x2048 .f32) (n2 : Vec Ideal S1x2048 .f32) (sc sh : Vec Ideal S4x1x2048 .f32) : FVec Ideal S8192x2048 .f32 :=
  shapeCast S8192x2048 (addf (mulf (mulf (mulf x (broadcastInDim S4x2048x2048 ![0, 1, 2] bcast_S4x2048x1_S4x2048x2048_0_1_2
        (Host.rsqrt (addf (Host.divf (broadcastInDim S4x2048x1 ![0, 1] bcast_S4x2048_S4x2048x1_0_1
            (Host.reduceAdd (mulf x x) (constant S_ .f32 0x00000000#32) reducesTo_S4x2048x2048_S4x2048_d2 h_S_))
          (broadcastInDim S4x2048x1 ![] bcast_S_S4x2048x1 (constant S_ .f32 0x45000000#32))) (broadcastInDim S4x2048x1 ![] bcast_S_S4x2048x1 (constant S_ .f32 0x358637BD#32))))))
      (broadcastInDim S4x2048x2048 ![0, 1, 2] bcast_S1x1x2048_S4x2048x2048_0_1_2 (broadcastInDim S1x1x2048 ![2] bcast_S2048_S1x1x2048_2 (shapeCast S2048 n2 shapeCasts_S1x2048_S2048))))
      (broadcastInDim S4x2048x2048 ![0, 1, 2] bcast_S4x1x2048_S4x2048x2048_0_1_2 (addf (broadcastInDim S4x1x2048 ![] bcast_S_S4x1x2048 (constant S_ .f32 0x3F800000#32)) sc)))
    (broadcastInDim S4x2048x2048 ![0, 1, 2] bcast_S4x1x2048_S4x2048x2048_0_1_2 sh)) shapeCasts_S4x2048x2048_S8192x2048

/-- The logits of the groups and of the experts. -/
def gLogits (h : FVec Ideal S8192x2048 .f32) (w : Vec Ideal S1x2048x4 .f32) : FVec Ideal S8192x4 .f32 :=
  Host.dotGeneral (F := Ideal) (φ₁ := .f32) (φ₂ := .f32) dot_S8192x2048_S2048x4_S8192x4_1_0_0_1_n_n none h (shapeCast S2048x4 w shapeCasts_S1x2048x4_S2048x4)
def eLogits (h : FVec Ideal S8192x2048 .f32) (w : Vec Ideal S1x2048x32 .f32) : FVec Ideal S8192x32 .f32 :=
  Host.dotGeneral (F := Ideal) (φ₁ := .f32) (φ₂ := .f32) dot_S8192x2048_S2048x32_S8192x32_1_0_0_1_n_n none h (shapeCast S2048x32 w shapeCasts_S1x2048x32_S2048x32)

theorem proj_apply (a : FVec Ideal S4x2048x1024 .f32) (w : Vec Ideal S1x1024x2048 .f32) (b : Fin 4) (r n : Fin 2048) :
    proj a w (ix3 b r n) = ∑ k, a (ix3 b r k) * w (ix3 0 k n) := by
  pointwise [proj]

theorem act_apply (u : FVec Ideal S4x2048x1024 .f32) (b : Fin 4) (r : Fin 2048) (k : Fin 1024) : act u (ix3 b r k) = gelu (u (ix3 b r k)) := by
  pointwise [act, gelu]

theorem gate_apply (v : FVec Ideal S4x2048x2048 .f32) (b : Fin 4) (r n : Fin 2048) : gate v (ix3 b r n) = Ideal.logistic (v (ix3 b r n)) := by
  pointwise [gate, Ideal.logistic]

theorem mixed_apply (ya yb hr : Vec Ideal S4x2048x1024 .bf16) (u : Vec Ideal S4x2048x11264 .bf16) (wa wb : Vec Ideal S1x1024x2048 .f32) (b : Fin 4) (r n : Fin 2048) :
    mixed ya yb hr u wa wb (ix3 b r n)
      = mix (fun n => u (ix3 b r ⟨7168 + n.val, by have := n.isLt; omega⟩)) (fun n => u (ix3 b r ⟨9216 + n.val, by have := n.isLt; omega⟩))
          (projA (fun k => ya (ix3 b r k)) (fun k => yb (ix3 b r k)) fun k n => wa (ix3 0 k n))
          (projB (fun k => u (ix3 b r ⟨6144 + k.val, by have := k.isLt; omega⟩)) (fun k => hr (ix3 b r k)) fun k n => wb (ix3 0 k n)) n := by
  unfold mixed mix projA projB
  show gate _ (ix3 b r n) * proj _ _ (ix3 b r n) + gate _ (ix3 b r n) * proj _ _ (ix3 b r n) = _
  rw [gate_apply, gate_apply, proj_apply, proj_apply]
  have e : ∀ k : Fin 1024, (mulf (extf .f32 hr bitsLt_bf16_f32) (act (extf .f32 (extractStridedSlice S4x2048x1024 ![0, 0, 6144] u slices_S4x2048x11264_S4x2048x1024_0_0_6144) bitsLt_bf16_f32)) : FVec Ideal S4x2048x1024 .f32) (ix3 b r k)
      = hr (ix3 b r k) * gelu (u (ix3 b r ⟨6144 + k.val, by have := k.isLt; omega⟩)) := fun k => by
    refine (show _ = hr (ix3 b r k) * act (extf .f32 (extractStridedSlice S4x2048x1024 ![0, 0, 6144] u slices_S4x2048x11264_S4x2048x1024_0_0_6144) bitsLt_bf16_f32) (ix3 b r k) from rfl).trans ?_
    rw [act_apply]
    pointwise []
  simp only [e]
  pointwise []

theorem stream_apply (mx : FVec Ideal S4x2048x2048 .f32) (x : Vec Ideal S4x2048x2048 .f32) (g : Vec Ideal S4x1x2048 .f32) (wo : Vec Ideal S1x2048x2048 .f32)
    (b : Fin 4) (r n : Fin 2048) :
    stream mx x g wo (ix3 b r n) = resid (fun n => x (ix3 b r n)) (fun n => g (ix3 b 0 n)) (fun n => mx (ix3 b r n)) (fun k n => wo (ix3 0 k n)) n := by
  pointwise [stream, resid]

theorem normed_apply (x : FVec Ideal S4x2048x2048 .f32) (n2 : Vec Ideal S1x2048 .f32) (sc sh : Vec Ideal S4x1x2048 .f32) (b : Fin 4) (r n : Fin 2048)
    (q : Fin 8192) (hq : q.val = b.val * 2048 + r.val) :
    normed x n2 sc sh (ix2 q n) = hid (fun n => x (ix3 b r n)) (fun n => n2 (ix2 0 n) * (Ideal.ofBits .f32 0x3F800000#32 + sc (ix3 b 0 n))) (fun n => sh (ix3 b 0 n)) n := by
  have hb := b.isLt
  have hr := r.isLt
  have e0 : (⟨q.val / 2048, by have := q.isLt; omega⟩ : Fin 4) = b := Fin.ext (by show q.val / 2048 = b.val; omega)
  have e1 : (⟨q.val % 2048, by omega⟩ : Fin 2048) = r := Fin.ext (by show q.val % 2048 = r.val; omega)
  unfold hid
  rw [← mul_assoc]
  pointwise [normed]
  simp only [e0, e1]

theorem gLogits_apply (h : FVec Ideal S8192x2048 .f32) (w : Vec Ideal S1x2048x4 .f32) (q : Fin 8192) (j : Fin 4) :
    gLogits h w (ix2 q j) = logit (fun k => h (ix2 q k)) (fun k j => w (ix3 0 k j)) j := by
  pointwise [gLogits, logit]

theorem eLogits_apply (h : FVec Ideal S8192x2048 .f32) (w : Vec Ideal S1x2048x32 .f32) (q : Fin 8192) (j : Fin 32) :
    eLogits h w (ix2 q j) = logit (fun k => h (ix2 q k)) (fun k j => w (ix3 0 k j)) j := by
  pointwise [eLogits, logit]

end Cert.Reference2Ideal.Outproj

end
-- ==== Proof.OutprojReal.lean ====
/- Real arguments make real rows. -/
module

public import proofs.«01_k».proof.Proof.OutprojRows

@[expose] public section

noncomputable section

namespace Cert.Outproj

open Idealize.ShloMosaic

/-- A value that is neither infinity. -/
def IsReal (x : EReal) : Prop := ∃ r : ℝ, x = (r : EReal)

theorem IsReal.ne_bot {x : EReal} (h : IsReal x) : x ≠ ⊥ := by obtain ⟨r, rfl⟩ := h; exact EReal.coe_ne_bot r

theorem IsReal.add {x y : EReal} (hx : IsReal x) (hy : IsReal y) : IsReal (x + y) := by
  obtain ⟨r, rfl⟩ := hx
  obtain ⟨q, rfl⟩ := hy
  exact ⟨r + q, (EReal.coe_add r q).symm⟩

theorem IsReal.mul {x y : EReal} (hx : IsReal x) (hy : IsReal y) : IsReal (x * y) := by
  obtain ⟨r, rfl⟩ := hx
  obtain ⟨q, rfl⟩ := hy
  exact ⟨r * q, (EReal.coe_mul r q).symm⟩

theorem IsReal.sub_self {x : EReal} (hx : IsReal x) : x - x = 0 := by
  obtain ⟨r, rfl⟩ := hx
  rw [← EReal.coe_sub, _root_.sub_self, EReal.coe_zero]

theorem IsReal.sum {n : ℕ} {f : Fin n → EReal} (h : ∀ k, IsReal (f k)) : IsReal (∑ k, f k) :=
  Finset.sum_induction f IsReal (fun _ _ => IsReal.add) ⟨0, EReal.coe_zero.symm⟩ fun k _ => h k

theorem IsReal.tanh {x : EReal} (hx : IsReal x) : IsReal (Ideal.tanh x) := by
  obtain ⟨r, rfl⟩ := hx
  exact ⟨_, Ideal.tanh_coe r⟩

theorem IsReal.logistic {x : EReal} (hx : IsReal x) : IsReal (Ideal.logistic x) := by
  obtain ⟨r, rfl⟩ := hx
  exact ⟨_, Ideal.logistic_coe r⟩

theorem real_half : IsReal (Ideal.ofBits .f32 0x3F000000#32) := ⟨_, half⟩
theorem real_one : IsReal (Ideal.ofBits .f32 0x3F800000#32) := by simp only [Ideal.ofBits, Ideal.ieee]; exact ⟨_, rfl⟩
theorem real_inner : IsReal (Ideal.ofBits .f32 0x3F4C422A#32) := by simp only [Ideal.ofBits, Ideal.ieee]; exact ⟨_, rfl⟩
theorem real_cubic : IsReal (Ideal.ofBits .f32 0x3D372713#32) := by simp only [Ideal.ofBits, Ideal.ieee]; exact ⟨_, rfl⟩
theorem width : Ideal.ofBits .f32 0x45000000#32 = ((2048 : ℝ) : EReal) := by simp [Ideal.ofBits, Ideal.ieee, -EReal.coe_mul]; norm_num
theorem eps_pos : ∃ r : ℝ, 0 < r ∧ Ideal.ofBits .f32 0x358637BD#32 = (r : EReal) := by
  refine ⟨8796093 * 2 ^ (-43 : ℤ), by positivity, ?_⟩
  simp [Ideal.ofBits, Ideal.ieee, -EReal.coe_mul]

theorem IsReal.gelu {u : EReal} (h : IsReal u) : IsReal (gelu u) :=
  h.mul (real_half.mul (real_one.add (IsReal.tanh (real_inner.mul (h.add (real_cubic.mul ((h.mul h).mul h)))))))

/-- The scale of a real row is real: a mean of squares plus a positive constant is positive. -/
theorem real_scale {x : Fin 2048 → EReal} (h : ∀ j, IsReal (x j)) :
    IsReal (Ideal.rsqrt (Ideal.div (∑ j, x j * x j) (Ideal.ofBits .f32 0x45000000#32) + Ideal.ofBits .f32 0x358637BD#32)) := by
  choose y hy using h
  obtain ⟨e, he, q⟩ := eps_pos
  have hs : (∑ j, x j * x j) = ((∑ j, y j * y j : ℝ) : EReal) := by
    rw [show ((∑ j, y j * y j : ℝ) : EReal) = ∑ j, ((y j * y j : ℝ) : EReal) from map_sum (⟨⟨Real.toEReal, EReal.coe_zero⟩, EReal.coe_add⟩ : ℝ →+ EReal) _ _]
    exact Finset.sum_congr rfl fun j _ => by rw [hy, EReal.coe_mul]
  rw [hs, q, width, Ideal.div_coe (by norm_num), ← EReal.coe_mul, ← EReal.coe_add, Ideal.rsqrt_coe]
  have p : 0 < (∑ j, y j * y j) * (1 / 2048) + e := by
    have := Finset.sum_nonneg fun (j : Fin 2048) (_ : j ∈ Finset.univ) => mul_self_nonneg (y j)
    positivity
  rw [if_neg (not_lt.mpr p.le), if_neg p.ne']
  exact ⟨_, rfl⟩

theorem real_x1Row {ya yb hr : Fin 1024 → EReal} {u : Fin 11264 → EReal} {x g : Fin 2048 → EReal} {wa wb : Fin 1024 → Fin 2048 → EReal} {wo : Fin 2048 → Fin 2048 → EReal}
    (hya : ∀ k, IsReal (ya k)) (hyb : ∀ k, IsReal (yb k)) (hhr : ∀ k, IsReal (hr k)) (hu : ∀ k, IsReal (u k)) (hx : ∀ k, IsReal (x k)) (hg : ∀ k, IsReal (g k))
    (hwa : ∀ k n, IsReal (wa k n)) (hwb : ∀ k n, IsReal (wb k n)) (hwo : ∀ k n, IsReal (wo k n)) (n : Fin 2048) : IsReal (x1Row ya yb hr u x g wa wb wo n) :=
  (hx n).add ((hg n).mul (IsReal.sum fun j => ((((hu _).logistic).mul (IsReal.sum fun k => ((hya k).add (hyb k)).mul (hwa k j))).add
    (((hu _).logistic).mul (IsReal.sum fun k => ((hhr k).mul (hu _).gelu).mul (hwb k j)))).mul (hwo j n)))

theorem real_hid {x gain shift : Fin 2048 → EReal} (hx : ∀ k, IsReal (x k)) (hg : ∀ k, IsReal (gain k)) (hs : ∀ k, IsReal (shift k)) (n : Fin 2048) :
    IsReal (hid x gain shift n) := (((hx n).mul (real_scale hx)).mul (hg n)).add (hs n)

theorem real_logit {n : ℕ} {h : Fin 2048 → EReal} {w : Fin 2048 → Fin n → EReal} (hh : ∀ k, IsReal (h k)) (hw : ∀ k j, IsReal (w k j)) (j : Fin n) : IsReal (logit h w j) :=
  IsReal.sum fun k => (hh k).mul (hw k j)

end Cert.Outproj

end
-- ==== Proof.OutprojFinite.lean ====
/- The precondition entry by entry: every argument of the output projection is real. -/
module

public import proofs.«01_k».proof.Pre_finite
public import proofs.«01_k».proof.Proof.OutprojReal
public import Idealize.ShloMosaic.Lib.ReduceAll
public import Idealize.ShloMosaic.Lib.Pointwise
public import Idealize.ShloMosaic.Lib.Decide

@[expose] public section

set_option maxRecDepth 16384

noncomputable section

namespace Cert.Pre_finite.Outproj

open Cert.Pre_finite Cert.Outproj
open Idealize.ShloMosaic Idealize.ShloMosaic.TcCoe

/-- The function's side conditions. -/
instance facts : Cert.Pre_finite.Facts where
  bitsLt_bf16_f32 := by decide
  bcast_S_S4x2048x1024 := by decide
  reducesTo_S4x2048x1024_S_d0_1_2 := by decide
  h_S_ := by decide
  bcast_S_S4x2048x11264 := by decide
  reducesTo_S4x2048x11264_S_d0_1_2 := by decide
  bcast_S_S4x2048x2048 := by decide
  reducesTo_S4x2048x2048_S_d0_1_2 := by decide
  bcast_S_S4x1x2048 := by decide
  reducesTo_S4x1x2048_S_d0_1_2 := by decide
  bcast_S_S1x2048 := by decide
  reducesTo_S1x2048_S_d0_1 := by decide
  bcast_S_S1x1024x2048 := by decide
  reducesTo_S1x1024x2048_S_d0_1_2 := by decide
  bcast_S_S1x2048x2048 := by decide
  reducesTo_S1x2048x2048_S_d0_1_2 := by decide
  bcast_S_S1x2048x4 := by decide
  reducesTo_S1x2048x4_S_d0_1_2 := by decide
  bcast_S_S1x2048x32 := by decide
  reducesTo_S1x2048x32_S_d0_1_2 := by decide

theorem pos_inf : Ideal.ofBits .f32 0x7F800000#32 = ⊤ := by simp [Ideal.ofBits, Ideal.ieee]

theorem real_of_lt (x : EReal) (h : Ideal.cmp .olt (max x (-x)) ⊤ = 1#1) : IsReal x := by
  have h : BitVec.ofBool (decide (max x (-x) < ⊤)) = 1#1 := h
  have hx : max x (-x) < ⊤ := by
    by_contra hn
    rw [decide_eq_false hn] at h
    exact absurd h (by decide)
  induction x using EReal.rec with
  | bot => exact absurd hx (by simp)
  | coe r => exact ⟨r, rfl⟩
  | top => exact absurd hx (by simp)

instance : Subsingleton S_.Idx := ⟨fun a b => funext fun x => x.elim0⟩

/-- One array's test. -/
theorem real_of_all {s : Shape} {axes : List (Fin s.rank)} (x : FVec Ideal s .f32) (hb : S_.BroadcastsInDim s (![] : Fin 0 → Fin s.rank)) (h : s.ReducesTo axes S_) (hu : 0 < S_.numel)
    (j : S_.Idx) (e : Host.reduce IntOp.andi (cmpf .olt (Host.absf x) (broadcastInDim s ![] hb (constant S_ .f32 0x7F800000#32 : FVec Ideal S_ .f32))) (constantI S_ 1 1#1) h hu j = 1#1)
    (i : s.Idx) : IsReal (x i) := by
  have q : Ideal.cmp .olt (max (x i) (-x i)) (Ideal.ofBits .f32 0x7F800000#32) = 1#1 := Host.reduce_andi_all _ _ h hu j e i
  rw [pos_inf] at q
  exact real_of_lt _ q

/-- What the precondition says. -/
structure Reals (a0 : FVec Ideal S4x2048x1024 .bf16) (a1 : FVec Ideal S4x2048x1024 .bf16) (a2 : FVec Ideal S4x2048x1024 .bf16) (a3 : FVec Ideal S4x2048x11264 .bf16) (a4 : FVec Ideal S4x2048x2048 .f32) (a5 : FVec Ideal S4x1x2048 .f32) (a6 : FVec Ideal S4x1x2048 .f32) (a7 : FVec Ideal S4x1x2048 .f32) (a8 : FVec Ideal S1x2048 .f32) (a9 : FVec Ideal S1x1024x2048 .f32) (a10 : FVec Ideal S1x1024x2048 .f32) (a11 : FVec Ideal S1x2048x2048 .f32) (a12 : FVec Ideal S1x2048x4 .f32) (a13 : FVec Ideal S1x2048x32 .f32) : Prop where
  h0 : ∀ i, IsReal (a0 i)
  h1 : ∀ i, IsReal (a1 i)
  h2 : ∀ i, IsReal (a2 i)
  h3 : ∀ i, IsReal (a3 i)
  h4 : ∀ i, IsReal (a4 i)
  h5 : ∀ i, IsReal (a5 i)
  h6 : ∀ i, IsReal (a6 i)
  h7 : ∀ i, IsReal (a7 i)
  h8 : ∀ i, IsReal (a8 i)
  h9 : ∀ i, IsReal (a9 i)
  h10 : ∀ i, IsReal (a10 i)
  h11 : ∀ i, IsReal (a11 i)
  h12 : ∀ i, IsReal (a12 i)
  h13 : ∀ i, IsReal (a13 i)

theorem reals (a0 : FVec Ideal S4x2048x1024 .bf16) (a1 : FVec Ideal S4x2048x1024 .bf16) (a2 : FVec Ideal S4x2048x1024 .bf16) (a3 : FVec Ideal S4x2048x11264 .bf16) (a4 : FVec Ideal S4x2048x2048 .f32) (a5 : FVec Ideal S4x1x2048 .f32) (a6 : FVec Ideal S4x1x2048 .f32) (a7 : FVec Ideal S4x1x2048 .f32) (a8 : FVec Ideal S1x2048 .f32) (a9 : FVec Ideal S1x1024x2048 .f32) (a10 : FVec Ideal S1x1024x2048 .f32) (a11 : FVec Ideal S1x2048x2048 .f32) (a12 : FVec Ideal S1x2048x4 .f32) (a13 : FVec Ideal S1x2048x32 .f32)
    (h : Cert.Pre_finite.fn (F := Ideal) a0 a1 a2 a3 a4 a5 a6 a7 a8 a9 a10 a11 a12 a13 = fun _ => 1#1) : Reals a0 a1 a2 a3 a4 a5 a6 a7 a8 a9 a10 a11 a12 a13 := by
  have q := congrFun h (fun a => a.elim0)
  obtain ⟨q, q13⟩ := IntOp.andi_eq_one.1 q
  obtain ⟨q, q12⟩ := IntOp.andi_eq_one.1 q
  obtain ⟨q, q11⟩ := IntOp.andi_eq_one.1 q
  obtain ⟨q, q10⟩ := IntOp.andi_eq_one.1 q
  obtain ⟨q, q9⟩ := IntOp.andi_eq_one.1 q
  obtain ⟨q, q8⟩ := IntOp.andi_eq_one.1 q
  obtain ⟨q, q7⟩ := IntOp.andi_eq_one.1 q
  obtain ⟨q, q6⟩ := IntOp.andi_eq_one.1 q
  obtain ⟨q, q5⟩ := IntOp.andi_eq_one.1 q
  obtain ⟨q, q4⟩ := IntOp.andi_eq_one.1 q
  obtain ⟨q, q3⟩ := IntOp.andi_eq_one.1 q
  obtain ⟨q, q2⟩ := IntOp.andi_eq_one.1 q
  obtain ⟨q, q1⟩ := IntOp.andi_eq_one.1 q
  obtain ⟨q, q0⟩ := IntOp.andi_eq_one.1 q
  exact ⟨fun i => real_of_all (extf .f32 a0 facts.bitsLt_bf16_f32) _ _ _ _ q0 i, fun i => real_of_all (extf .f32 a1 facts.bitsLt_bf16_f32) _ _ _ _ q1 i, fun i => real_of_all (extf .f32 a2 facts.bitsLt_bf16_f32) _ _ _ _ q2 i, fun i => real_of_all (extf .f32 a3 facts.bitsLt_bf16_f32) _ _ _ _ q3 i, fun i => real_of_all a4 _ _ _ _ q4 i, fun i => real_of_all a5 _ _ _ _ q5 i, fun i => real_of_all a6 _ _ _ _ q6 i, fun i => real_of_all a7 _ _ _ _ q7 i, fun i => real_of_all a8 _ _ _ _ q8 i, fun i => real_of_all a9 _ _ _ _ q9 i, fun i => real_of_all a10 _ _ _ _ q10 i, fun i => real_of_all a11 _ _ _ _ q11 i, fun i => real_of_all a12 _ _ _ _ q12 i, fun i => real_of_all a13 _ _ _ _ q13 i⟩

end Cert.Pre_finite.Outproj

end
-- ==== Proof.OutprojEquation.lean ====
/- The output projection's three arrays as functions of the arguments, and equal to its reference's. -/
module

public import proofs.«01_k».proof.Proof.OutprojValue
public import proofs.«01_k».proof.Proof.OutprojHost
public import proofs.«01_k».proof.Proof.OutprojRef
public import proofs.«01_k».proof.Proof.OutprojFinite

@[expose] public section

set_option maxRecDepth 16384

noncomputable section

namespace Cert.Reference2Ideal.Outproj

open Cert.Reference2Ideal Cert.Reference2Ideal.Gen Cert.Outproj
open Idealize.ShloMosaic Idealize.ShloMosaic.TcCoe Idealize.SL.Sem

section
variable (m : (ℓ : Loc nD τ sig) → Buf (Elt Ideal) ℓ) (c : Dev nD)

/-- The reference's three arrays. -/
def X : FVec Ideal S4x2048x2048 .f32 :=
  stream (mixed (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg9)) (m ((c.tc : Thread nD τ).loc main_arg10)))
    (m ((c.tc : Thread nD τ).loc main_arg4)) (m ((c.tc : Thread nD τ).loc main_arg5)) (m ((c.tc : Thread nD τ).loc main_arg11))

def H : FVec Ideal S8192x2048 .f32 :=
  normed (X m c) (m ((c.tc : Thread nD τ).loc main_arg8)) (m ((c.tc : Thread nD τ).loc main_arg6)) (m ((c.tc : Thread nD τ).loc main_arg7))

def R : FVec Ideal S4x2048x128 .f32 :=
  shapeCast S4x2048x128 (routed (gLogits (H m c) (m ((c.tc : Thread nD τ).loc main_arg12))) (eLogits (H m c) (m ((c.tc : Thread nD τ).loc main_arg13)))) shapeCasts_S8192x128_S4x2048x128

theorem run (ρ : Dev nD → PrngReg) : θ_run defs (onTc (τ := τ) (main (F := Ideal))) ⟨m, fun _ => 0, ρ⟩ fun r => ∀ c : Dev nD,
      r.2.mem ((c.tc : Thread nD τ).loc main_v47) = X m c
      ∧ r.2.mem ((c.tc : Thread nD τ).loc main_v68) = H m c
      ∧ r.2.mem ((c.tc : Thread nD τ).loc main_v108) = R m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans rfl, (h c).2.1.trans rfl, (h c).2.2.1.trans rfl, (h c).2.2.2⟩) (Value.run m ρ)
end

end Cert.Reference2Ideal.Outproj

namespace Cert.Kernel2Ideal.Outproj

open Cert.Kernel2Ideal Cert.Kernel2Ideal.Gen Cert.Outproj
open Idealize.ShloMosaic Idealize.ShloMosaic.TcCoe Idealize.SL.Sem

variable (m : (ℓ : Loc nD τ sig) → Buf (Elt Ideal) ℓ) (c : Dev nD)

/-- A row of the gain. -/
def gainRow (g : Vec Ideal S1x2048 .f32) (z : Vec Ideal S4x1x2048 .f32) (b : Fin 4) (n : Fin 2048) : EReal := g (ix2 0 n) * (Ideal.ofBits .f32 0x3F800000#32 + z (ix3 b 0 n))

/-- The call's rows in the arguments. -/
theorem X_args (b : Fin 4) (r : Fin 2048) : X m c b r =
    x1Row (fun k => (m ((c.tc : Thread nD τ).loc main_arg0) : Vec Ideal S4x2048x1024 .bf16) (ix3 b r k)) (fun k => (m ((c.tc : Thread nD τ).loc main_arg1) : Vec Ideal S4x2048x1024 .bf16) (ix3 b r k))
      (fun k => (m ((c.tc : Thread nD τ).loc main_arg2) : Vec Ideal S4x2048x1024 .bf16) (ix3 b r k)) (fun k => (m ((c.tc : Thread nD τ).loc main_arg3) : Vec Ideal S4x2048x11264 .bf16) (ix3 b r k))
      (fun n => (m ((c.tc : Thread nD τ).loc main_arg4) : Vec Ideal S4x2048x2048 .f32) (ix3 b r n)) (fun n => (m ((c.tc : Thread nD τ).loc main_arg5) : Vec Ideal S4x1x2048 .f32) (ix3 b 0 n))
      (fun k n => (m ((c.tc : Thread nD τ).loc main_arg9) : Vec Ideal S1x1024x2048 .f32) (ix3 0 k n)) (fun k n => (m ((c.tc : Thread nD τ).loc main_arg10) : Vec Ideal S1x1024x2048 .f32) (ix3 0 k n))
      (fun k n => (m ((c.tc : Thread nD τ).loc main_arg11) : Vec Ideal S1x2048x2048 .f32) (ix3 0 k n)) := by
  unfold X
  rw [V_pa, V_pb, V_out, V_main_arg0, V_main_arg1, V_main_arg2, V_main_arg3, V_main_arg4, V_main_arg5]
  simp only [branch_apply, outer_apply]

theorem H_args (b : Fin 4) (r : Fin 2048) : H m c b r = hid (X m c b r)
      (gainRow (m ((c.tc : Thread nD τ).loc main_arg8)) (m ((c.tc : Thread nD τ).loc main_arg6)) b)
      (fun n => (m ((c.tc : Thread nD τ).loc main_arg7) : Vec Ideal S4x1x2048 .f32) (ix3 b 0 n)) := by
  unfold H
  rw [V_gain, V_main_arg7]
  simp only [gain_apply]
  rfl

/-- The precondition's values. -/
def Args : Prop := Pre_finite.Outproj.Reals (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

variable {m c} (h : Args m c)

include h in
theorem real_X (b : Fin 4) (r n : Fin 2048) : IsReal (X m c b r n) := by
  rw [X_args]
  exact real_x1Row (fun k => h.h0 _) (fun k => h.h1 _) (fun k => h.h2 _) (fun k => h.h3 _) (fun k => h.h4 _) (fun k => h.h5 _)
    (fun k n => h.h9 _) (fun k n => h.h10 _) (fun k n => h.h11 _) n

include h in
theorem real_H (b : Fin 4) (r n : Fin 2048) : IsReal (H m c b r n) := by
  rw [H_args]
  exact real_hid (real_X h b r) (fun k => (h.h8 _).mul (real_one.add (h.h6 _))) (fun k => h.h7 _) n

theorem real_routers {g : Vec Ideal S1x2048x4 .f32} {e : Vec Ideal S1x2048x32 .f32} (hg : ∀ i, IsReal (g i)) (he : ∀ i, IsReal (e i)) (k : Fin 2048) (l : Fin 128) :
    IsReal (routers g e (ix2 k l)) := by
  by_cases h4 : l.val < 4
  · exact (congrArg IsReal (routers_group g e k ⟨l.val, h4⟩ l rfl)).mpr (hg _)
  by_cases h36 : l.val < 36
  · exact (congrArg IsReal (routers_expert g e k ⟨l.val - 4, by omega⟩ l (by show 4 + (l.val - 4) = l.val; omega))).mpr (he _)
  · exact (congrArg IsReal (routers_rest g e k l (by omega))).mpr ⟨0, Ideal.ofBits_zero_f32.trans EReal.coe_zero.symm⟩

/-- For real rows what is left of a row or a weight is zero. -/
theorem split_eq {x : Fin 2048 → EReal} {w : Fin 2048 → Fin 128 → EReal} (hx : ∀ k, IsReal (x k)) (hw : ∀ k l, IsReal (w k l)) (l : Fin 128) :
    split x w l = logit x w l := by
  unfold split
  rw [Finset.sum_eq_zero fun k _ => by rw [(hw k l).sub_self, mul_zero], Finset.sum_eq_zero fun k _ => by rw [(hx k).sub_self, zero_mul], add_zero, add_zero]

include h in
theorem L_eq (b : Fin 4) (r : Fin 2048) (l : Fin 128) : L m c b r l = logit (H m c b r) (fun k l => routers (m ((c.tc : Thread nD τ).loc main_arg12)) (m ((c.tc : Thread nD τ).loc main_arg13)) (ix2 k l)) l := by
  unfold L
  rw [V_routers]
  exact split_eq (real_H h b r) (real_routers h.h12 h.h13) l

include h in
theorem real_L (b : Fin 4) (r : Fin 2048) (l : Fin 128) : IsReal (L m c b r l) := by
  rw [L_eq h]
  exact real_logit (real_H h b r) (real_routers h.h12 h.h13) l

include h in
theorem L_group (b : Fin 4) (r : Fin 2048) (j : Fin 4) : L m c b r (gAt j) = logit (H m c b r) (fun k j => (m ((c.tc : Thread nD τ).loc main_arg12) : Vec Ideal S1x2048x4 .f32) (ix3 0 k j)) j := by
  rw [L_eq h]
  unfold logit
  exact Finset.sum_congr rfl fun k _ => congrArg (H m c b r k * ·) (routers_group _ _ k j (gAt j) rfl)

include h in
theorem L_expert (b : Fin 4) (r : Fin 2048) (j : Fin 32) : L m c b r (eAt j) = logit (H m c b r) (fun k j => (m ((c.tc : Thread nD τ).loc main_arg13) : Vec Ideal S1x2048x32 .f32) (ix3 0 k j)) j := by
  rw [L_eq h]
  unfold logit
  exact Finset.sum_congr rfl fun k _ => congrArg (H m c b r k * ·) (routers_expert _ _ k j (eAt j) rfl)

/-- The run with its results named. -/
theorem run (ρ : Dev nD → PrngReg) (h : ∀ c, Args m c) : θ_run defs (onTc (τ := τ) (main (F := Ideal))) ⟨m, fun _ => 0, ρ⟩ fun r => ∀ c : Dev nD,
      r.2.mem ((c.tc : Thread nD τ).loc main_v19_0) = GX m c
      ∧ r.2.mem ((c.tc : Thread nD τ).loc main_v19_1) = GH m c
      ∧ r.2.mem ((c.tc : Thread nD τ).loc main_v19_2) = GR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r q c => ⟨(q c).1.trans (final_16 m c), (q c).2.1.trans (final_17 m c),
    (q c).2.2.1.trans (final_18 m c fun b r l => (real_L (h c) b r l).ne_bot), (q c).2.2.2⟩) (Value.run_blocks m ρ)

end Cert.Kernel2Ideal.Outproj

namespace Cert.Outproj

open Idealize.ShloMosaic Idealize.ShloMosaic.TcCoe Idealize.SL.Sem

variable {m : (ℓ : Loc Kernel2Ideal.nD Kernel2Ideal.τ Kernel2Ideal.sig) → Buf (Elt Ideal) ℓ}
  {m' : (ℓ : Loc Reference2Ideal.nD Reference2Ideal.τ Reference2Ideal.sig) → Buf (Elt Ideal) ℓ} (c : Dev Kernel2Ideal.nD)

/-- The two programs' arguments agree. -/
structure Same (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD) : Prop where
  h0 : (m' (((c : Dev Reference2Ideal.nD).tc : Thread Reference2Ideal.nD Reference2Ideal.τ).loc Reference2Ideal.main_arg0) : Vec Ideal Kernel2Ideal.S4x2048x1024 .bf16) = m ((c.tc : Thread Kernel2Ideal.nD Kernel2Ideal.τ).loc Kernel2Ideal.main_arg0)
  h1 : (m' (((c : Dev Reference2Ideal.nD).tc : Thread Reference2Ideal.nD Reference2Ideal.τ).loc Reference2Ideal.main_arg1) : Vec Ideal Kernel2Ideal.S4x2048x1024 .bf16) = m ((c.tc : Thread Kernel2Ideal.nD Kernel2Ideal.τ).loc Kernel2Ideal.main_arg1)
  h2 : (m' (((c : Dev Reference2Ideal.nD).tc : Thread Reference2Ideal.nD Reference2Ideal.τ).loc Reference2Ideal.main_arg2) : Vec Ideal Kernel2Ideal.S4x2048x1024 .bf16) = m ((c.tc : Thread Kernel2Ideal.nD Kernel2Ideal.τ).loc Kernel2Ideal.main_arg2)
  h3 : (m' (((c : Dev Reference2Ideal.nD).tc : Thread Reference2Ideal.nD Reference2Ideal.τ).loc Reference2Ideal.main_arg3) : Vec Ideal Kernel2Ideal.S4x2048x11264 .bf16) = m ((c.tc : Thread Kernel2Ideal.nD Kernel2Ideal.τ).loc Kernel2Ideal.main_arg3)
  h4 : (m' (((c : Dev Reference2Ideal.nD).tc : Thread Reference2Ideal.nD Reference2Ideal.τ).loc Reference2Ideal.main_arg4) : Vec Ideal Kernel2Ideal.S4x2048x2048 .f32) = m ((c.tc : Thread Kernel2Ideal.nD Kernel2Ideal.τ).loc Kernel2Ideal.main_arg4)
  h5 : (m' (((c : Dev Reference2Ideal.nD).tc : Thread Reference2Ideal.nD Reference2Ideal.τ).loc Reference2Ideal.main_arg5) : Vec Ideal Kernel2Ideal.S4x1x2048 .f32) = m ((c.tc : Thread Kernel2Ideal.nD Kernel2Ideal.τ).loc Kernel2Ideal.main_arg5)
  h6 : (m' (((c : Dev Reference2Ideal.nD).tc : Thread Reference2Ideal.nD Reference2Ideal.τ).loc Reference2Ideal.main_arg6) : Vec Ideal Kernel2Ideal.S4x1x2048 .f32) = m ((c.tc : Thread Kernel2Ideal.nD Kernel2Ideal.τ).loc Kernel2Ideal.main_arg6)
  h7 : (m' (((c : Dev Reference2Ideal.nD).tc : Thread Reference2Ideal.nD Reference2Ideal.τ).loc Reference2Ideal.main_arg7) : Vec Ideal Kernel2Ideal.S4x1x2048 .f32) = m ((c.tc : Thread Kernel2Ideal.nD Kernel2Ideal.τ).loc Kernel2Ideal.main_arg7)
  h8 : (m' (((c : Dev Reference2Ideal.nD).tc : Thread Reference2Ideal.nD Reference2Ideal.τ).loc Reference2Ideal.main_arg8) : Vec Ideal Kernel2Ideal.S1x2048 .f32) = m ((c.tc : Thread Kernel2Ideal.nD Kernel2Ideal.τ).loc Kernel2Ideal.main_arg8)
  h9 : (m' (((c : Dev Reference2Ideal.nD).tc : Thread Reference2Ideal.nD Reference2Ideal.τ).loc Reference2Ideal.main_arg9) : Vec Ideal Kernel2Ideal.S1x1024x2048 .f32) = m ((c.tc : Thread Kernel2Ideal.nD Kernel2Ideal.τ).loc Kernel2Ideal.main_arg9)
  h10 : (m' (((c : Dev Reference2Ideal.nD).tc : Thread Reference2Ideal.nD Reference2Ideal.τ).loc Reference2Ideal.main_arg10) : Vec Ideal Kernel2Ideal.S1x1024x2048 .f32) = m ((c.tc : Thread Kernel2Ideal.nD Kernel2Ideal.τ).loc Kernel2Ideal.main_arg10)
  h11 : (m' (((c : Dev Reference2Ideal.nD).tc : Thread Reference2Ideal.nD Reference2Ideal.τ).loc Reference2Ideal.main_arg11) : Vec Ideal Kernel2Ideal.S1x2048x2048 .f32) = m ((c.tc : Thread Kernel2Ideal.nD Kernel2Ideal.τ).loc Kernel2Ideal.main_arg11)
  h12 : (m' (((c : Dev Reference2Ideal.nD).tc : Thread Reference2Ideal.nD Reference2Ideal.τ).loc Reference2Ideal.main_arg12) : Vec Ideal Kernel2Ideal.S1x2048x4 .f32) = m ((c.tc : Thread Kernel2Ideal.nD Kernel2Ideal.τ).loc Kernel2Ideal.main_arg12)
  h13 : (m' (((c : Dev Reference2Ideal.nD).tc : Thread Reference2Ideal.nD Reference2Ideal.τ).loc Reference2Ideal.main_arg13) : Vec Ideal Kernel2Ideal.S1x2048x32 .f32) = m ((c.tc : Thread Kernel2Ideal.nD Kernel2Ideal.τ).loc Kernel2Ideal.main_arg13)

variable {c} (s : Same m m' c)

include s in
theorem X_entry (b : Fin 4) (r n : Fin 2048) : Reference2Ideal.Outproj.X m' c (ix3 b r n) = Kernel2Ideal.Outproj.X m c b r n := by
  rw [Kernel2Ideal.Outproj.X_args]
  unfold Reference2Ideal.Outproj.X
  rw [Reference2Ideal.Outproj.stream_apply]
  simp only [Reference2Ideal.Outproj.mixed_apply]
  rw [s.h0, s.h1, s.h2, s.h3, s.h4, s.h5, s.h9, s.h10, s.h11]
  rfl

include s in
theorem H_entry (b : Fin 4) (r n : Fin 2048) (q : Fin 8192) (hq : q.val = b.val * 2048 + r.val) :
    Reference2Ideal.Outproj.H m' c (ix2 q n) = Kernel2Ideal.Outproj.H m c b r n := by
  rw [Kernel2Ideal.Outproj.H_args]
  unfold Reference2Ideal.Outproj.H
  rw [Reference2Ideal.Outproj.normed_apply _ _ _ _ b r n q hq]
  rw [show (fun n => Reference2Ideal.Outproj.X m' c (ix3 b r n)) = Kernel2Ideal.Outproj.X m c b r from funext (X_entry s b r)]
  rw [s.h6, s.h7, s.h8]
  rfl

include s in
theorem X_eq : Reference2Ideal.Outproj.X m' c = Kernel2Ideal.Outproj.GX m c := by
  funext i
  obtain ⟨b, r, n, rfl⟩ : ∃ (b : Fin 4) (r n : Fin 2048), i = ix3 b r n := ⟨i 0, i 1, i 2, eq_ix3 i⟩
  exact X_entry s b r n

include s in
theorem H_eq : Reference2Ideal.Outproj.H m' c = Kernel2Ideal.Outproj.GH m c := by
  funext i
  obtain ⟨q, n, rfl⟩ : ∃ (q : Fin 8192) (n : Fin 2048), i = ix2 q n := ⟨i 0, i 1, eq_ix2 i⟩
  have hq := q.isLt
  exact H_entry s ⟨q.val / 2048, by omega⟩ ⟨q.val % 2048, by omega⟩ n q (by show q.val = q.val / 2048 * 2048 + q.val % 2048; omega)

theorem cast_apply (z : FVec Ideal Reference2Ideal.S8192x128 .f32) (b : Fin 4) (r : Fin 2048) (l : Fin 128) (q : Fin 8192) (hq : q.val = b.val * 2048 + r.val) :
    shapeCast Reference2Ideal.S4x2048x128 z Reference2Ideal.Gen.shapeCasts_S8192x128_S4x2048x128 (ix3 b r l) = z (ix2 q l) := by
  pointwise []
  exact congrArg (fun q => z (ix2 q l)) (Fin.ext (by rw [hq]))

include s in
theorem R_eq (h : Kernel2Ideal.Outproj.Args m c) : Reference2Ideal.Outproj.R m' c = Kernel2Ideal.Outproj.GR m c := by
  funext i
  obtain ⟨b, r, l, rfl⟩ : ∃ (b : Fin 4) (r : Fin 2048) (l : Fin 128), i = ix3 b r l := ⟨i 0, i 1, i 2, eq_ix3 i⟩
  have hb := b.isLt
  have hr := r.isLt
  obtain ⟨q, hq⟩ : ∃ q : Fin 8192, q.val = b.val * 2048 + r.val := ⟨⟨b.val * 2048 + r.val, by omega⟩, rfl⟩
  have hH : (fun n => Reference2Ideal.Outproj.H m' c (ix2 q n)) = Kernel2Ideal.Outproj.H m c b r := funext fun n => H_entry s b r n q hq
  choose x hx using fun j => Kernel2Ideal.Outproj.real_L h b r (Kernel2Ideal.Outproj.gAt j)
  choose y hy using fun j => Kernel2Ideal.Outproj.real_L h b r (Kernel2Ideal.Outproj.eAt j)
  unfold Reference2Ideal.Outproj.R
  rw [cast_apply _ b r l q hq]
  refine (Reference2Ideal.Outproj.routed_apply _ _ q x (fun j => ?_) y (fun j => ?_) l).trans ?_
  · rw [← hx, Kernel2Ideal.Outproj.L_group h, Reference2Ideal.Outproj.gLogits_apply, hH, s.h12]
  · rw [← hy, Kernel2Ideal.Outproj.L_expert h, Reference2Ideal.Outproj.eLogits_apply, hH, s.h13]
  · rw [← funext hx, ← funext hy]
    rfl

end Cert.Outproj

end
-- ==== Proof.ModulationValue.lean ====
/- The array the modulation leaves, entry by entry, as a function of the arguments. -/
module

public import proofs.«01_k».proof.Proof.Gen.Kernel4Ideal.Value
public import proofs.«01_k».proof.Proof.OutprojRows
public import Idealize.ShloMosaic.Lib.Pointwise
public import Idealize.ShloMosaic.Lib.Pipeline.ValueKit.Basic
public import Idealize.ShloMosaic.Lib.Routing.OpsPair
public import Idealize.ShloMosaic.Lib.Routing.OpsSet

@[expose] public section

set_option maxRecDepth 16384

noncomputable section

namespace Cert.Kernel4Ideal.Modulation

open Cert.Kernel4Ideal Cert.Kernel4Ideal.Gen
open Idealize.ShloMosaic Idealize.ShloMosaic.TcCoe Idealize.SL.Sem
open Idealize.ShloMosaic.Pipeline (Dat)

/-- One entry of a modulated row: SiLU of the conditioning row `x`, projected, plus the bias. -/
def entry (x : Fin 2048 → EReal) (w : Fin 2048 → Fin 12288 → EReal) (b : Fin 12288 → EReal) (n : Fin 12288) : EReal :=
  (∑ k, x k * Ideal.logistic (x k) * w k n) + b n

theorem pay_apply (x : Vec Ideal S8x2048 .f32) (w : Vec Ideal S2048x1024 .f32) (b : Vec Ideal S1x1024 .f32) (r : Fin 8) (n : Fin 1024) :
    k0_pay1 x w b (ix2 r n) = (∑ k, x (ix2 r k) * Ideal.logistic (x (ix2 r k)) * w (ix2 k n)) + b (ix2 0 n) := by
  simp only [← Outproj.half_tanh]
  pointwise [k0_pay1]

/-! ## What the host code leaves in the windows' arrays -/

section
variable {F : FTy → Type} [FloatOps F]

/-- The position a row is stored at. -/
def place (n : BitVec 32) : IVec S1 32 := broadcastInDim S1 ![] bcast_S_S1 (constantI S_ 32 n)

/-- The latent batches' conditioning rows over zeros, -/
def latent (c : Vec F S4x2048 .f32) : Vec F S8x2048 .f32 :=
  Host.scatter scatter_S8x2048_S1_S4x2048_01_n_0_0 (fun _ b => b) (broadcastInDim S8x2048 ![] bcast_S_S8x2048 (constant S_ .f32 0x00000000#32 : FVec F S_ .f32)) (place 0#32) c

/-- and the context's in the row after them. -/
def cond (c : Vec F S4x2048 .f32) (x : Vec F S2048 .f32) : Vec F S8x2048 .f32 :=
  Host.scatter scatter_S8x2048_S1_S2048_0_0_0_0 (fun _ b => b) (latent c) (place 4#32) x

variable (m : (ℓ : Loc nD τ sig) → Buf (Elt F) ℓ)

theorem V_cond (c : Dev nD) : V m c main_v4 = cond (m ((c.tc : Thread nD τ).loc main_arg0)) (m ((c.tc : Thread nD τ).loc main_arg1)) := by
  show StableHlo.after hostOps0 _ _ = _
  after_results_simp
  rfl

theorem V_weights (c : Dev nD) : V m c main_v5 = (shapeCast S2048x12288 (m ((c.tc : Thread nD τ).loc main_arg2) : Vec F S1x2048x12288 .f32) shapeCasts_S1x2048x12288_S2048x12288 : Vec F S2048x12288 .f32) := by
  show StableHlo.after hostOps0 _ _ = _
  after_results_simp
  rfl

theorem V_bias (c : Dev nD) : V m c main_v7 = (broadcastInDim S1x12288 ![1] bcast_S12288_S1x12288_1
    (shapeCast S12288 (m ((c.tc : Thread nD τ).loc main_arg3) : Vec F S1x12288 .f32) shapeCasts_S1x12288_S12288) : Vec F S1x12288 .f32) := by
  show StableHlo.after hostOps0 _ _ = _
  after_results_simp
  rfl
end

theorem place_apply (n : BitVec 32) (j : S1.Idx) : place n j = n := rfl

/-- The conditioning rows: the four batches', the context's, three rows of zeros. -/
def rows (c : Vec Ideal S4x2048 .f32) (x : Vec Ideal S2048 .f32) (r : Fin 8) (k : Fin 2048) : EReal :=
  if h : r.val < 4 then c (ix2 ⟨r.val, h⟩ k) else if r.val = 4 then x (ix1 k) else Ideal.ofBits .f32 0x00000000#32

theorem latent_lands (q : Fin 4) (p : Fin 2048) (r : Fin 8) (k : Fin 2048) :
    scatter_S8x2048_S1_S4x2048_01_n_0_0.resultIdx? (ix2 q p) (place 0#32) = some (ix2 r k) ↔ q.val = r.val ∧ p.val = k.val := by
  rw [Routing.resultIdx?_eq_some]
  constructor
  · intro h
    have h0 : (0 : Int) + (q.val : Int) = (r.val : Int) := h 0
    have h1 : (0 : Int) + (p.val : Int) = (k.val : Int) := h 1
    omega
  · rintro ⟨h0, h1⟩ a
    match a with
    | ⟨0, _⟩ => show (0 : Int) + (q.val : Int) = (r.val : Int); omega
    | ⟨1, _⟩ => show (0 : Int) + (p.val : Int) = (k.val : Int); omega

theorem cond_lands (p : Fin 2048) (r : Fin 8) (k : Fin 2048) :
    scatter_S8x2048_S1_S2048_0_0_0_0.resultIdx? (ix1 p) (place 4#32) = some (ix2 r k) ↔ r.val = 4 ∧ p.val = k.val := by
  rw [Routing.resultIdx?_eq_some]
  constructor
  · intro h
    have h0 : (4 : Int) + 0 = (r.val : Int) := h 0
    have h1 : (0 : Int) + (p.val : Int) = (k.val : Int) := h 1
    omega
  · rintro ⟨h0, h1⟩ a
    match a with
    | ⟨0, _⟩ => show (4 : Int) + 0 = (r.val : Int); omega
    | ⟨1, _⟩ => show (0 : Int) + (p.val : Int) = (k.val : Int); omega

theorem latent_apply (c : Vec Ideal S4x2048 .f32) (r : Fin 8) (k : Fin 2048) :
    latent c (ix2 r k) = if h : r.val < 4 then c (ix2 ⟨r.val, h⟩ k) else Ideal.ofBits .f32 0x00000000#32 := by
  by_cases h : r.val < 4
  · rw [dif_pos h]
    refine Routing.scatter_set_hit _ _ _ _ _ _ (fun j e => ?_) (ix2 ⟨r.val, h⟩ k) ((latent_lands _ _ _ _).mpr ⟨rfl, rfl⟩)
    obtain ⟨q, p, rfl⟩ : ∃ (q : Fin 4) (p : Fin 2048), j = ix2 q p := ⟨j 0, j 1, eq_ix2 j⟩
    obtain ⟨e0, e1⟩ := (latent_lands _ _ _ _).mp e
    obtain rfl : q = ⟨r.val, h⟩ := Fin.ext e0
    obtain rfl : p = k := Fin.ext e1
    rfl
  · rw [dif_neg h]
    refine (Routing.scatter_set_miss _ _ _ _ _ fun j e => ?_).trans rfl
    obtain ⟨q, p, rfl⟩ : ∃ (q : Fin 4) (p : Fin 2048), j = ix2 q p := ⟨j 0, j 1, eq_ix2 j⟩
    exact h (((latent_lands _ _ _ _).mp e).1 ▸ q.isLt)

theorem cond_apply (c : Vec Ideal S4x2048 .f32) (x : Vec Ideal S2048 .f32) (r : Fin 8) (k : Fin 2048) : cond c x (ix2 r k) = rows c x r k := by
  have hj : ∀ j : S2048.Idx, ∃ p : Fin 2048, j = ix1 p := fun j => ⟨j 0, by funext a; match a with | ⟨0, _⟩ => rfl⟩
  unfold rows
  by_cases h : r.val = 4
  · rw [dif_neg (by omega), if_pos h]
    refine Routing.scatter_set_hit _ _ _ _ _ _ (fun j e => ?_) (ix1 k) ((cond_lands _ _ _).mpr ⟨h, rfl⟩)
    obtain ⟨p, rfl⟩ := hj j
    obtain rfl : p = k := Fin.ext ((cond_lands _ _ _).mp e).2
    rfl
  · rw [if_neg h, ← latent_apply]
    refine Routing.scatter_set_miss _ _ _ _ _ fun j e => ?_
    obtain ⟨p, rfl⟩ := hj j
    exact h ((cond_lands _ _ _).mp e).1

/-! ## Where each window's block lies -/

variable (m : (ℓ : Loc nD τ sig) → Buf (Elt Ideal) ℓ) (ρ : Dev nD → PrngReg)

theorem idx_0 : ∀ t : Fin cfg0.N, win0_0.index t (0 : Fin 2) = 0 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = t.val :=
  (by decide +kernel : ∀ t : Fin grid0.N, _)
theorem idx_2 : ∀ t : Fin cfg0.N, win0_2.index t (0 : Fin 2) = 0 ∧ win0_2.index t (1 : Fin 2) = t.val :=
  (by decide +kernel : ∀ t : Fin grid0.N, _)
theorem idx_3 : ∀ t : Fin cfg0.N, win0_3.index t (0 : Fin 2) = 0 ∧ win0_3.index t (1 : Fin 2) = t.val :=
  (by decide +kernel : ∀ t : Fin grid0.N, _)
theorem flush_3 : ∀ t : Fin cfg0.N, (cfg0.win 3).flush t = true :=
  (by decide +kernel : ∀ t : Fin grid0.N, win0_3.flush t = true)

theorem lt_12 (t : Fin cfg0.N) : t.val < 12 := lt_of_lt_of_eq t.isLt N_0

/-- Column `n` of point `t`'s tile. -/
def col (t : Fin cfg0.N) (n : Fin 1024) : Fin 12288 := ⟨t.val * 1024 + n.val, by have := lt_12 t; have := n.isLt; omega⟩

theorem blk_0 (c : Dev nD) (t : Fin cfg0.N) (r : Fin 8) (k : Fin 2048) :
    (iblk m c 0 t : Vec Ideal S8x2048 .f32) (ix2 r k) = (V m c main_v4 : Vec Ideal S8x2048 .f32) (ix2 r k) := by
  obtain ⟨e0, e1⟩ := idx_0 t
  refine congrArg (V m c main_v4 : Vec Ideal S8x2048 .f32) (funext fun a => Fin.ext ?_)
  match a with
  | ⟨0, _⟩ => show win0_0.index t (0 : Fin 2) * 8 + 1 * r.val = r.val; omega
  | ⟨1, _⟩ => show win0_0.index t (1 : Fin 2) * 2048 + 1 * k.val = k.val; omega

theorem blk_1 (c : Dev nD) (t : Fin cfg0.N) (k : Fin 2048) (n : Fin 1024) :
    (iblk m c 1 t : Vec Ideal S2048x1024 .f32) (ix2 k n) = (V m c main_v5 : Vec Ideal S2048x12288 .f32) (ix2 k (col t n)) := by
  obtain ⟨e0, e1⟩ := idx_1 t
  refine congrArg (V m c main_v5 : Vec Ideal S2048x12288 .f32) (funext fun a => Fin.ext ?_)
  match a with
  | ⟨0, _⟩ => show win0_1.index t (0 : Fin 2) * 2048 + 1 * k.val = k.val; omega
  | ⟨1, _⟩ => show win0_1.index t (1 : Fin 2) * 1024 + 1 * n.val = t.val * 1024 + n.val; omega

theorem blk_2 (c : Dev nD) (t : Fin cfg0.N) (n : Fin 1024) :
    (iblk m c 2 t : Vec Ideal S1x1024 .f32) (ix2 0 n) = (V m c main_v7 : Vec Ideal S1x12288 .f32) (ix2 0 (col t n)) := by
  obtain ⟨e0, e1⟩ := idx_2 t
  refine congrArg (V m c main_v7 : Vec Ideal S1x12288 .f32) (funext fun a => Fin.ext ?_)
  match a with
  | ⟨0, _⟩ => show win0_2.index t (0 : Fin 2) * 1 + 1 * 0 = 0; omega
  | ⟨1, _⟩ => show win0_2.index t (1 : Fin 2) * 1024 + 1 * n.val = t.val * 1024 + n.val; omega

/-! ## The array -/

/-- The modulation of the conditioning rows. -/
def modulated (x : Fin 8 → Fin 2048 → EReal) (w : Vec Ideal S1x2048x12288 .f32) (b : Vec Ideal S1x12288 .f32) : Vec Ideal S8x12288 .f32 :=
  fun i => entry (x (i 0)) (fun k n => w (ix3 0 k n)) (fun n => b (ix2 0 n)) (i 1)

/-- What the call leaves. -/
def G (c : Dev nD) : Vec Ideal S8x12288 .f32 :=
  modulated (rows (m ((c.tc : Thread nD τ).loc main_arg0)) (m ((c.tc : Thread nD τ).loc main_arg1)))
    (m ((c.tc : Thread nD τ).loc main_arg2)) (m ((c.tc : Thread nD τ).loc main_arg3))

theorem cast_weights (w : Vec Ideal S1x2048x12288 .f32) (k : Fin 2048) (n : Fin 12288) :
    (shapeCast S2048x12288 w shapeCasts_S1x2048x12288_S2048x12288 : Vec Ideal S2048x12288 .f32) (ix2 k n) = w (ix3 0 k n) := by
  pointwise []

theorem cast_bias (b : Vec Ideal S1x12288 .f32) (n : Fin 12288) :
    (broadcastInDim S1x12288 ![1] bcast_S12288_S1x12288_1 (shapeCast S12288 b shapeCasts_S1x12288_S12288) : Vec Ideal S1x12288 .f32) (ix2 0 n) = b (ix2 0 n) := by
  pointwise []

theorem weights_apply (c : Dev nD) (k : Fin 2048) (n : Fin 12288) :
    (V m c main_v5 : Vec Ideal S2048x12288 .f32) (ix2 k n) = (m ((c.tc : Thread nD τ).loc main_arg2) : Vec Ideal S1x2048x12288 .f32) (ix3 0 k n) := by
  rw [V_weights]
  exact cast_weights _ k n

theorem bias_apply (c : Dev nD) (n : Fin 12288) :
    (V m c main_v7 : Vec Ideal S1x12288 .f32) (ix2 0 n) = (m ((c.tc : Thread nD τ).loc main_arg3) : Vec Ideal S1x12288 .f32) (ix2 0 n) := by
  rw [V_bias]
  exact cast_bias _ n

theorem tile_0 (c : Dev nD) (t : Fin cfg0.N) (r : Fin 8) (k : Fin 2048) : (iblk m c 0 t : Vec Ideal S8x2048 .f32) (ix2 r k)
    = rows (m ((c.tc : Thread nD τ).loc main_arg0)) (m ((c.tc : Thread nD τ).loc main_arg1)) r k := by
  rw [blk_0, V_cond]
  exact cond_apply _ _ r k

theorem tile_1 (c : Dev nD) (t : Fin cfg0.N) (k : Fin 2048) (n : Fin 1024) : (iblk m c 1 t : Vec Ideal S2048x1024 .f32) (ix2 k n)
    = (m ((c.tc : Thread nD τ).loc main_arg2) : Vec Ideal S1x2048x12288 .f32) (ix3 0 k (col t n)) := (blk_1 m c t k n).trans (weights_apply m c k _)

theorem tile_2 (c : Dev nD) (t : Fin cfg0.N) (n : Fin 1024) : (iblk m c 2 t : Vec Ideal S1x1024 .f32) (ix2 0 n)
    = (m ((c.tc : Thread nD τ).loc main_arg3) : Vec Ideal S1x12288 .f32) (ix2 0 (col t n)) := (blk_2 m c t n).trans (bias_apply m c _)

theorem flushed_3 (c : Dev nD) (t : Fin cfg0.N) :
    (dats m 0 c).flushed 3 t = ((cfg0.win 3).blk t).view.read (Elt Ideal) (G m c) := by
  rw [Value.flushed3]
  obtain ⟨e0, e1⟩ := idx_3 t
  funext y
  obtain ⟨r, n, rfl⟩ : ∃ (r : Fin 8) (n : Fin 1024), y = ix2 r n := ⟨y 0, y 1, eq_ix2 y⟩
  have he : ((cfg0.win 3).blk t).view.emb (ix2 r n) = ix2 r (col t n) := by
    funext a; apply Fin.ext
    match a with
    | ⟨0, _⟩ => show win0_3.index t (0 : Fin 2) * 8 + 1 * r.val = r.val; omega
    | ⟨1, _⟩ => show win0_3.index t (1 : Fin 2) * 1024 + 1 * n.val = t.val * 1024 + n.val; omega
  show out0_3 _ _ _ (ix2 r n) = G m c (((cfg0.win 3).blk t).view.emb (ix2 r n))
  rw [he]
  refine (show _ = k0_pay1 (iblk m c 0 t) (iblk m c 1 t) (iblk m c 2 t) (ix2 r n) from ?_).trans ?_
  · unfold out0_3 r0_0 r0_1 r0_2 r0_3
    rw [View.canon_cons_unit_lit _ _ _ (by decide), View.ld_unit_lit _ _ (by decide), View.ld_unit_lit _ _ (by decide), View.ld_unit_lit _ _ (by decide)]
  refine (pay_apply _ _ _ r n).trans ?_
  simp only [tile_0, tile_1, tile_2]
  rfl

theorem cover_3 (i : S8x12288.Idx) : ∃ t : Fin cfg0.N, (cfg0.win 3).flush t = true ∧ i ∈ ((cfg0.win 3).blk t).view.set := by
  have h0 : (i 0).val < 8 := (i 0).isLt
  have h1 : (i 1).val < 12288 := (i 1).isLt
  let t : Fin cfg0.N := ⟨(i 1).val / 1024, lt_of_lt_of_eq (by omega) N_0.symm⟩
  have ht : t.val = (i 1).val / 1024 := rfl
  obtain ⟨e0, e1⟩ := idx_3 t
  refine ⟨t, flush_3 t, ?_⟩
  show i ∈ ((View.whole main_v8).slice (win0_3.rect t)).set
  rw [View.set_slice_whole, Rect.mem_set_unit]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 1024 ≤ (i 1).val ∧ (i 1).val < win0_3.index t (1 : Fin 2) * 1024 + 1024; omega

theorem final (c : Dev nD) : (dats m 0 c).arrAt 3 cfg0.N = G m c :=
  (dats m 0 c).arrAt_eq_of_cover 3 _ (fun t _ => flushed_3 m c t) cover_3

/-- The run with its result named. -/
theorem run : θ_run defs (onTc (τ := τ) (main (F := Ideal))) ⟨m, fun _ => 0, ρ⟩ (fun r => ∀ c : Dev nD,
      r.2.mem ((c.tc : Thread nD τ).loc main_v8) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final m c), (h c).2⟩) (Value.run_blocks m ρ)

end Cert.Kernel4Ideal.Modulation

end
-- ==== Proof.ModulationEquation.lean ====
/- The modulation's reference entry by entry, and that the call leaves the same array. -/
module

public import proofs.«01_k».proof.Proof.ModulationValue
public import proofs.«01_k».proof.Proof.Gen.Reference4Ideal.Run

@[expose] public section

set_option maxRecDepth 16384

noncomputable section

open Idealize.ShloMosaic Idealize.ShloMosaic.TcCoe Idealize.SL.Sem

namespace Cert.Reference4Ideal.Modulation

open Cert.Reference4Ideal Cert.Reference4Ideal.Gen Cert.Reference4Ideal.Value

variable {F : FTy → Type} [FloatOps F]

/-- The conditioning rows: the four batches', the context's, three rows of zeros. -/
def cond (c : Vec F S4x2048 .f32) (x : Vec F S2048 .f32) : FVec F S8x2048 .f32 :=
  concatenate S8x2048 0 [⟨S4x2048, c⟩, ⟨S1x2048, broadcastInDim S1x2048 ![1] bcast_S2048_S1x2048_1 x⟩,
    ⟨S3x2048, broadcastInDim S3x2048 ![] bcast_S_S3x2048 (constant S_ .f32 0x00000000#32)⟩] concatenates_S4x2048_S1x2048_S3x2048_S8x2048_d0

/-- SiLU of them, -/
def silu (x : FVec F S8x2048 .f32) : FVec F S8x2048 .f32 :=
  mulf x (Host.divf (broadcastInDim S8x2048 ![] bcast_S_S8x2048 (constant S_ .f32 0x3F800000#32))
    (addf (broadcastInDim S8x2048 ![] bcast_S_S8x2048 (constant S_ .f32 0x3F800000#32)) (Host.exp (Host.negf x))))

/-- projected, plus the bias. -/
def proj (x : FVec F S8x2048 .f32) (w : Vec F S1x2048x12288 .f32) (b : Vec F S1x12288 .f32) : FVec F S8x12288 .f32 :=
  addf (Host.dotGeneral dot_S8x2048_S2048x12288_S8x12288_1_0_0_1_n_n none x (shapeCast S2048x12288 w shapeCasts_S1x2048x12288_S2048x12288))
    (broadcastInDim S8x12288 ![0, 1] bcast_S1x12288_S8x12288_0_1 (broadcastInDim S1x12288 ![1] bcast_S12288_S1x12288_1 (shapeCast S12288 b shapeCasts_S1x12288_S12288)))

theorem cond_apply (c : Vec Ideal S4x2048 .f32) (x : Vec Ideal S2048 .f32) (r : Fin 8) (k : Fin 2048) :
    cond c x (ix2 r k) = Kernel4Ideal.Modulation.rows c x r k := by
  pointwise [cond, Kernel4Ideal.Modulation.rows]
  split
  · rfl
  · by_cases h : r.val = 4
    · rw [dif_pos (by omega), if_pos h]
    · rw [dif_neg (by omega), if_neg h]

theorem silu_apply (x : FVec Ideal S8x2048 .f32) (r : Fin 8) (k : Fin 2048) : silu x (ix2 r k) = x (ix2 r k) * Ideal.logistic (x (ix2 r k)) := by
  pointwise [silu, Ideal.logistic]

theorem proj_apply (x : FVec Ideal S8x2048 .f32) (w : Vec Ideal S1x2048x12288 .f32) (b : Vec Ideal S1x12288 .f32) (r : Fin 8) (n : Fin 12288) :
    proj x w b (ix2 r n) = (∑ k, x (ix2 r k) * w (ix3 0 k n)) + b (ix2 0 n) := by
  pointwise [proj]

/-- The reference leaves the call's array. -/
theorem proj_silu (c : Vec Ideal S4x2048 .f32) (x : Vec Ideal S2048 .f32) (w : Vec Ideal S1x2048x12288 .f32) (b : Vec Ideal S1x12288 .f32) :
    proj (silu (cond c x)) w b = Kernel4Ideal.Modulation.modulated (Kernel4Ideal.Modulation.rows c x) w b := by
  funext i
  obtain ⟨r, n, rfl⟩ : ∃ (r : Fin 8) (n : Fin 12288), i = ix2 r n := ⟨i 0, i 1, eq_ix2 i⟩
  refine (proj_apply _ _ _ r n).trans ?_
  simp only [silu_apply, cond_apply]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = proj (silu (cond (m ((c.tc : Thread nD τ).loc main_arg0)) (m ((c.tc : Thread nD τ).loc main_arg1))))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by unfold proj silu cond; rfl), (h c).2⟩) (Value.run m ρ)

end Cert.Reference4Ideal.Modulation

end
-- ==== Proof.RglruTrip.lean ====
/- One trip of the RG-LRU kernel's scan loop: eight blocks of eight rows forward, eight backward.

   A trip reads, for each of eight chunks of 288 rows, one block of eight rows of the decay and of the input, scans the
   eight blocks of a row in order, then the eight rows by three doublings, and writes the eight blocks of states. -/
module

public import proofs.«01_k».proof.Proof.Gen.Kernel5Ideal.Loops
public import proofs.«01_k».proof.Proof.Gen.Kernel5Ideal.Frame
public import proofs.«01_k».proof.Proof.Gen.Kernel5Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel5Ideal.Rglru

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The offsets of the backward half -/

/-- The block of trip `t` of the backward half: the four blocks of the prefix first, from their end, then the others. -/
def jb (t : ℕ) : ℕ := if t < 4 then 3 - t else 39 - t

theorem trips_eq : k0_t1_loop.trips = 36 := by decide

/-- The backward half's offsets in closed form. -/
theorem k0_off2_eq (t : Fin k0_t1_loop.trips) (r : Fin 8) :
    k0_off2 t (BitVec.ofNat 32 (288 * r.val)) = ![288 * r.val + 8 * jb t.val, 0] := by
  revert t r
  decide +kernel

instance closedOff_k0_off2_0 (t : Fin k0_t1_loop.trips) : ClosedOff (k0_off2 t (BitVec.ofNat 32 0)) := ⟨![288 * 0 + 8 * jb t.val, 0], k0_off2_eq t 0⟩
instance closedOff_k0_off2_1 (t : Fin k0_t1_loop.trips) : ClosedOff (k0_off2 t (BitVec.ofNat 32 288)) := ⟨![288 * 1 + 8 * jb t.val, 0], k0_off2_eq t 1⟩
instance closedOff_k0_off2_2 (t : Fin k0_t1_loop.trips) : ClosedOff (k0_off2 t (BitVec.ofNat 32 576)) := ⟨![288 * 2 + 8 * jb t.val, 0], k0_off2_eq t 2⟩
instance closedOff_k0_off2_3 (t : Fin k0_t1_loop.trips) : ClosedOff (k0_off2 t (BitVec.ofNat 32 864)) := ⟨![288 * 3 + 8 * jb t.val, 0], k0_off2_eq t 3⟩
instance closedOff_k0_off2_4 (t : Fin k0_t1_loop.trips) : ClosedOff (k0_off2 t (BitVec.ofNat 32 1152)) := ⟨![288 * 4 + 8 * jb t.val, 0], k0_off2_eq t 4⟩
instance closedOff_k0_off2_5 (t : Fin k0_t1_loop.trips) : ClosedOff (k0_off2 t (BitVec.ofNat 32 1440)) := ⟨![288 * 5 + 8 * jb t.val, 0], k0_off2_eq t 5⟩
instance closedOff_k0_off2_6 (t : Fin k0_t1_loop.trips) : ClosedOff (k0_off2 t (BitVec.ofNat 32 1728)) := ⟨![288 * 6 + 8 * jb t.val, 0], k0_off2_eq t 6⟩
instance closedOff_k0_off2_7 (t : Fin k0_t1_loop.trips) : ClosedOff (k0_off2 t (BitVec.ofNat 32 2016)) := ⟨![288 * 7 + 8 * jb t.val, 0], k0_off2_eq t 7⟩

/-! ## What a trip computes -/

/-- Eight rows of a buffer, from row `o`. -/
def rowsAt (x : Vec F S2304x128 .f32) (o : ℕ) : Vec F S8x128 .f32 :=
  VecWindow.window x ![min o 2296, 0] S8x128.size (fun a => by
    revert a
    exact Fin.forall_fin_two.mpr ⟨(by show min o 2296 + 8 ≤ 2304; omega), (by show 0 + 128 ≤ 128; omega)⟩)

/-- The states of eight blocks scanned in order from nothing. -/
def chainH (A B : ℕ → Vec F S8x128 .f32) : ℕ → FVec F S8x128 .f32
  | 0 => B 0
  | r + 1 => addf (mulf (A (r + 1)) (chainH A B r)) (B (r + 1))

/-- The products of the decays so far. -/
def chainP (A : ℕ → Vec F S8x128 .f32) : ℕ → FVec F S8x128 .f32
  | 0 => A 0
  | r + 1 => mulf (A (r + 1)) (chainP A r)

/-- Rows moved by `n`, the rows that have no source filled. -/
def shifted (p : CmpIPredicate) (v : IVec S8x128 32) (fill : BitVec 32) (n : BitVec 32) (x : FVec F S8x128 .f32) : FVec F S8x128 .f32 :=
  select (cmpi p v (broadcast S8x128 n)) (dynamicRotate 0 n none x rotates_S8x128_d0) (broadcast S8x128 (Scalar.ofBits (F := F) .f32 fill))

/-- The state each row of blocks starts from: the rows scanned by three doublings over the carried state. -/
def cin (p : CmpIPredicate) (v : IVec S8x128 32) (n1 n2 n4 : BitVec 32) (P H : FVec F S8x128 .f32) (carry : FVec F S1x128 .f32) :
    FVec F S8x128 .f32 :=
  have p0 := shifted p v 0x3F800000#32 n1 P
  have h0 := shifted p v 0x00000000#32 n1 H
  have h1 := addf (mulf p0 (shifted p v 0x00000000#32 n1 h0)) h0
  have p1 := mulf p0 (shifted p v 0x3F800000#32 n1 p0)
  have h2 := addf (mulf p1 (shifted p v 0x00000000#32 n2 h1)) h1
  have p2 := mulf p1 (shifted p v 0x3F800000#32 n2 p1)
  have h3 := addf (mulf p2 (shifted p v 0x00000000#32 n4 h2)) h2
  have p3 := mulf p2 (shifted p v 0x3F800000#32 n4 p2)
  addf (mulf p3 (broadcastTo S8x128 carry broadcasts_S1x128_S8x128)) h3

/-- The decays or inputs of trip `t` of the forward half, chunk by chunk. -/
def fwd (x : Vec F S2304x128 .f32) (t r : ℕ) : Vec F S8x128 .f32 := rowsAt x (288 * r + 8 * t)

/-- The same of the backward half: the last chunk first. -/
def bwd (x : Vec F S2304x128 .f32) (t r : ℕ) : Vec F S8x128 .f32 := rowsAt x (288 * (7 - r) + 8 * jb t)

/-- The forward half's start states. -/
def cinF (v : IVec S8x128 32) (a b : Vec F S2304x128 .f32) (t : ℕ) (carry : FVec F S1x128 .f32) : FVec F S8x128 .f32 :=
  cin .sge v 1#32 2#32 4#32 (chainP (fwd a t) 7) (chainH (fwd a t) (fwd b t) 7) carry

/-- The backward half's start states. -/
def cinB (v : IVec S8x128 32) (a b : Vec F S2304x128 .f32) (t : ℕ) (carry : FVec F S1x128 .f32) : FVec F S8x128 .f32 :=
  cin .slt v 7#32 6#32 4#32 (chainP (bwd a t) 7) (chainH (bwd a t) (bwd b t) 7) carry

/-- The forward states of a chunk's block. -/
def outF (v : IVec S8x128 32) (a b : Vec F S2304x128 .f32) (t : ℕ) (carry : FVec F S1x128 .f32) (r : ℕ) : FVec F S8x128 .f32 :=
  addf (chainH (fwd a t) (fwd b t) r) (mulf (chainP (fwd a t) r) (cinF v a b t carry))

/-- The backward states of the `r`-th chunk from the end. -/
def outB (v : IVec S8x128 32) (a b : Vec F S2304x128 .f32) (t : ℕ) (carry : FVec F S1x128 .f32) (r : ℕ) : FVec F S8x128 .f32 :=
  addf (chainH (bwd a t) (bwd b t) r) (mulf (chainP (bwd a t) r) (cinB v a b t carry))

/-- The forward state carried into trip `t`. -/
def carryF (v : IVec S8x128 32) (a b : Vec F S2304x128 .f32) : ℕ → FVec F S1x128 .f32
  | 0 => k0_pay89
  | t + 1 => extractStridedSlice S1x128 ![7, 0]
      (addf (mulf (chainP (fwd a t) 7) (cinF v a b t (carryF v a b t))) (chainH (fwd a t) (fwd b t) 7)) slices_S8x128_o7_0_S1x128

/-- The backward state carried into trip `t`. -/
def carryB (v : IVec S8x128 32) (a b : Vec F S2304x128 .f32) : ℕ → FVec F S1x128 .f32
  | 0 => k0_pay89
  | t + 1 => extractStridedSlice S1x128 ![0, 0]
      (addf (mulf (chainP (bwd a t) 7) (cinB v a b t (carryB v a b t))) (chainH (bwd a t) (bwd b t) 7)) slices_S8x128_o0_0_S1x128

/-- The forward blocks of the trips before `k` are in place. -/
def DoneF (v : IVec S8x128 32) (a b y : Vec F S2304x128 .f32) (k : ℕ) : Prop :=
  ∀ t < k, ∀ r < 8, rowsAt y (288 * r + 8 * t) = outF v a b t (carryF v a b t) r

/-- The backward blocks of the trips before `k` are in place. -/
def DoneB (v : IVec S8x128 32) (a b y : Vec F S2304x128 .f32) (k : ℕ) : Prop :=
  ∀ t < k, ∀ r < 8, rowsAt y (288 * (7 - r) + 8 * jb t) = outB v a b t (carryB v a b t) r

/-! ## Loads and stores of blocks -/

/-- A load of a block is eight rows of what the buffer reads. -/
theorem readAt_rows (m : Memref sig .tc .vmem S2304x128 .f32) (g : m.view.ty.Contents (Elt F)) {off : Fin 2 → ℕ} (o : ℕ) (ho : o ≤ 2296)
    (h : off = ![o, 0]) (inb : ∀ a, off a + S8x128.size a ≤ S2304x128.size a) :
    m.view.readAt (Elt F) (Rect.unit (s := S2304x128) off S8x128.size inb).toLoadRect g = rowsAt (m.view.read (Elt F) g) o := by
  subst h
  refine View.readAt_unit _ _ _ ?_ _
  rw [Nat.min_eq_left ho]

/-- A forward load. -/
theorem load_fwd (m : Memref sig .tc .vmem S2304x128 .f32) (g : m.view.ty.Contents (Elt F)) (k : Fin k0_t1_loop.trips) (r : Fin 8) (c : BitVec 32)
    (hc : c = BitVec.ofNat 32 (288 * r.val)) (inb : ∀ a, k0_off1 k c a + S8x128.size a ≤ S2304x128.size a) :
    m.view.readAt (Elt F) (Rect.unit (s := S2304x128) (k0_off1 k c) S8x128.size inb).toLoadRect g = fwd (m.view.read (Elt F) g) k.val r.val := by
  subst hc
  have := k.isLt; have e := trips_eq; have := r.isLt
  exact readAt_rows m g (288 * r.val + 8 * k.val) (by omega) (k0_off1_eq k r) inb

theorem jb_lt {t : ℕ} (h : t < 36) : jb t < 36 := by unfold jb; split <;> omega

/-- A backward load: `r` counts the chunks from the end. -/
theorem load_bwd (m : Memref sig .tc .vmem S2304x128 .f32) (g : m.view.ty.Contents (Elt F)) (k : Fin k0_t1_loop.trips) (r : ℕ) (hr : r < 8) (c : BitVec 32)
    (hc : c = BitVec.ofNat 32 (288 * (7 - r))) (inb : ∀ a, k0_off2 k c a + S8x128.size a ≤ S2304x128.size a) :
    m.view.readAt (Elt F) (Rect.unit (s := S2304x128) (k0_off2 k c) S8x128.size inb).toLoadRect g = bwd (m.view.read (Elt F) g) k.val r := by
  subst hc
  have := k.isLt; have e := trips_eq; have hj := jb_lt (t := k.val) (by omega)
  exact readAt_rows m g (288 * (7 - r) + 8 * jb k.val) (by omega) (k0_off2_eq k ⟨7 - r, by omega⟩) inb

/-- `n` blocks stored in order. -/
def puts (x : Vec F S2304x128 .f32) (o : ℕ → ℕ) (w : ℕ → Vec F S8x128 .f32) : ℕ → Vec F S2304x128 .f32
  | 0 => x
  | n + 1 => VecWindow.put (puts x o w n) ![o n, 0] S8x128.size (w n)

/-- A window's offsets respelt. -/
theorem window_off (x : Vec F S2304x128 .f32) {off off' : Fin 2 → ℕ} (h : off = off') (i : ∀ a, off a + S8x128.size a ≤ S2304x128.size a)
    (i' : ∀ a, off' a + S8x128.size a ≤ S2304x128.size a) :
    (VecWindow.window x off S8x128.size i : Vec F S8x128 .f32) = VecWindow.window x off' S8x128.size i' := by
  subst h; rfl

theorem rowsAt_put_same (x : Vec F S2304x128 .f32) (o : ℕ) (ho : o ≤ 2296) (w : Vec F S8x128 .f32) :
    rowsAt (VecWindow.put x ![o, 0] S8x128.size w) o = w := by
  refine (window_off (VecWindow.put x ![o, 0] S8x128.size w) (off := ![min o 2296, 0]) (off' := ![o, 0]) (by rw [Nat.min_eq_left ho]) _ ?_).trans (VecWindow.window_put_same (s := S2304x128) x ![o, 0] S8x128.size _ w)
  exact Fin.forall_fin_two.mpr ⟨(by show o + 8 ≤ 2304; omega), (by show 0 + 128 ≤ 128; omega)⟩

theorem rowsAt_put_of_ne (x : Vec F S2304x128 .f32) (o o' : ℕ) (ho : o ≤ 2296) (h : o + 8 ≤ o' ∨ o' + 8 ≤ o) (w : Vec F S8x128 .f32) :
    rowsAt (VecWindow.put x ![o', 0] S8x128.size w) o = rowsAt x o := by
  unfold rowsAt
  refine VecWindow.window_put_of_disjoint (s := S2304x128) x ![o', 0] S8x128.size _ S8x128.size _ w 0 ?_
  show min o 2296 + 8 ≤ o' ∨ o' + 8 ≤ min o 2296
  omega

/-- A block none of the stores touches is as before. -/
theorem rowsAt_puts_of_ne (x : Vec F S2304x128 .f32) (o : ℕ → ℕ) (w : ℕ → Vec F S8x128 .f32) (q : ℕ) (hq : q ≤ 2296) (n : ℕ)
    (h : ∀ r < n, q + 8 ≤ o r ∨ o r + 8 ≤ q) : rowsAt (puts x o w n) q = rowsAt x q := by
  induction n with
  | zero => rfl
  | succ n ih =>
    exact (rowsAt_put_of_ne _ _ _ hq (h n (Nat.lt_succ_self n)) _).trans (ih fun r hr => h r (Nat.lt_succ_of_lt hr))

/-- A block stored reads its payload, the blocks lying apart. -/
theorem rowsAt_puts (x : Vec F S2304x128 .f32) (o : ℕ → ℕ) (w : ℕ → Vec F S8x128 .f32) (n : ℕ) (ho : ∀ r < n, o r ≤ 2296)
    (h : ∀ r < n, ∀ r' < n, r ≠ r' → o r + 8 ≤ o r' ∨ o r' + 8 ≤ o r) (r : ℕ) (hr : r < n) : rowsAt (puts x o w n) (o r) = w r := by
  induction n with
  | zero => exact absurd hr (Nat.not_lt_zero r)
  | succ n ih =>
    rcases Nat.lt_succ_iff_lt_or_eq.mp hr with hlt | rfl
    · exact (rowsAt_put_of_ne _ _ _ (ho r hr) (h r hr n (Nat.lt_succ_self n) (Nat.ne_of_lt hlt)) _).trans
        (ih (fun r hr => ho r (Nat.lt_succ_of_lt hr)) (fun r hr r' hr' => h r (Nat.lt_succ_of_lt hr) r' (Nat.lt_succ_of_lt hr')) hlt)
    · exact rowsAt_put_same _ _ (ho r hr) _

open Classical in
/-- `DoneF`, said so that it holds before the first trip by computing. -/
noncomputable def allF (v : IVec S8x128 32) (a b y : Vec F S2304x128 .f32) (k : ℕ) : Bool :=
  (List.range k).all fun t => decide (∀ r < 8, rowsAt y (288 * r + 8 * t) = outF v a b t (carryF v a b t) r)

open Classical in
/-- `DoneB`, said so that it holds before the first trip by computing. -/
noncomputable def allB (v : IVec S8x128 32) (a b y : Vec F S2304x128 .f32) (k : ℕ) : Bool :=
  (List.range k).all fun t => decide (∀ r < 8, rowsAt y (288 * (7 - r) + 8 * jb t) = outB v a b t (carryB v a b t) r)

theorem allF_iff (v : IVec S8x128 32) (a b y : Vec F S2304x128 .f32) (k : ℕ) : allF v a b y k = true ↔ DoneF v a b y k := by
  simp [allF, DoneF]

theorem allB_iff (v : IVec S8x128 32) (a b y : Vec F S2304x128 .f32) (k : ℕ) : allB v a b y k = true ↔ DoneB v a b y k := by
  simp [allB, DoneB]

/-- A trip adds its forward blocks. -/
theorem doneF_step (v : IVec S8x128 32) (a b y : Vec F S2304x128 .f32) (k : ℕ) (hk : k < 36) (h : DoneF v a b y k) :
    DoneF v a b (puts y (fun r => 288 * r + 8 * k) (outF v a b k (carryF v a b k)) 8) (k + 1) := by
  intro t ht r hr
  rcases Nat.lt_succ_iff_lt_or_eq.mp ht with hlt | rfl
  · refine (rowsAt_puts_of_ne _ _ _ _ (by omega) 8 fun r' hr' => ?_).trans (h t hlt r hr)
    show 288 * r + 8 * t + 8 ≤ 288 * r' + 8 * k ∨ 288 * r' + 8 * k + 8 ≤ 288 * r + 8 * t
    omega
  · refine rowsAt_puts y (fun r => 288 * r + 8 * t) _ 8 (fun r hr => by show 288 * r + 8 * t ≤ 2296; omega) (fun r hr r' hr' hne => ?_) r hr
    show 288 * r + 8 * t + 8 ≤ 288 * r' + 8 * t ∨ 288 * r' + 8 * t + 8 ≤ 288 * r + 8 * t
    omega

theorem jb_apart {t k : ℕ} (ht : t < k) (hk : k < 36) : jb t + 1 ≤ jb k ∨ jb k + 1 ≤ jb t := by
  unfold jb; split <;> split <;> omega

/-- A trip adds its backward blocks. -/
theorem doneB_step (v : IVec S8x128 32) (a b y : Vec F S2304x128 .f32) (k : ℕ) (hk : k < 36) (h : DoneB v a b y k) :
    DoneB v a b (puts y (fun r => 288 * (7 - r) + 8 * jb k) (outB v a b k (carryB v a b k)) 8) (k + 1) := by
  intro t ht r hr
  have hjk := jb_lt hk
  rcases Nat.lt_succ_iff_lt_or_eq.mp ht with hlt | rfl
  · have hjt := jb_lt (t := t) (by omega)
    have hne := jb_apart hlt hk
    refine (rowsAt_puts_of_ne _ _ _ _ (by omega) 8 fun r' hr' => ?_).trans (h t hlt r hr)
    show 288 * (7 - r) + 8 * jb t + 8 ≤ 288 * (7 - r') + 8 * jb k ∨ 288 * (7 - r') + 8 * jb k + 8 ≤ 288 * (7 - r) + 8 * jb t
    omega
  · refine rowsAt_puts y (fun r => 288 * (7 - r) + 8 * jb t) _ 8 (fun r hr => by show 288 * (7 - r) + 8 * jb t ≤ 2296; omega) (fun r hr r' hr' hne => ?_) r hr
    show 288 * (7 - r) + 8 * jb t + 8 ≤ 288 * (7 - r') + 8 * jb t ∨ 288 * (7 - r') + 8 * jb t + 8 ≤ 288 * (7 - r) + 8 * jb t
    omega

/-- Eight stores of blocks, newest first, leave the blocks put in order. -/
theorem read_writes_blocks (m : Memref sig .tc .vmem S2304x128 .f32) (f : m.view.ty.Contents (Elt F)) (o : ℕ → ℕ) (w : ℕ → Vec F S8x128 .f32)
    {f0 f1 f2 f3 f4 f5 f6 f7 : Fin 2 → ℕ}
    (i0 : ∀ a, f0 a + S8x128.size a ≤ S2304x128.size a) (i1 : ∀ a, f1 a + S8x128.size a ≤ S2304x128.size a)
    (i2 : ∀ a, f2 a + S8x128.size a ≤ S2304x128.size a) (i3 : ∀ a, f3 a + S8x128.size a ≤ S2304x128.size a)
    (i4 : ∀ a, f4 a + S8x128.size a ≤ S2304x128.size a) (i5 : ∀ a, f5 a + S8x128.size a ≤ S2304x128.size a)
    (i6 : ∀ a, f6 a + S8x128.size a ≤ S2304x128.size a) (i7 : ∀ a, f7 a + S8x128.size a ≤ S2304x128.size a)
    (w0 w1 w2 w3 w4 w5 w6 w7 : Vec F S8x128 .f32)
    (h0 : f0 = ![o 0, 0]) (h1 : f1 = ![o 1, 0]) (h2 : f2 = ![o 2, 0]) (h3 : f3 = ![o 3, 0])
    (h4 : f4 = ![o 4, 0]) (h5 : f5 = ![o 5, 0]) (h6 : f6 = ![o 6, 0]) (h7 : f7 = ![o 7, 0])
    (e0 : w0 = w 0) (e1 : w1 = w 1) (e2 : w2 = w 2) (e3 : w3 = w 3) (e4 : w4 = w 4) (e5 : w5 = w 5) (e6 : w6 = w 6) (e7 : w7 = w 7) :
    m.view.read (Elt F) (m.view.writes (Elt F) f
      [⟨Rect.unit (s := S2304x128) f7 S8x128.size i7, w7⟩, ⟨Rect.unit (s := S2304x128) f6 S8x128.size i6, w6⟩,
       ⟨Rect.unit (s := S2304x128) f5 S8x128.size i5, w5⟩, ⟨Rect.unit (s := S2304x128) f4 S8x128.size i4, w4⟩,
       ⟨Rect.unit (s := S2304x128) f3 S8x128.size i3, w3⟩, ⟨Rect.unit (s := S2304x128) f2 S8x128.size i2, w2⟩,
       ⟨Rect.unit (s := S2304x128) f1 S8x128.size i1, w1⟩, ⟨Rect.unit (s := S2304x128) f0 S8x128.size i0, w0⟩])
      = puts (m.view.read (Elt F) f) o w 8 := by
  subst e0 e1 e2 e3 e4 e5 e6 e7
  rw [View.read_writes_cons_put _ _ _ _ _ h7, View.read_writes_cons_put _ _ _ _ _ h6, View.read_writes_cons_put _ _ _ _ _ h5,
    View.read_writes_cons_put _ _ _ _ _ h4, View.read_writes_cons_put _ _ _ _ _ h3, View.read_writes_cons_put _ _ _ _ _ h2,
    View.read_writes_cons_put _ _ _ _ _ h1, View.read_writes_cons_put _ _ _ _ _ h0]
  rfl

end Cert.Kernel5Ideal.Rglru

end
-- ==== Proof.RglruLoop.lean ====
/- The RG-LRU kernel's scan loop: each trip keeps the blocks written before it and adds its own. -/
module

public import proofs.«01_k».proof.Proof.RglruTrip
public import Idealize.ShloMosaic.Lib.Pipeline.Value

@[expose] public section

set_option maxRecDepth 16384

noncomputable section

namespace Cert.Kernel5Ideal.Rglru

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The scan's buffers before trip `k`, the loop carrying `acc`. -/
def Inv (c : Dev nD) (arg11 arg12 arg13 arg14 arg15 arg16 : Memref sig .tc .vmem S2304x128 .f32) (v188 : IVec S8x128 32)
    (g11 : arg11.view.ty.Contents (Elt F)) (g12 : arg12.view.ty.Contents (Elt F)) (g13 : arg13.view.ty.Contents (Elt F)) (g14 : arg14.view.ty.Contents (Elt F))
    (k : ℕ) (acc : FVec F S1x128 .f32 × FVec F S1x128 .f32) : sProp 𝕄 :=
  iprop((arg11.view.loc (c : Thread nD τ) ↦[arg11.view.set]{fullShare} g11) ∗ (arg12.view.loc (c : Thread nD τ) ↦[arg12.view.set]{fullShare} g12)
    ∗ (arg13.view.loc (c : Thread nD τ) ↦[arg13.view.set]{fullShare} g13) ∗ (arg14.view.loc (c : Thread nD τ) ↦[arg14.view.set]{fullShare} g14)
    ∗ (∃ f15, (arg15.view.loc (c : Thread nD τ) ↦[arg15.view.set]{fullShare} f15) ∗ ⌜allF v188 (arg11.view.read (Elt F) g11) (arg12.view.read (Elt F) g12) (arg15.view.read (Elt F) f15) k = true⌝)
    ∗ (∃ f16, (arg16.view.loc (c : Thread nD τ) ↦[arg16.view.set]{fullShare} f16) ∗ ⌜allB v188 (arg13.view.read (Elt F) g13) (arg14.view.read (Elt F) g14) (arg16.view.read (Elt F) f16) k = true⌝)
    ∗ ⌜acc = (carryF v188 (arg11.view.read (Elt F) g11) (arg12.view.read (Elt F) g12) k, carryB v188 (arg13.view.read (Elt F) g13) (arg14.view.read (Elt F) g14) k)⌝)

set_option maxHeartbeats 4000000 in
/-- One trip. -/
theorem step (c : Dev nD) (E : Set ℕ) (i : grid0.Coords) (arg2 : Memref sig .tc .vmem S1x2304x128 .bf16) (harg2 : arg2.IsWhole) (arg3 : Memref sig .tc .vmem S4x128 .f32) (harg3 : arg3.IsWhole) (arg4 : Memref sig .tc .vmem S1x128 .f32) (harg4 : arg4.IsWhole) (arg5 : Memref sig .tc .vmem S1x128x512 .bf16) (harg5 : arg5.IsWhole) (arg6 : Memref sig .tc .vmem S1x512 .f32) (harg6 : arg6.IsWhole) (arg7 : Memref sig .tc .vmem S2x128 .f32) (harg7 : arg7.IsWhole) (arg8 : Memref sig .tc .vmem S1x2048x128 .bf16) (harg8 : arg8.IsWhole) (arg9 : Memref sig .tc .vmem S2328x128 .f32) (harg9 : arg9.IsWhole) (arg10 : Memref sig .tc .vmem S2304x128 .f32) (harg10 : arg10.IsWhole) (arg11 : Memref sig .tc .vmem S2304x128 .f32) (harg11 : arg11.IsWhole) (arg12 : Memref sig .tc .vmem S2304x128 .f32) (harg12 : arg12.IsWhole) (arg13 : Memref sig .tc .vmem S2304x128 .f32) (harg13 : arg13.IsWhole) (arg14 : Memref sig .tc .vmem S2304x128 .f32) (harg14 : arg14.IsWhole) (arg15 : Memref sig .tc .vmem S2304x128 .f32) (harg15 : arg15.IsWhole) (arg16 : Memref sig .tc .vmem S2304x128 .f32) (harg16 : arg16.IsWhole) (arg17 : Memref sig .tc .vmem S2048x128 .f32) (harg17 : arg17.IsWhole)
    (v90 v149 v170 v179 : FVec F S2304x128 .f32) (v188 : IVec S8x128 32)
    (g11 : arg11.view.ty.Contents (Elt F)) (g12 : arg12.view.ty.Contents (Elt F)) (g13 : arg13.view.ty.Contents (Elt F)) (g14 : arg14.view.ty.Contents (Elt F))
    (k : Fin k0_t1_loop.trips) (acc : FVec F S1x128 .f32 × FVec F S1x128 .f32) :
    Inv c arg11 arg12 arg13 arg14 arg15 arg16 v188 g11 g12 g13 g14 k.val acc
      ⊢ wp frame (wpE (defs₀ (F := F)) Variants.none (c : Thread nD τ) none) E
          (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v90 v149 v170 v179 v188 k acc)
          (Inv c arg11 arg12 arg13 arg14 arg15 arg16 v188 g11 g12 g13 g14 (k.val + 1)) := by
  unfold Inv k0_t1_body
  simp only [k0_part9_eq_skeleton]; unfold k0_part9_skel
  simp only [k0_part1_eq_skeleton, k0_part2_eq_skeleton, k0_part3_eq_skeleton, k0_part4_eq_skeleton, k0_part5_eq_skeleton, k0_part6_eq_skeleton, k0_part7_eq_skeleton, k0_part8_eq_skeleton]
  iintro ⟨H11, H12, H13, H14, ⟨%f15, H15, %h15⟩, ⟨%f16, H16, %h16⟩, %hacc⟩
  subst hacc
  sl_exec
  sl_step
  have q_0 : step.sl.r arg11 g11 k = fwd (arg11.view.read (Elt F) g11) k.val 0 := by
    unfold step.sl.r; simp only [load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_1 : step.sl.r_1 arg12 g12 k = fwd (arg12.view.read (Elt F) g12) k.val 0 := by
    unfold step.sl.r_1; simp only [load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_2 : step.sl.r_2 arg11 arg12 g11 g12 k = chainH (fwd (arg11.view.read (Elt F) g11) k.val) (fwd (arg12.view.read (Elt F) g12) k.val) 1 := by
    unfold step.sl.r_2; simp only [q_0, q_1, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_3 : step.sl.r_3 arg11 g11 k = chainP (fwd (arg11.view.read (Elt F) g11) k.val) 1 := by
    unfold step.sl.r_3; simp only [q_0, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_4 : step.sl.r_4 arg11 arg12 g11 g12 k = chainH (fwd (arg11.view.read (Elt F) g11) k.val) (fwd (arg12.view.read (Elt F) g12) k.val) 2 := by
    unfold step.sl.r_4; simp only [q_0, q_1, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_5 : step.sl.r_5 arg11 g11 k = chainP (fwd (arg11.view.read (Elt F) g11) k.val) 2 := by
    unfold step.sl.r_5; simp only [q_0, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_6 : step.sl.r_6 arg11 arg12 g11 g12 k = chainH (fwd (arg11.view.read (Elt F) g11) k.val) (fwd (arg12.view.read (Elt F) g12) k.val) 3 := by
    unfold step.sl.r_6; simp only [q_0, q_1, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_7 : step.sl.r_7 arg11 g11 k = chainP (fwd (arg11.view.read (Elt F) g11) k.val) 3 := by
    unfold step.sl.r_7; simp only [q_0, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_8 : step.sl.r_8 arg11 g11 k = fwd (arg11.view.read (Elt F) g11) k.val 4 := by
    unfold step.sl.r_8; simp only [load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_9 : step.sl.r_9 arg11 arg12 g11 g12 k = chainH (fwd (arg11.view.read (Elt F) g11) k.val) (fwd (arg12.view.read (Elt F) g12) k.val) 4 := by
    unfold step.sl.r_9; simp only [q_6, q_8, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_10 : step.sl.r_10 arg11 g11 k = chainP (fwd (arg11.view.read (Elt F) g11) k.val) 4 := by
    unfold step.sl.r_10; simp only [q_7, q_8, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_11 : step.sl.r_11 arg11 arg12 g11 g12 k = chainH (fwd (arg11.view.read (Elt F) g11) k.val) (fwd (arg12.view.read (Elt F) g12) k.val) 5 := by
    unfold step.sl.r_11; simp only [q_6, q_8, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_12 : step.sl.r_12 arg11 g11 k = chainP (fwd (arg11.view.read (Elt F) g11) k.val) 5 := by
    unfold step.sl.r_12; simp only [q_7, q_8, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_13 : step.sl.r_13 arg11 arg12 g11 g12 k = chainH (fwd (arg11.view.read (Elt F) g11) k.val) (fwd (arg12.view.read (Elt F) g12) k.val) 6 := by
    unfold step.sl.r_13; simp only [q_6, q_8, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_14 : step.sl.r_14 arg11 g11 k = chainP (fwd (arg11.view.read (Elt F) g11) k.val) 6 := by
    unfold step.sl.r_14; simp only [q_7, q_8, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_15 : step.sl.r_15 arg11 arg12 g11 g12 k = chainH (fwd (arg11.view.read (Elt F) g11) k.val) (fwd (arg12.view.read (Elt F) g12) k.val) 7 := by
    unfold step.sl.r_15; simp only [q_6, q_8, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_16 : step.sl.r_16 arg11 g11 k = chainP (fwd (arg11.view.read (Elt F) g11) k.val) 7 := by
    unfold step.sl.r_16; simp only [q_7, q_8, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl] <;> rfl
  have q_21 : step.sl.r_21 arg11 arg12 v188 g11 g12 k = cinF v188 (arg11.view.read (Elt F) g11) (arg12.view.read (Elt F) g12) k.val (carryF v188 (arg11.view.read (Elt F) g11) (arg12.view.read (Elt F) g12) k.val) := by
    unfold step.sl.r_21 step.sl.r_20 step.sl.r_19 step.sl.r_18 step.sl.r_17; simp only [q_6, q_7, q_8, load_fwd _ _ k 0 0#32 rfl, load_fwd _ _ k 1 288#32 rfl, load_fwd _ _ k 2 576#32 rfl, load_fwd _ _ k 3 864#32 rfl, load_fwd _ _ k 4 1152#32 rfl, load_fwd _ _ k 5 1440#32 rfl, load_fwd _ _ k 6 1728#32 rfl, load_fwd _ _ k 7 2016#32 rfl]; rfl
  have q_24 : step.sl.r_24 arg13 g13 k = bwd (arg13.view.read (Elt F) g13) k.val 0 := by
    unfold step.sl.r_24; simp only [load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_25 : step.sl.r_25 arg14 g14 k = bwd (arg14.view.read (Elt F) g14) k.val 0 := by
    unfold step.sl.r_25; simp only [load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_26 : step.sl.r_26 arg13 arg14 g13 g14 k = chainH (bwd (arg13.view.read (Elt F) g13) k.val) (bwd (arg14.view.read (Elt F) g14) k.val) 1 := by
    unfold step.sl.r_26; simp only [q_25, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_27 : step.sl.r_27 arg13 g13 k = chainP (bwd (arg13.view.read (Elt F) g13) k.val) 1 := by
    unfold step.sl.r_27; simp only [q_24, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_28 : step.sl.r_28 arg13 arg14 g13 g14 k = chainH (bwd (arg13.view.read (Elt F) g13) k.val) (bwd (arg14.view.read (Elt F) g14) k.val) 2 := by
    unfold step.sl.r_28; simp only [q_26, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_29 : step.sl.r_29 arg13 g13 k = chainP (bwd (arg13.view.read (Elt F) g13) k.val) 2 := by
    unfold step.sl.r_29; simp only [q_27, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_30 : step.sl.r_30 arg13 arg14 g13 g14 k = chainH (bwd (arg13.view.read (Elt F) g13) k.val) (bwd (arg14.view.read (Elt F) g14) k.val) 3 := by
    unfold step.sl.r_30; simp only [q_26, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_31 : step.sl.r_31 arg13 g13 k = chainP (bwd (arg13.view.read (Elt F) g13) k.val) 3 := by
    unfold step.sl.r_31; simp only [q_27, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_32 : step.sl.r_32 arg13 arg14 g13 g14 k = chainH (bwd (arg13.view.read (Elt F) g13) k.val) (bwd (arg14.view.read (Elt F) g14) k.val) 4 := by
    unfold step.sl.r_32; simp only [q_26, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_33 : step.sl.r_33 arg13 g13 k = chainP (bwd (arg13.view.read (Elt F) g13) k.val) 4 := by
    unfold step.sl.r_33; simp only [q_27, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_34 : step.sl.r_34 arg13 arg14 g13 g14 k = chainH (bwd (arg13.view.read (Elt F) g13) k.val) (bwd (arg14.view.read (Elt F) g14) k.val) 5 := by
    unfold step.sl.r_34; simp only [q_26, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_35 : step.sl.r_35 arg13 g13 k = chainP (bwd (arg13.view.read (Elt F) g13) k.val) 5 := by
    unfold step.sl.r_35; simp only [q_27, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_36 : step.sl.r_36 arg13 g13 k = bwd (arg13.view.read (Elt F) g13) k.val 6 := by
    unfold step.sl.r_36; simp only [load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_37 : step.sl.r_37 arg14 g14 k = bwd (arg14.view.read (Elt F) g14) k.val 6 := by
    unfold step.sl.r_37; simp only [load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_38 : step.sl.r_38 arg13 arg14 g13 g14 k = mulf (bwd (arg13.view.read (Elt F) g13) k.val 6) (chainH (bwd (arg13.view.read (Elt F) g13) k.val) (bwd (arg14.view.read (Elt F) g14) k.val) 5) := by
    unfold step.sl.r_38; simp only [q_26, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_39 : step.sl.r_39 arg13 arg14 g13 g14 k = chainH (bwd (arg13.view.read (Elt F) g13) k.val) (bwd (arg14.view.read (Elt F) g14) k.val) 6 := by
    unfold step.sl.r_39; simp only [q_37, q_38, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_40 : step.sl.r_40 arg13 g13 k = chainP (bwd (arg13.view.read (Elt F) g13) k.val) 6 := by
    unfold step.sl.r_40; simp only [q_35, q_36, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_41 : step.sl.r_41 arg13 arg14 g13 g14 k = chainH (bwd (arg13.view.read (Elt F) g13) k.val) (bwd (arg14.view.read (Elt F) g14) k.val) 7 := by
    unfold step.sl.r_41; simp only [q_37, q_38, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_42 : step.sl.r_42 arg13 g13 k = chainP (bwd (arg13.view.read (Elt F) g13) k.val) 7 := by
    unfold step.sl.r_42; simp only [q_35, q_36, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl] <;> rfl
  have q_45 : step.sl.r_45 arg13 arg14 v188 g13 g14 k = cinB v188 (arg13.view.read (Elt F) g13) (arg14.view.read (Elt F) g14) k.val (carryB v188 (arg13.view.read (Elt F) g13) (arg14.view.read (Elt F) g14) k.val) := by
    unfold step.sl.r_45 step.sl.r_44 step.sl.r_43; simp only [q_35, q_36, q_37, q_38, load_bwd _ _ k 7 (by decide) 0#32 rfl, load_bwd _ _ k 6 (by decide) 288#32 rfl, load_bwd _ _ k 5 (by decide) 576#32 rfl, load_bwd _ _ k 4 (by decide) 864#32 rfl, load_bwd _ _ k 3 (by decide) 1152#32 rfl, load_bwd _ _ k 2 (by decide) 1440#32 rfl, load_bwd _ _ k 1 (by decide) 1728#32 rfl, load_bwd _ _ k 0 (by decide) 2016#32 rfl]; rfl
  have q_21' : k0_pay25 (step.sl.r_19 arg11 arg12 v188 g11 g12 k) (step.sl.r_20 arg11 arg12 v188 g11 g12 k) = cinF v188 (arg11.view.read (Elt F) g11) (arg12.view.read (Elt F) g12) k.val (carryF v188 (arg11.view.read (Elt F) g11) (arg12.view.read (Elt F) g12) k.val) := q_21
  have q_45' : k0_pay53 v188 (carryB v188 (arg13.view.read (Elt F) g13) (arg14.view.read (Elt F) g14) k.val) (step.sl.r_43 arg13 v188 g13 k) (step.sl.r_44 arg13 arg14 v188 g13 g14 k) = cinB v188 (arg13.view.read (Elt F) g13) (arg14.view.read (Elt F) g14) k.val (carryB v188 (arg13.view.read (Elt F) g13) (arg14.view.read (Elt F) g14) k.val) := q_45
  have pF0 : k0_pay26 (step.sl.r arg11 g11 k) (step.sl.r_1 arg12 g12 k) (step.sl.r_19 arg11 arg12 v188 g11 g12 k) (step.sl.r_20 arg11 arg12 v188 g11 g12 k) = outF v188 (arg11.view.read (Elt F) g11) (arg12.view.read (Elt F) g12) k.val (carryF v188 (arg11.view.read (Elt F) g11) (arg12.view.read (Elt F) g12) k.val) 0 := by
    simp only [q_0, q_1, k0_pay26, k0_pay27, k0_pay28, k0_pay29, k0_pay30, k0_pay31, k0_pay32, k0_pay33, q_21, q_21', shapeCast_self]; rfl
  have pF1 : k0_pay27 (step.sl.r_2 arg11 arg12 g11 g12 k) (step.sl.r_3 arg11 g11 k) (step.sl.r_19 arg11 arg12 v188 g11 g12 k) (step.sl.r_20 arg11 arg12 v188 g11 g12 k) = outF v188 (arg11.view.read (Elt F) g11) (arg12.view.read (Elt F) g12) k.val (carryF v188 (arg11.view.read (Elt F) g11) (arg12.view.read (Elt F) g12) k.val) 1 := by
    simp only [q_2, q_3, k0_pay26, k0_pay27, k0_pay28, k0_pay29, k0_pay30, k0_pay31, k0_pay32, k0_pay33, q_21, q_21', shapeCast_self]; rfl
  have pF2 : k0_pay28 (step.sl.r_4 arg11 arg12 g11 g12 k) (step.sl.r_5 arg11 g11 k) (step.sl.r_19 arg11 arg12 v188 g11 g12 k) (step.sl.r_20 arg11 arg12 v188 g11 g12 k) = outF v188 (arg11.view.read (Elt F) g11) (arg12.view.read (Elt F) g12) k.val (carryF v188 (arg11.view.read (Elt F) g11) (arg12.view.read (Elt F) g12) k.val) 2 := by
    simp only [q_4, q_5, k0_pay26, k0_pay27, k0_pay28, k0_pay29, k0_pay30, k0_pay31, k0_pay32, k0_pay33, q_21, q_21', shapeCast_self]; rfl
  have pF3 : k0_pay29 (step.sl.r_6 arg11 arg12 g11 g12 k) (step.sl.r_7 arg11 g11 k) (step.sl.r_19 arg11 arg12 v188 g11 g12 k) (step.sl.r_20 arg11 arg12 v188 g11 g12 k) = outF v188 (arg11.view.read (Elt F) g11) (arg12.view.read (Elt F) g12) k.val (carryF v188 (arg11.view.read (Elt F) g11) (arg12.view.read (Elt F) g12) k.val) 3 := by
    simp only [q_6, q_7, k0_pay26, k0_pay27, k0_pay28, k0_pay29, k0_pay30, k0_pay31, k0_pay32, k0_pay33, q_21, q_21', shapeCast_self]; rfl
  have pF4 : k0_pay30 (step.sl.r_9 arg11 arg12 g11 g12 k) (step.sl.r_10 arg11 g11 k) (step.sl.r_19 arg11 arg12 v188 g11 g12 k) (step.sl.r_20 arg11 arg12 v188 g11 g12 k) = outF v188 (arg11.view.read (Elt F) g11) (arg12.view.read (Elt F) g12) k.val (carryF v188 (arg11.view.read (Elt F) g11) (arg12.view.read (Elt F) g12) k.val) 4 := by
    simp only [q_9, q_10, k0_pay26, k0_pay27, k0_pay28, k0_pay29, k0_pay30, k0_pay31, k0_pay32, k0_pay33, q_21, q_21', shapeCast_self]; rfl
  have pF5 : step.sl.r_22 arg11 arg12 v188 g11 g12 k = outF v188 (arg11.view.read (Elt F) g11) (arg12.view.read (Elt F) g12) k.val (carryF v188 (arg11.view.read (Elt F) g11) (arg12.view.read (Elt F) g12) k.val) 5 := by
    unfold step.sl.r_22; simp only [q_11, q_12, k0_pay26, k0_pay27, k0_pay28, k0_pay29, k0_pay30, k0_pay31, k0_pay32, k0_pay33, q_21, q_21', shapeCast_self]; rfl
  have pF6 : k0_pay32 (step.sl.r_13 arg11 arg12 g11 g12 k) (step.sl.r_14 arg11 g11 k) (step.sl.r_21 arg11 arg12 v188 g11 g12 k) = outF v188 (arg11.view.read (Elt F) g11) (arg12.view.read (Elt F) g12) k.val (carryF v188 (arg11.view.read (Elt F) g11) (arg12.view.read (Elt F) g12) k.val) 6 := by
    simp only [q_13, q_14, k0_pay26, k0_pay27, k0_pay28, k0_pay29, k0_pay30, k0_pay31, k0_pay32, k0_pay33, q_21, q_21', shapeCast_self]; rfl
  have pF7 : k0_pay33 (step.sl.r_15 arg11 arg12 g11 g12 k) (step.sl.r_16 arg11 g11 k) (step.sl.r_21 arg11 arg12 v188 g11 g12 k) = outF v188 (arg11.view.read (Elt F) g11) (arg12.view.read (Elt F) g12) k.val (carryF v188 (arg11.view.read (Elt F) g11) (arg12.view.read (Elt F) g12) k.val) 7 := by
    simp only [q_15, q_16, k0_pay26, k0_pay27, k0_pay28, k0_pay29, k0_pay30, k0_pay31, k0_pay32, k0_pay33, q_21, q_21', shapeCast_self]; rfl
  have pB0 : k0_pay54 v188 (carryB v188 (arg13.view.read (Elt F) g13) (arg14.view.read (Elt F) g14) k.val) (step.sl.r_24 arg13 g13 k) (step.sl.r_25 arg14 g14 k) (step.sl.r_43 arg13 v188 g13 k) (step.sl.r_44 arg13 arg14 v188 g13 g14 k) = outB v188 (arg13.view.read (Elt F) g13) (arg14.view.read (Elt F) g14) k.val (carryB v188 (arg13.view.read (Elt F) g13) (arg14.view.read (Elt F) g14) k.val) 0 := by
    simp only [q_24, q_25, k0_pay54, k0_pay55, k0_pay56, k0_pay57, k0_pay58, k0_pay59, k0_pay60, k0_pay61, q_45, q_45', shapeCast_self]; rfl
  have pB1 : k0_pay55 v188 (carryB v188 (arg13.view.read (Elt F) g13) (arg14.view.read (Elt F) g14) k.val) (step.sl.r_26 arg13 arg14 g13 g14 k) (step.sl.r_27 arg13 g13 k) (step.sl.r_43 arg13 v188 g13 k) (step.sl.r_44 arg13 arg14 v188 g13 g14 k) = outB v188 (arg13.view.read (Elt F) g13) (arg14.view.read (Elt F) g14) k.val (carryB v188 (arg13.view.read (Elt F) g13) (arg14.view.read (Elt F) g14) k.val) 1 := by
    simp only [q_26, q_27, k0_pay54, k0_pay55, k0_pay56, k0_pay57, k0_pay58, k0_pay59, k0_pay60, k0_pay61, q_45, q_45', shapeCast_self]; rfl
  have pB2 : step.sl.r_46 arg13 arg14 v188 g13 g14 k = outB v188 (arg13.view.read (Elt F) g13) (arg14.view.read (Elt F) g14) k.val (carryB v188 (arg13.view.read (Elt F) g13) (arg14.view.read (Elt F) g14) k.val) 2 := by
    unfold step.sl.r_46; simp only [q_28, q_29, k0_pay54, k0_pay55, k0_pay56, k0_pay57, k0_pay58, k0_pay59, k0_pay60, k0_pay61, q_45, q_45', shapeCast_self]; rfl
  have pB3 : k0_pay57 (step.sl.r_30 arg13 arg14 g13 g14 k) (step.sl.r_31 arg13 g13 k) (step.sl.r_45 arg13 arg14 v188 g13 g14 k) = outB v188 (arg13.view.read (Elt F) g13) (arg14.view.read (Elt F) g14) k.val (carryB v188 (arg13.view.read (Elt F) g13) (arg14.view.read (Elt F) g14) k.val) 3 := by
    simp only [q_30, q_31, k0_pay54, k0_pay55, k0_pay56, k0_pay57, k0_pay58, k0_pay59, k0_pay60, k0_pay61, q_45, q_45', shapeCast_self]; rfl
  have pB4 : k0_pay58 (step.sl.r_32 arg13 arg14 g13 g14 k) (step.sl.r_33 arg13 g13 k) (step.sl.r_45 arg13 arg14 v188 g13 g14 k) = outB v188 (arg13.view.read (Elt F) g13) (arg14.view.read (Elt F) g14) k.val (carryB v188 (arg13.view.read (Elt F) g13) (arg14.view.read (Elt F) g14) k.val) 4 := by
    simp only [q_32, q_33, k0_pay54, k0_pay55, k0_pay56, k0_pay57, k0_pay58, k0_pay59, k0_pay60, k0_pay61, q_45, q_45', shapeCast_self]; rfl
  have pB5 : k0_pay59 (step.sl.r_34 arg13 arg14 g13 g14 k) (step.sl.r_35 arg13 g13 k) (step.sl.r_45 arg13 arg14 v188 g13 g14 k) = outB v188 (arg13.view.read (Elt F) g13) (arg14.view.read (Elt F) g14) k.val (carryB v188 (arg13.view.read (Elt F) g13) (arg14.view.read (Elt F) g14) k.val) 5 := by
    simp only [q_34, q_35, k0_pay54, k0_pay55, k0_pay56, k0_pay57, k0_pay58, k0_pay59, k0_pay60, k0_pay61, q_45, q_45', shapeCast_self]; rfl
  have pB6 : k0_pay60 (step.sl.r_39 arg13 arg14 g13 g14 k) (step.sl.r_40 arg13 g13 k) (step.sl.r_45 arg13 arg14 v188 g13 g14 k) = outB v188 (arg13.view.read (Elt F) g13) (arg14.view.read (Elt F) g14) k.val (carryB v188 (arg13.view.read (Elt F) g13) (arg14.view.read (Elt F) g14) k.val) 6 := by
    simp only [q_39, q_40, k0_pay54, k0_pay55, k0_pay56, k0_pay57, k0_pay58, k0_pay59, k0_pay60, k0_pay61, q_45, q_45', shapeCast_self]; rfl
  have pB7 : k0_pay61 (step.sl.r_41 arg13 arg14 g13 g14 k) (step.sl.r_42 arg13 g13 k) (step.sl.r_45 arg13 arg14 v188 g13 g14 k) = outB v188 (arg13.view.read (Elt F) g13) (arg14.view.read (Elt F) g14) k.val (carryB v188 (arg13.view.read (Elt F) g13) (arg14.view.read (Elt F) g14) k.val) 7 := by
    simp only [q_41, q_42, k0_pay54, k0_pay55, k0_pay56, k0_pay57, k0_pay58, k0_pay59, k0_pay60, k0_pay61, q_45, q_45', shapeCast_self]; rfl
  have q_23 : step.sl.r_23 arg11 arg12 v188 g11 g12 k = carryF v188 (arg11.view.read (Elt F) g11) (arg12.view.read (Elt F) g12) (k.val + 1) := by
    unfold step.sl.r_23
    rw [q_15, q_16, q_21]; rfl
  have q_90 : k0_pay90 (step.sl.r_41 arg13 arg14 g13 g14 k) (k0_pay62 (step.sl.r_42 arg13 g13 k) (step.sl.r_45 arg13 arg14 v188 g13 g14 k)) = carryB v188 (arg13.view.read (Elt F) g13) (arg14.view.read (Elt F) g14) (k.val + 1) := by
    rw [q_41, q_42, q_45]; rfl
  have hk : k.val < 36 := Nat.lt_of_lt_of_eq k.isLt trips_eq
  isplitl [H11]; · iexact H11
  isplitl [H12]; · iexact H12
  isplitl [H13]; · iexact H13
  isplitl [H14]; · iexact H14
  isplitl [H15]
  · iexists _; isplitl [H15]; · iexact H15
    ipureintro
    have hw := read_writes_blocks arg15 f15 (fun r => 288 * r + 8 * k.val)
      (outF v188 (arg11.view.read (Elt F) g11) (arg12.view.read (Elt F) g12) k.val (carryF v188 (arg11.view.read (Elt F) g11) (arg12.view.read (Elt F) g12) k.val))
      (k0_off1_inb k 0) (k0_off1_inb k 1) (k0_off1_inb k 2) (k0_off1_inb k 3) (k0_off1_inb k 4) (k0_off1_inb k 5) (k0_off1_inb k 6) (k0_off1_inb k 7)
      _ _ _ _ _ _ _ _
      (k0_off1_eq k 0) (k0_off1_eq k 1) (k0_off1_eq k 2) (k0_off1_eq k 3) (k0_off1_eq k 4) (k0_off1_eq k 5) (k0_off1_eq k 6) (k0_off1_eq k 7)
      (pF0) (pF1) (pF2) (pF3) (pF4) (pF5) (pF6) (pF7)
    refine (allF_iff _ _ _ _ _).mpr ?_
    refine Eq.mpr (congrArg (fun y => DoneF v188 _ _ y (k.val + 1)) hw) ?_
    exact doneF_step _ _ _ _ _ hk ((allF_iff _ _ _ _ _).mp h15)
  isplitl [H16]
  · iexists _; isplitl [H16]; · iexact H16
    ipureintro
    have hw := read_writes_blocks arg16 f16 (fun r => 288 * (7 - r) + 8 * jb k.val)
      (outB v188 (arg13.view.read (Elt F) g13) (arg14.view.read (Elt F) g14) k.val (carryB v188 (arg13.view.read (Elt F) g13) (arg14.view.read (Elt F) g14) k.val))
      (k0_off2_inb k 7) (k0_off2_inb k 6) (k0_off2_inb k 5) (k0_off2_inb k 4) (k0_off2_inb k 3) (k0_off2_inb k 2) (k0_off2_inb k 1) (k0_off2_inb k 0)
      _ _ _ _ _ _ _ _
      (k0_off2_eq k 7) (k0_off2_eq k 6) (k0_off2_eq k 5) (k0_off2_eq k 4) (k0_off2_eq k 3) (k0_off2_eq k 2) (k0_off2_eq k 1) (k0_off2_eq k 0)
      (pB0) (pB1) (pB2) (pB3) (pB4) (pB5) (pB6) (pB7)
    refine (allB_iff _ _ _ _ _).mpr ?_
    refine Eq.mpr (congrArg (fun y => DoneB v188 _ _ y (k.val + 1)) hw) ?_
    exact doneB_step _ _ _ _ _ hk ((allB_iff _ _ _ _ _).mp h16)
  ipureintro
  exact Prod.ext q_23 q_90

set_option warn.classDefReducibility false in
/-- The loop by its invariant. -/
@[sl_loop] def loopInv (c : Dev nD) (E : Set ℕ) (i : grid0.Coords) (arg2 : Memref sig .tc .vmem S1x2304x128 .bf16) (harg2 : arg2.IsWhole) (arg3 : Memref sig .tc .vmem S4x128 .f32) (harg3 : arg3.IsWhole) (arg4 : Memref sig .tc .vmem S1x128 .f32) (harg4 : arg4.IsWhole) (arg5 : Memref sig .tc .vmem S1x128x512 .bf16) (harg5 : arg5.IsWhole) (arg6 : Memref sig .tc .vmem S1x512 .f32) (harg6 : arg6.IsWhole) (arg7 : Memref sig .tc .vmem S2x128 .f32) (harg7 : arg7.IsWhole) (arg8 : Memref sig .tc .vmem S1x2048x128 .bf16) (harg8 : arg8.IsWhole) (arg9 : Memref sig .tc .vmem S2328x128 .f32) (harg9 : arg9.IsWhole) (arg10 : Memref sig .tc .vmem S2304x128 .f32) (harg10 : arg10.IsWhole) (arg11 : Memref sig .tc .vmem S2304x128 .f32) (harg11 : arg11.IsWhole) (arg12 : Memref sig .tc .vmem S2304x128 .f32) (harg12 : arg12.IsWhole) (arg13 : Memref sig .tc .vmem S2304x128 .f32) (harg13 : arg13.IsWhole) (arg14 : Memref sig .tc .vmem S2304x128 .f32) (harg14 : arg14.IsWhole) (arg15 : Memref sig .tc .vmem S2304x128 .f32) (harg15 : arg15.IsWhole) (arg16 : Memref sig .tc .vmem S2304x128 .f32) (harg16 : arg16.IsWhole) (arg17 : Memref sig .tc .vmem S2048x128 .f32) (harg17 : arg17.IsWhole)
    (v90 v149 v170 v179 : FVec F S2304x128 .f32) (v188 : IVec S8x128 32)
    (g11 : arg11.view.ty.Contents (Elt F)) (g12 : arg12.view.ty.Contents (Elt F)) (g13 : arg13.view.ty.Contents (Elt F)) (g14 : arg14.view.ty.Contents (Elt F)) :
    Gen.LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v90 v149 v170 v179 v188 (k0_pay89, k0_pay89) where
  inv := Inv c arg11 arg12 arg13 arg14 arg15 arg16 v188 g11 g12 g13 g14
  step k acc := step c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v90 v149 v170 v179 v188 g11 g12 g13 g14 k acc

end Cert.Kernel5Ideal.Rglru

end
-- ==== Proof.RglruSpec.lean ====
/- What a grid point of the RG-LRU kernel writes, as a function of the blocks that it reads. -/
module

public import proofs.«01_k».proof.Proof.RglruTrip
public import Idealize.ShloMosaic.Lib.Pipeline.FrameBody
public import Idealize.ShloMosaic.Lib.Pointwise.Index

@[expose] public section

set_option maxRecDepth 16384

noncomputable section

namespace Cert.Kernel5Ideal.Rglru

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The padded input block: eight rows of zeros before, between and after the two parts. -/
def paddedL (x2 : Vec F S1x2304x128 .bf16) : List (View.Piece (Elt F) S2328x128 .f32) :=
  [⟨Rect.unit ![272, 0] S2048x128.size inb_S2328x128_S2048x128_272_0, k0_pay68 (View.ld x2 (Rect.unit ![0, 256, 0] S1x2048x128.size inb_S1x2304x128_S1x2048x128_0_256_0))⟩,
   ⟨Rect.unit ![8, 0] S256x128.size inb_S2328x128_S256x128_8_0, k0_pay67 (View.ld x2 (Rect.unit ![0, 0, 0] S1x256x128.size inb_S1x2304x128_S1x256x128_0_0_0))⟩,
   ⟨Rect.unit ![2320, 0] S8x128.size inb_S2328x128_S8x128_2320_0, k0_pay66⟩,
   ⟨Rect.unit ![264, 0] S8x128.size inb_S2328x128_S8x128_264_0, k0_pay65⟩,
   ⟨Rect.unit ![0, 0] S8x128.size inb_S2328x128_S8x128_0_0, k0_pay64⟩]

/-- Rows of the padded block: 256 from `8 + d`, or 2048 from `272 + d`. -/
def padded (x2 : Vec F S1x2304x128 .bf16) : Vec F S2328x128 .f32 := View.canon (paddedL x2)

/-- The convolution, in the order of the positions. -/
def convL (x2 : Vec F S1x2304x128 .bf16) (x3 : Vec F S4x128 .f32) (x4 : Vec F S1x128 .f32) : List (View.Piece (Elt F) S2304x128 .f32) :=
  [⟨Rect.unit ![256, 0] S2048x128.size inb_S2304x128_S2048x128_256_0,
     k0_pay74
       (k0_pay72 (View.ld x4 (Rect.unit ![0, 0] S1x128.size inb_S1x128_S1x128_0_0)) (View.ld x3 (Rect.unit ![2, 0] S1x128.size inb_S4x128_S1x128_2_0))
         (View.ld (padded x2) (Rect.unit ![272, 0] S2048x128.size inb_S2328x128_S2048x128_272_0)))
       (View.ld (padded x2) (Rect.unit ![270, 0] S2048x128.size inb_S2328x128_S2048x128_270_0))
       (k0_pay73 (View.ld x3 (Rect.unit ![0, 0] S1x128.size inb_S4x128_S1x128_0_0)))
       (View.ld x3 (Rect.unit ![1, 0] S1x128.size inb_S4x128_S1x128_1_0))
       (View.ld (padded x2) (Rect.unit ![271, 0] S2048x128.size inb_S2328x128_S2048x128_271_0))
       (View.ld x3 (Rect.unit ![3, 0] S1x128.size inb_S4x128_S1x128_3_0))
       (View.ld (padded x2) (Rect.unit ![273, 0] S2048x128.size inb_S2328x128_S2048x128_273_0))⟩,
   ⟨Rect.unit ![0, 0] S256x128.size inb_S2304x128_S256x128_0_0,
     k0_pay71
       (k0_pay69 (View.ld x3 (Rect.unit ![2, 0] S1x128.size inb_S4x128_S1x128_2_0)) (View.ld (padded x2) (Rect.unit ![8, 0] S256x128.size inb_S2328x128_S256x128_8_0)))
       (k0_pay70 (View.ld x4 (Rect.unit ![0, 0] S1x128.size inb_S1x128_S1x128_0_0)))
       (View.ld x3 (Rect.unit ![0, 0] S1x128.size inb_S4x128_S1x128_0_0))
       (View.ld (padded x2) (Rect.unit ![6, 0] S256x128.size inb_S2328x128_S256x128_6_0))
       (View.ld x3 (Rect.unit ![1, 0] S1x128.size inb_S4x128_S1x128_1_0))
       (View.ld (padded x2) (Rect.unit ![7, 0] S256x128.size inb_S2328x128_S256x128_7_0))
       (View.ld x3 (Rect.unit ![3, 0] S1x128.size inb_S4x128_S1x128_3_0))
       (View.ld (padded x2) (Rect.unit ![9, 0] S256x128.size inb_S2328x128_S256x128_9_0))⟩]

def conv (x2 : Vec F S1x2304x128 .bf16) (x3 : Vec F S4x128 .f32) (x4 : Vec F S1x128 .f32) : Vec F S2304x128 .f32 := View.canon (convL x2 x3 x4)

/-- Every eighth position from `k`. -/
def every8 (z : Vec F S2304x128 .f32) (k : ℕ) (h : ∀ a, S288x128.size a = 0 ∨ (![k, 0] : Fin 2 → Nat) a + (![8, 1] : Fin 2 → Nat) a * (S288x128.size a - 1) < S2304x128.size a) :
    Vec F S288x128 .f32 :=
  fun j => z ((⟨![k, 0], S288x128.size, ![8, 1], h⟩ : LoadRect S2304x128).idx j)

/-- The convolution with the positions strided over the eight chunks. -/
def chunks (x2 : Vec F S1x2304x128 .bf16) (x3 : Vec F S4x128 .f32) (x4 : Vec F S1x128 .f32) : FVec F S2304x128 .f32 :=
  k0_pay75
    (every8 (conv x2 x3 x4) 0 inb_S2304x128_S288x128_0_0_s_8_1) (every8 (conv x2 x3 x4) 1 inb_S2304x128_S288x128_1_0_s_8_1) (every8 (conv x2 x3 x4) 2 inb_S2304x128_S288x128_2_0_s_8_1) (every8 (conv x2 x3 x4) 3 inb_S2304x128_S288x128_3_0_s_8_1) (every8 (conv x2 x3 x4) 4 inb_S2304x128_S288x128_4_0_s_8_1) (every8 (conv x2 x3 x4) 5 inb_S2304x128_S288x128_5_0_s_8_1) (every8 (conv x2 x3 x4) 6 inb_S2304x128_S288x128_6_0_s_8_1) (every8 (conv x2 x3 x4) 7 inb_S2304x128_S288x128_7_0_s_8_1)

/-- The same, narrowed for the product. -/
def chunksB (x2 : Vec F S1x2304x128 .bf16) (x3 : Vec F S4x128 .f32) (x4 : Vec F S1x128 .f32) : FVec F S2304x128 .bf16 :=
  k0_pay76
    (every8 (conv x2 x3 x4) 0 inb_S2304x128_S288x128_0_0_s_8_1) (every8 (conv x2 x3 x4) 1 inb_S2304x128_S288x128_1_0_s_8_1) (every8 (conv x2 x3 x4) 2 inb_S2304x128_S288x128_2_0_s_8_1) (every8 (conv x2 x3 x4) 3 inb_S2304x128_S288x128_3_0_s_8_1) (every8 (conv x2 x3 x4) 4 inb_S2304x128_S288x128_4_0_s_8_1) (every8 (conv x2 x3 x4) 5 inb_S2304x128_S288x128_5_0_s_8_1) (every8 (conv x2 x3 x4) 6 inb_S2304x128_S288x128_6_0_s_8_1) (every8 (conv x2 x3 x4) 7 inb_S2304x128_S288x128_7_0_s_8_1)

section
variable (x2 : Vec F S1x2304x128 .bf16) (x3 : Vec F S4x128 .f32) (x4 : Vec F S1x128 .f32) (x5 : Vec F S1x128x512 .bf16) (x6 : Vec F S1x512 .f32)
  (x7 : Vec F S2x128 .f32)

/-- The weights, and the bias. -/
def wts : FVec F S128x512 .bf16 := k0_pay77 (View.ld x5 (Rect.unit ![0, 0, 0] S1x128x512.size inb_S1x128x512_S1x128x512_0_0_0))

def zeros : FVec F S2304x512 .f32 := constant S2304x512 .f32 0x00000000#32

def bia : Vec F S1x512 .f32 := View.ld x6 (Rect.unit ![0, 0] S1x512.size inb_S1x512_S1x512_0_0)

/-- The hyperbolic tangents of the halved gates. -/
def gates : FVec F S2304x512 .f32 := k0_pay78 (chunksB x2 x3 x4) (wts x5) zeros (bia x6)

def lam0 : Vec F S1x128 .f32 := View.ld x7 (Rect.unit ![0, 0] S1x128.size inb_S2x128_S1x128_0_0)

def lam1 : Vec F S1x128 .f32 := View.ld x7 (Rect.unit ![1, 0] S1x128.size inb_S2x128_S1x128_1_0)

/-- The forward half's decays and inputs. -/
def aF : FVec F S2304x128 .f32 := k0_pay82 (k0_pay80 (chunksB x2 x3 x4) (wts x5) zeros (bia x6) (lam0 x7))

def bF : FVec F S2304x128 .f32 :=
  k0_pay83 (chunks x2 x3 x4) (k0_pay79 (chunksB x2 x3 x4) (wts x5) zeros (bia x6)) (k0_pay81 (chunksB x2 x3 x4) (wts x5) zeros (bia x6) (lam0 x7))

/-- The backward half's decays and inputs. -/
def aB : FVec F S2304x128 .f32 := k0_pay87 (k0_pay85 (gates x2 x3 x4 x5 x6) (lam1 x7))

def bB : FVec F S2304x128 .f32 :=
  k0_pay88 (chunks x2 x3 x4) (k0_pay84 (gates x2 x3 x4 x5 x6)) (k0_pay86 (gates x2 x3 x4 x5 x6) (lam1 x7))

end

/-- The sublanes' numbers. -/
def lanes : IVec S8x128 32 := iota .tc S8x128 32 [0] iota_S8x128_d0_w32

/-- The forward states of all positions, strided over the chunks. -/
def statesF (v : IVec S8x128 32) (a b : Vec F S2304x128 .f32) : Vec F S2304x128 .f32 := fun y =>
  outF v a b ((y 0).val % 288 / 8) (carryF v a b ((y 0).val % 288 / 8)) ((y 0).val / 288) (ix2 ⟨(y 0).val % 8, Nat.mod_lt _ (by decide)⟩ (y 1))

/-- The trip of the backward half that writes block `j` of a chunk. -/
def tripB (j : ℕ) : ℕ := if j < 4 then 3 - j else 39 - j

/-- The backward states of all positions. -/
def statesB (v : IVec S8x128 32) (a b : Vec F S2304x128 .f32) : Vec F S2304x128 .f32 := fun y =>
  outB v a b (tripB ((y 0).val % 288 / 8)) (carryB v a b (tripB ((y 0).val % 288 / 8))) (7 - (y 0).val / 288)
    (ix2 ⟨(y 0).val % 8, Nat.mod_lt _ (by decide)⟩ (y 1))

/-- The sum of the two halves' states, for the positions after the first 256, in order. -/
def joined (y z : Vec F S2304x128 .f32) : Vec F S2048x128 .f32 := fun n =>
  addf y z (ix2 ⟨288 * ((n 0).val % 8) + 32 + (n 0).val / 8, by have : (n 0).val < 2048 := (n 0).isLt; omega⟩ (n 1))

/-- What a grid point writes. -/
def blockOut (x2 : Vec F S1x2304x128 .bf16) (x3 : Vec F S4x128 .f32) (x4 : Vec F S1x128 .f32) (x5 : Vec F S1x128x512 .bf16) (x6 : Vec F S1x512 .f32)
    (x7 : Vec F S2x128 .f32) : Vec F S1x2048x128 .bf16 :=
  k0_pay2 (joined (statesF lanes (aF x2 x3 x4 x5 x6 x7) (bF x2 x3 x4 x5 x6 x7)) (statesB lanes (aB x2 x3 x4 x5 x6 x7) (bB x2 x3 x4 x5 x6 x7)))

/-! ## The blocks in place are the states -/

theorem jb_tripB (j : ℕ) (hj : j < 36) : jb (tripB j) = j ∧ tripB j < 36 := by
  unfold jb tripB
  split <;> split <;> omega

theorem statesF_of_done (v : IVec S8x128 32) (a b y : Vec F S2304x128 .f32) (h : DoneF v a b y 36) : y = statesF v a b := by
  funext j
  have hj : (j 0).val < 2304 := (j 0).isLt
  have e := congrFun (h ((j 0).val % 288 / 8) (by omega) ((j 0).val / 288) (by omega)) (ix2 ⟨(j 0).val % 8, Nat.mod_lt _ (by decide)⟩ (j 1))
  refine Eq.trans (congrArg y ?_) e
  refine funext fun c => Fin.ext ?_
  fin_cases c
  · show (j 0).val = min (288 * ((j 0).val / 288) + 8 * ((j 0).val % 288 / 8)) 2296 + 1 * ((j 0).val % 8)
    omega
  · show (j 1).val = 0 + 1 * (j 1).val
    omega

theorem statesB_of_done (v : IVec S8x128 32) (a b y : Vec F S2304x128 .f32) (h : DoneB v a b y 36) : y = statesB v a b := by
  funext j
  have hj : (j 0).val < 2304 := (j 0).isLt
  obtain ⟨e1, e2⟩ := jb_tripB ((j 0).val % 288 / 8) (by omega)
  have e := congrFun (h (tripB ((j 0).val % 288 / 8)) e2 (7 - (j 0).val / 288) (by omega)) (ix2 ⟨(j 0).val % 8, Nat.mod_lt _ (by decide)⟩ (j 1))
  refine Eq.trans (congrArg y ?_) e
  refine funext fun c => Fin.ext ?_
  fin_cases c
  · show (j 0).val = min (288 * (7 - (7 - (j 0).val / 288)) + 8 * jb (tripB ((j 0).val % 288 / 8))) 2296 + 1 * ((j 0).val % 8)
    rw [e1]; omega
  · show (j 1).val = 0 + 1 * (j 1).val
    omega

/-- One store of the rows of a chunk puts the joined rows. -/
theorem joined_piece (y z : Vec F S2304x128 .f32) (k o : ℕ) (hk : k < 8) (ho : o = 288 * k + 32)
    (h : ∀ a, S256x128.size a = 0 ∨ (![k, 0] : Fin 2 → Nat) a + (![8, 1] : Fin 2 → Nat) a * (S256x128.size a - 1) < S2048x128.size a)
    (hs : ∀ a, 0 < (![8, 1] : Fin 2 → Nat) a) (i : ∀ a, (![o, 0] : Fin 2 → ℕ) a + S256x128.size a ≤ S2304x128.size a)
    (x : (⟨⟨![k, 0], S256x128.size, ![8, 1], h⟩, hs⟩ : Rect S2048x128).shape.Idx) :
    addf (View.ld y (Rect.unit ![o, 0] S256x128.size i)) (View.ld z (Rect.unit ![o, 0] S256x128.size i)) x
      = joined y z ((⟨⟨![k, 0], S256x128.size, ![8, 1], h⟩, hs⟩ : Rect S2048x128).emb x) := by
  subst ho
  have h0 : (x 0).val < 256 := (x 0).isLt
  refine congrArg (addf y z) (funext fun c => Fin.ext ?_)
  fin_cases c
  · show 288 * k + 32 + 1 * (x 0).val = 288 * ((k + 8 * (x 0).val) % 8) + 32 + (k + 8 * (x 0).val) / 8
    omega
  · show 0 + 1 * (x 1).val = 0 + 1 * (x 1).val
    rfl

/-- Every row is in the store of its chunk. -/
theorem joined_mem (k : ℕ)
    (h : ∀ a, S256x128.size a = 0 ∨ (![k, 0] : Fin 2 → Nat) a + (![8, 1] : Fin 2 → Nat) a * (S256x128.size a - 1) < S2048x128.size a)
    (hs : ∀ a, 0 < (![8, 1] : Fin 2 → Nat) a) (n : S2048x128.Idx) (e : (n 0).val % 8 = k) :
    n ∈ (⟨⟨![k, 0], S256x128.size, ![8, 1], h⟩, hs⟩ : Rect S2048x128).set := by
  have hn : (n 0).val < 2048 := (n 0).isLt
  refine (LoadRect.mem_set _).mpr fun c => ?_
  fin_cases c
  · exact ⟨(n 0).val / 8, (by show (n 0).val / 8 < 256; omega), (by show (n 0).val = k + 8 * ((n 0).val / 8); omega)⟩
  · exact ⟨(n 1).val, (n 1).isLt, (by show (n 1).val = 0 + 1 * (n 1).val; omega)⟩

/-- The eight stores of the chunks' rows leave the joined rows. -/
theorem joined_writes (m : Memref sig .tc .vmem S2048x128 .f32) (f : m.view.ty.Contents (Elt F)) (y z : Vec F S2304x128 .f32) :
    m.view.read (Elt F) (m.view.writes (Elt F) f
      [⟨⟨⟨![7, 0], S256x128.size, ![8, 1], inb_S2048x128_S256x128_7_0_s_8_1⟩, spos_8_1⟩, addf (View.ld y (Rect.unit ![2048, 0] S256x128.size inb_S2304x128_S256x128_2048_0)) (View.ld z (Rect.unit ![2048, 0] S256x128.size inb_S2304x128_S256x128_2048_0))⟩,
       ⟨⟨⟨![6, 0], S256x128.size, ![8, 1], inb_S2048x128_S256x128_6_0_s_8_1⟩, spos_8_1⟩, addf (View.ld y (Rect.unit ![1760, 0] S256x128.size inb_S2304x128_S256x128_1760_0)) (View.ld z (Rect.unit ![1760, 0] S256x128.size inb_S2304x128_S256x128_1760_0))⟩,
       ⟨⟨⟨![5, 0], S256x128.size, ![8, 1], inb_S2048x128_S256x128_5_0_s_8_1⟩, spos_8_1⟩, addf (View.ld y (Rect.unit ![1472, 0] S256x128.size inb_S2304x128_S256x128_1472_0)) (View.ld z (Rect.unit ![1472, 0] S256x128.size inb_S2304x128_S256x128_1472_0))⟩,
       ⟨⟨⟨![4, 0], S256x128.size, ![8, 1], inb_S2048x128_S256x128_4_0_s_8_1⟩, spos_8_1⟩, addf (View.ld y (Rect.unit ![1184, 0] S256x128.size inb_S2304x128_S256x128_1184_0)) (View.ld z (Rect.unit ![1184, 0] S256x128.size inb_S2304x128_S256x128_1184_0))⟩,
       ⟨⟨⟨![3, 0], S256x128.size, ![8, 1], inb_S2048x128_S256x128_3_0_s_8_1⟩, spos_8_1⟩, addf (View.ld y (Rect.unit ![896, 0] S256x128.size inb_S2304x128_S256x128_896_0)) (View.ld z (Rect.unit ![896, 0] S256x128.size inb_S2304x128_S256x128_896_0))⟩,
       ⟨⟨⟨![2, 0], S256x128.size, ![8, 1], inb_S2048x128_S256x128_2_0_s_8_1⟩, spos_8_1⟩, addf (View.ld y (Rect.unit ![608, 0] S256x128.size inb_S2304x128_S256x128_608_0)) (View.ld z (Rect.unit ![608, 0] S256x128.size inb_S2304x128_S256x128_608_0))⟩,
       ⟨⟨⟨![1, 0], S256x128.size, ![8, 1], inb_S2048x128_S256x128_1_0_s_8_1⟩, spos_8_1⟩, addf (View.ld y (Rect.unit ![320, 0] S256x128.size inb_S2304x128_S256x128_320_0)) (View.ld z (Rect.unit ![320, 0] S256x128.size inb_S2304x128_S256x128_320_0))⟩,
       ⟨⟨⟨![0, 0], S256x128.size, ![8, 1], inb_S2048x128_S256x128_0_0_s_8_1⟩, spos_8_1⟩, addf (View.ld y (Rect.unit ![32, 0] S256x128.size inb_S2304x128_S256x128_32_0)) (View.ld z (Rect.unit ![32, 0] S256x128.size inb_S2304x128_S256x128_32_0))⟩]) = joined y z := by
  refine funext fun n => View.read_writes_apply_of_pieces _ _ (joined y z) _ ?_ n ?_
  · refine List.forall_mem_cons.mpr ⟨fun x => joined_piece y z 7 2048 (by decide) rfl _ _ _ x, ?_⟩
    refine List.forall_mem_cons.mpr ⟨fun x => joined_piece y z 6 1760 (by decide) rfl _ _ _ x, ?_⟩
    refine List.forall_mem_cons.mpr ⟨fun x => joined_piece y z 5 1472 (by decide) rfl _ _ _ x, ?_⟩
    refine List.forall_mem_cons.mpr ⟨fun x => joined_piece y z 4 1184 (by decide) rfl _ _ _ x, ?_⟩
    refine List.forall_mem_cons.mpr ⟨fun x => joined_piece y z 3 896 (by decide) rfl _ _ _ x, ?_⟩
    refine List.forall_mem_cons.mpr ⟨fun x => joined_piece y z 2 608 (by decide) rfl _ _ _ x, ?_⟩
    refine List.forall_mem_cons.mpr ⟨fun x => joined_piece y z 1 320 (by decide) rfl _ _ _ x, ?_⟩
    refine List.forall_mem_cons.mpr ⟨fun x => joined_piece y z 0 32 (by decide) rfl _ _ _ x, ?_⟩
    exact fun p hp => absurd hp List.not_mem_nil
  · have h8 : (n 0).val % 8 < 8 := Nat.mod_lt _ (by decide)
    rcases (by omega : (n 0).val % 8 = 0 ∨ (n 0).val % 8 = 1 ∨ (n 0).val % 8 = 2 ∨ (n 0).val % 8 = 3 ∨ (n 0).val % 8 = 4 ∨ (n 0).val % 8 = 5 ∨ (n 0).val % 8 = 6 ∨ (n 0).val % 8 = 7)
      with h | h | h | h | h | h | h | h
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), joined_mem 0 _ _ n h⟩
    · exact ⟨_, (List.mem_cons_of_mem _ (List.mem_cons_of_mem _ (List.mem_cons_of_mem _ (List.mem_cons_of_mem _ (List.mem_cons_of_mem _ (List.mem_cons_of_mem _ List.mem_cons_self)))))), joined_mem 1 _ _ n h⟩
    · exact ⟨_, (List.mem_cons_of_mem _ (List.mem_cons_of_mem _ (List.mem_cons_of_mem _ (List.mem_cons_of_mem _ (List.mem_cons_of_mem _ List.mem_cons_self))))), joined_mem 2 _ _ n h⟩
    · exact ⟨_, (List.mem_cons_of_mem _ (List.mem_cons_of_mem _ (List.mem_cons_of_mem _ (List.mem_cons_of_mem _ List.mem_cons_self)))), joined_mem 3 _ _ n h⟩
    · exact ⟨_, (List.mem_cons_of_mem _ (List.mem_cons_of_mem _ (List.mem_cons_of_mem _ List.mem_cons_self))), joined_mem 4 _ _ n h⟩
    · exact ⟨_, (List.mem_cons_of_mem _ (List.mem_cons_of_mem _ List.mem_cons_self)), joined_mem 5 _ _ n h⟩
    · exact ⟨_, (List.mem_cons_of_mem _ List.mem_cons_self), joined_mem 6 _ _ n h⟩
    · exact ⟨_, List.mem_cons_self, joined_mem 7 _ _ n h⟩

/-- A store of the whole of a scratch buffer is its contents. -/
theorem canon_full {s : Shape} {e : EltTy} {off : Fin s.rank → ℕ} (inb : ∀ a, off a + s.size a ≤ s.size a) (w : Vec F s e) :
    View.canon (Val := Elt F) [⟨Rect.unit off s.size inb, w⟩] = w := by
  funext y
  have h : (Rect.unit off s.size inb).emb y = y := funext fun a => Fin.ext (by
    show off a + 1 * (y a).val = (y a).val
    have := inb a; omega)
  have := View.canon_cons_emb (Val := Elt F) (Rect.unit off s.size inb) w [] y
  rwa [h] at this

end Cert.Kernel5Ideal.Rglru

end
-- ==== Proof.RglruBody.lean ====
/- The RG-LRU kernel's body at a grid point. -/
module

public import proofs.«01_k».proof.Proof.RglruLoop
public import proofs.«01_k».proof.Proof.RglruSpec

@[expose] public section

set_option maxRecDepth 16384

noncomputable section

namespace Cert.Kernel5Ideal.Rglru

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
/-- A point of the grid. -/
theorem body_run (c : Dev nD) (i : grid0.Coords) (arg2 : Memref sig .tc .vmem S1x2304x128 .bf16) (harg2 : arg2.IsWhole) (arg3 : Memref sig .tc .vmem S4x128 .f32) (harg3 : arg3.IsWhole) (arg4 : Memref sig .tc .vmem S1x128 .f32) (harg4 : arg4.IsWhole) (arg5 : Memref sig .tc .vmem S1x128x512 .bf16) (harg5 : arg5.IsWhole) (arg6 : Memref sig .tc .vmem S1x512 .f32) (harg6 : arg6.IsWhole) (arg7 : Memref sig .tc .vmem S2x128 .f32) (harg7 : arg7.IsWhole) (arg8 : Memref sig .tc .vmem S1x2048x128 .bf16) (harg8 : arg8.IsWhole) (arg9 : Memref sig .tc .vmem S2328x128 .f32) (harg9 : arg9.IsWhole) (arg10 : Memref sig .tc .vmem S2304x128 .f32) (harg10 : arg10.IsWhole) (arg11 : Memref sig .tc .vmem S2304x128 .f32) (harg11 : arg11.IsWhole) (arg12 : Memref sig .tc .vmem S2304x128 .f32) (harg12 : arg12.IsWhole) (arg13 : Memref sig .tc .vmem S2304x128 .f32) (harg13 : arg13.IsWhole) (arg14 : Memref sig .tc .vmem S2304x128 .f32) (harg14 : arg14.IsWhole) (arg15 : Memref sig .tc .vmem S2304x128 .f32) (harg15 : arg15.IsWhole) (arg16 : Memref sig .tc .vmem S2304x128 .f32) (harg16 : arg16.IsWhole) (arg17 : Memref sig .tc .vmem S2048x128 .f32) (harg17 : arg17.IsWhole)
    (x2 : Vec F S1x2304x128 .bf16) (x3 : Vec F S4x128 .f32) (x4 : Vec F S1x128 .f32) (x5 : Vec F S1x128x512 .bf16) (x6 : Vec F S1x512 .f32) (x7 : Vec F S2x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (blockOut x2 x3 x4 x5 x6 x7) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_rglru_eq_skeleton]; unfold cc0_rglru_skel
  simp only [k0_part10_eq_skeleton, k0_part11_eq_skeleton, k0_part12_eq_skeleton, k0_part13_eq_skeleton, k0_part14_eq_skeleton, k0_part15_eq_skeleton, k0_part16_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec
  have e_H9_5 : body_run.sl.H9_5 c arg2 harg2 x2 = paddedL x2 := by
    unfold body_run.sl.H9_5 paddedL
    simp only [View.readCov_eq_canon', View.readAt_eq_ld, Memref.IsWhole.read_unread]
    try rfl
  have e_H10_2 : body_run.sl.H10_2 c arg2 harg2 arg3 harg3 arg4 harg4 arg9 x2 x3 x4 = convL x2 x3 x4 := by
    unfold body_run.sl.H10_2 body_run.sl.r body_run.sl.r_1 body_run.sl.r_2 body_run.sl.r_3 body_run.sl.v26 body_run.sl.v33 body_run.sl.v39 body_run.sl.v45 body_run.sl.v56 body_run.sl.v63 body_run.sl.v69 body_run.sl.v75 convL padded
    simp only [e_H9_5, View.readCov_eq_canon', View.readAt_eq_ld, Memref.IsWhole.read_unread]
    try rfl
  have e_r_4 : body_run.sl.r_4 c arg2 harg2 arg3 harg3 arg4 harg4 arg9 arg10 x2 x3 x4 = chunks x2 x3 x4 := by
    unfold body_run.sl.r_4 body_run.sl.v82 body_run.sl.v83 body_run.sl.v84 body_run.sl.v85 body_run.sl.v86 body_run.sl.v87 body_run.sl.v88 body_run.sl.v89 chunks every8 conv
    simp only [e_H10_2, View.readCov_eq_canon', View.readAt_eq_ld, Memref.IsWhole.read_unread]
    try rfl
  have e_r_5 : body_run.sl.r_5 c arg2 harg2 arg3 harg3 arg4 harg4 arg9 arg10 x2 x3 x4 = chunksB x2 x3 x4 := by
    unfold body_run.sl.r_5 body_run.sl.v82 body_run.sl.v83 body_run.sl.v84 body_run.sl.v85 body_run.sl.v86 body_run.sl.v87 body_run.sl.v88 body_run.sl.v89 chunksB every8 conv
    simp only [e_H10_2, View.readCov_eq_canon', View.readAt_eq_ld, Memref.IsWhole.read_unread]
    try rfl
  have e_r_6 : body_run.sl.r_6 c arg5 harg5 x5 = wts x5 := by
    unfold body_run.sl.r_6 wts
    simp only [View.readCov_eq_canon', View.readAt_eq_ld, Memref.IsWhole.read_unread]
    try rfl
  have e_r_7 : body_run.sl.r_7 c arg2 harg2 arg3 harg3 arg4 harg4 arg5 harg5 arg6 harg6 arg9 arg10 x2 x3 x4 x5 x6 = gates x2 x3 x4 x5 x6 := by
    unfold body_run.sl.r_7 body_run.sl.cst_58 gates zeros bia
    simp only [e_r_5, e_r_6, View.readCov_eq_canon', View.readAt_eq_ld, Memref.IsWhole.read_unread]
    try rfl
  have e_H11_1 : body_run.sl.H11_1 c arg2 harg2 arg3 harg3 arg4 harg4 arg5 harg5 arg6 harg6 arg7 harg7 arg9 arg10 x2 x3 x4 x5 x6 x7 = [⟨Rect.unit ![0, 0] S2304x128.size inb_S2304x128_S2304x128_0_0, aF x2 x3 x4 x5 x6 x7⟩] := by
    unfold body_run.sl.H11_1 body_run.sl.r_9 body_run.sl.cst_58 aF zeros bia lam0
    simp only [e_r_5, e_r_6, View.readCov_eq_canon', View.readAt_eq_ld, Memref.IsWhole.read_unread]
    try rfl
  have e_H12_1 : body_run.sl.H12_1 c arg2 harg2 arg3 harg3 arg4 harg4 arg5 harg5 arg6 harg6 arg7 harg7 arg9 arg10 x2 x3 x4 x5 x6 x7 = [⟨Rect.unit ![0, 0] S2304x128.size inb_S2304x128_S2304x128_0_0, bF x2 x3 x4 x5 x6 x7⟩] := by
    unfold body_run.sl.H12_1 body_run.sl.r_8 body_run.sl.r_10 body_run.sl.cst_58 bF zeros bia lam0
    simp only [e_r_4, e_r_5, e_r_6, View.readCov_eq_canon', View.readAt_eq_ld, Memref.IsWhole.read_unread]
    try rfl
  have e_H13_1 : body_run.sl.H13_1 c arg2 harg2 arg3 harg3 arg4 harg4 arg5 harg5 arg6 harg6 arg7 harg7 arg9 arg10 x2 x3 x4 x5 x6 x7 = [⟨Rect.unit ![0, 0] S2304x128.size inb_S2304x128_S2304x128_0_0, aB x2 x3 x4 x5 x6 x7⟩] := by
    unfold body_run.sl.H13_1 body_run.sl.r_12 aB lam1
    simp only [e_r_7, View.readCov_eq_canon', View.readAt_eq_ld, Memref.IsWhole.read_unread]
    try rfl
  have e_H14_1 : body_run.sl.H14_1 c arg2 harg2 arg3 harg3 arg4 harg4 arg5 harg5 arg6 harg6 arg7 harg7 arg9 arg10 x2 x3 x4 x5 x6 x7 = [⟨Rect.unit ![0, 0] S2304x128.size inb_S2304x128_S2304x128_0_0, bB x2 x3 x4 x5 x6 x7⟩] := by
    unfold body_run.sl.H14_1 body_run.sl.r_11 body_run.sl.r_13 bB lam1
    simp only [e_r_4, e_r_7, View.readCov_eq_canon', View.readAt_eq_ld, Memref.IsWhole.read_unread]
    try rfl
  have htr : Scf.trips k0_t1_loop.lb k0_t1_loop.ub k0_t1_loop.st = 36 := trips_eq
  rw [htr, e_H11_1, e_H12_1] at hL5
  rw [htr, e_H13_1, e_H14_1] at hL7
  rw [View.read_writes_junk_eq_canon, View.read_writes_junk_eq_canon, canon_full, canon_full, allF_iff] at hL5
  rw [View.read_writes_junk_eq_canon, View.read_writes_junk_eq_canon, canon_full, canon_full, allB_iff] at hL7
  have yF := statesF_of_done _ _ _ _ hL5
  have yB := statesB_of_done _ _ _ _ hL7
  have eJ : arg17.view.read (Elt F) (arg17.view.writes (Elt F) f17 (body_run.sl.H17_8 c arg15 arg16 f15L0 f16L1))
      = joined (arg15.view.read (Elt F) f15L0) (arg16.view.read (Elt F) f16L1) := by
    unfold body_run.sl.H17_8 body_run.sl.r_14
    simp only [k0_pay91, k0_pay92, k0_pay93, k0_pay94, k0_pay95, k0_pay96, k0_pay97, k0_pay98, k0_pay1, shapeCast_self, View.readAt_eq_ld]
    exact joined_writes _ _ _ _
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    unfold body_run.sl.v240
    rw [View.read_writes_full, View.readAt_full, eJ, yF, yB]
    rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  iexists _; iexists _; isplitr; swap; · iexact H17
  ipureintro; rfl

end Cert.Kernel5Ideal.Rglru

end
-- ==== Proof.RglruRun.lean ====
/- The run of the RG-LRU kernel: the proof data of its pipeline, the body at every grid point, and the launch. -/
module

public import proofs.«01_k».proof.Proof.RglruBody
public import Idealize.ShloMosaic.Lib.Pipeline.TableIdle
public import Idealize.ShloMosaic.Lib.Claim

@[expose] public section

set_option maxRecDepth 16384

noncomputable section

namespace Cert.Kernel5Ideal.Rglru

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA; rw [scopedRest0_eq]; simp only [owns_whole]; try rfl

/-- What a point leaves in its output block. -/
def blockAt (c : Dev nD) (t : Fin cfg0.N) : Vec F S1x2048x128 .bf16 :=
  blockOut (iblk m c 0 t) (iblk m c 1 t) (iblk m c 2 t) (iblk m c 3 t) (iblk m c 4 t) (iblk m c 5 t)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = blockAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a point -/

/-- Window `w`'s staging buffer at point `t`. -/
abbrev stg (w : Fin cfg0.W) (t : Fin cfg0.N) := (cfg0.win w).stage (cfg0.slots t w)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg 0 t) fullShare ((dats m 0 c).before 0 t d))
    ∗ (∃ d, owns (c : Thread nD τ) (stg 1 t) fullShare ((dats m 0 c).before 1 t d))
    ∗ (∃ d, owns (c : Thread nD τ) (stg 2 t) fullShare ((dats m 0 c).before 2 t d))
    ∗ (∃ d, owns (c : Thread nD τ) (stg 3 t) fullShare ((dats m 0 c).before 3 t d))
    ∗ (∃ d, owns (c : Thread nD τ) (stg 4 t) fullShare ((dats m 0 c).before 4 t d))
    ∗ (∃ d, owns (c : Thread nD τ) (stg 5 t) fullShare ((dats m 0 c).before 5 t d))
    ∗ (∃ d, owns (c : Thread nD τ) (stg 6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (stg 0 t) fullShare ((dats m 0 c).after 0 t)
    ∗ owns (c : Thread nD τ) (stg 1 t) fullShare ((dats m 0 c).after 1 t)
    ∗ owns (c : Thread nD τ) (stg 2 t) fullShare ((dats m 0 c).after 2 t)
    ∗ owns (c : Thread nD τ) (stg 3 t) fullShare ((dats m 0 c).after 3 t)
    ∗ owns (c : Thread nD τ) (stg 4 t) fullShare ((dats m 0 c).after 4 t)
    ∗ owns (c : Thread nD τ) (stg 5 t) fullShare ((dats m 0 c).after 5 t)
    ∗ owns (c : Thread nD τ) (stg 6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.succ = Pipeline.ΦA spec0 c from rfl, show (dats m 0 c).Φ t.castSucc = Pipeline.ΦA spec0 c from rfl, PhiA_eq]
  unfold blockAt
  iintro ⟨⟨⟨S0, S1, S2, S3, S4, S5, S6, S7, S8⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, S0, S1, S2, S3, S4, S5, S6, S7, S8⟩
  isplitl [S0 S1 S2 S3 S4 S5 S6 S7 S8 Hg]
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

theorem share_eq (c : Dev nD) : ∀ w, (dats (F := F) m 0 c).share w = fullShare :=
  fun | 0 => rfl | 1 => rfl | 2 => rfl | 3 => rfl | 4 => rfl | 5 => rfl | 6 => rfl

/-! ## The launch -/

set_option backward.isDefEq.respectTransparency.types false in
/-- The run: every array of the pipeline ends at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => share_eq m c)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel5Ideal.Rglru

end
-- ==== Proof.ContextBody.lean ====
/- The body of the kernel that projects the context tokens: what one grid point leaves in its buffers.

   At a point whose last coordinate is 0 the body normalizes its rows, keeps them in the scratch buffer, and writes the
   gate lanes; at every point it multiplies the kept rows with the point's rows of the transposed weight. -/
module

public import proofs.«01_k».proof.Proof.Gen.Kernel6Ideal.Frame
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel6Ideal.Context

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch: the column coordinate is 0. -/
abbrev First (i : grid0.Coords) : Prop := (Scalar.cmpi .ne (Scalar.extui (Scalar.cmpi .eq (BitVec.ofNat 32 (i 2).val) 0#32)) 0#32) = 1#1

/-- It holds at the points ≡ 0 (mod 4). -/
theorem first_iff (t : Fin cfg0.N) : First (grid0.coords t) ↔ t.val % 4 = 0 := by
  have ht : t.val < 4 := Nat.lt_of_lt_of_eq t.isLt N_0
  have e2 : (grid0.coords t 2).val = t.val / 1 % 4 := Pipeline.Grid.coords_val t 2 (by decide) rfl
  simp only [First, e2]
  word_cmp

/-- The normalized rows of a block, as the scratch buffer keeps them. -/
abbrev rows (x : Vec F S1x1024x2048 .f32) (g s : Vec F S1x1x2048 .f32) : Vec F S1024x2048 .bf16 := k0_pay4 x g s

/-- The gate lanes of a block. -/
abbrev lanes (x : Vec F S1x1024x2048 .f32) (g s : Vec F S1x1x2048 .f32) (wg : Vec F S32x2048 .f32) (b : Vec F S1x128 .f32) :
    Vec F S1x1024x128 .f32 := k0_pay1 (k0_pay5 x g s wg b)

set_option maxHeartbeats 1000000 in
/-- A point of the first column. -/
theorem body_first (c : Dev nD) (i : grid0.Coords) (arg3 : Memref sig .tc .vmem S1x1024x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1024x2048 .f32) (harg6 : arg6.IsWhole) (arg7 : Memref sig .tc .vmem S32x2048 .f32) (harg7 : arg7.IsWhole) (arg8 : Memref sig .tc .vmem S1x128 .f32) (harg8 : arg8.IsWhole) (arg9 : Memref sig .tc .vmem S1x1024x1024 .bf16) (harg9 : arg9.IsWhole) (arg10 : Memref sig .tc .vmem S1x1024x128 .f32) (harg10 : arg10.IsWhole) (arg11 : Memref sig .tc .vmem S1024x2048 .bf16) (harg11 : arg11.IsWhole) (hc0 : First i)
    (x0 : Vec F S1x1024x2048 .f32) (x1 : Vec F S1x1x2048 .f32) (x2 : Vec F S1x1x2048 .f32) (x3 : Vec F S1024x2048 .f32) (x4 : Vec F S32x2048 .f32) (x5 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay2 (rows x0 x1 x2) x3) ∗ owns (c : Thread nD τ) arg10 fullShare (lanes x0 x1 x2 x4 x5) ∗ owns (c : Thread nD τ) arg11 fullShare (rows x0 x1 x2)) -∗ K ⟨⟩))
          ⊢ wp frame (wpE (defs₀ (F := F)) Variants.none c none) E (cc0_inproj i arg3 harg3 arg4 harg4 arg5 harg5 arg6 harg6 arg7 harg7 arg8 harg8 arg9 harg9 arg10 harg10 arg11 harg11) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    refine (View.read_writes_full _ _ _ _ _).trans ?_
    refine congr (congrArg k0_pay2 ?_) ((View.readAt_full _ _ _).trans hf3)
    unfold body_first.sl.v3 View.readCov body_first.sl.HS0_1
    refine (View.readAt_writes_full _ _ _ _ _ _).trans ?_
    exact congr (congr (congrArg k0_pay4 ((View.readAt_full _ _ _).trans hf0)) ((View.readAt_full _ _ _).trans hf1)) ((View.readAt_full _ _ _).trans hf2)
  isplitl [H7]
  · iexists _; isplitr
    swap; · iexact H7
    ipureintro
    refine (View.read_writes_full _ _ _ _ _).trans ?_
    unfold body_first.sl.r
    exact congrArg k0_pay1 (congr (congr (congr (congr (congrArg k0_pay5 ((View.readAt_full _ _ _).trans hf0)) ((View.readAt_full _ _ _).trans hf1)) ((View.readAt_full _ _ _).trans hf2)) ((View.readAt_full _ _ _).trans hf4)) ((View.readAt_full _ _ _).trans hf5))
  iexists _; isplitr
  swap; · iexact HS0
  ipureintro
  refine (View.read_writes_full _ _ _ _ _).trans ?_
  exact congr (congr (congrArg k0_pay4 ((View.readAt_full _ _ _).trans hf0)) ((View.readAt_full _ _ _).trans hf1)) ((View.readAt_full _ _ _).trans hf2)

set_option maxHeartbeats 1000000 in
/-- A later point: the scratch buffer and the gate lanes are left as they were. -/
theorem body_later (c : Dev nD) (i : grid0.Coords) (arg3 : Memref sig .tc .vmem S1x1024x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1024x2048 .f32) (harg6 : arg6.IsWhole) (arg7 : Memref sig .tc .vmem S32x2048 .f32) (harg7 : arg7.IsWhole) (arg8 : Memref sig .tc .vmem S1x128 .f32) (harg8 : arg8.IsWhole) (arg9 : Memref sig .tc .vmem S1x1024x1024 .bf16) (harg9 : arg9.IsWhole) (arg10 : Memref sig .tc .vmem S1x1024x128 .f32) (harg10 : arg10.IsWhole) (arg11 : Memref sig .tc .vmem S1024x2048 .bf16) (harg11 : arg11.IsWhole) (hc0 : ¬First i)
    (x0 : Vec F S1x1024x2048 .f32) (x1 : Vec F S1x1x2048 .f32) (x2 : Vec F S1x1x2048 .f32) (x3 : Vec F S1024x2048 .f32) (x4 : Vec F S32x2048 .f32) (x5 : Vec F S1x128 .f32) (xs : Vec F S1024x2048 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay2 xs x3) ∗ owns (c : Thread nD τ) arg11 fullShare xs) -∗ K ⟨⟩))
          ⊢ wp frame (wpE (defs₀ (F := F)) Variants.none c none) E (cc0_inproj i arg3 harg3 arg4 harg4 arg5 harg5 arg6 harg6 arg7 harg7 arg8 harg8 arg9 harg9 arg10 harg10 arg11 harg11) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg6.eq_unread hf3; obtain rfl := harg11.eq_unread hfs0
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    refine (View.read_writes_full _ _ _ _ _).trans ?_
    exact congr (congrArg k0_pay2 ((View.readAt_full _ _ _).trans hfs0)) ((View.readAt_full _ _ _).trans hf3)
  iexists _; isplitr; · ipureintro; exact hfs0
  iexact HS0

end Cert.Kernel6Ideal.Context

end
-- ==== Proof.ContextRun.lean ====
/- The run of the context tokens' projection: the proof data of its pipeline, the body at every grid point, and the launch.

   The 4 points are the columns of one row block. The normalized rows and the gate lanes are computed at its first point
   (`start t`) and kept in place through the other three. -/
module

public import proofs.«01_k».proof.Proof.ContextBody
public import Idealize.ShloMosaic.Lib.Pipeline.TableIdle
public import Idealize.ShloMosaic.Lib.Claim

@[expose] public section

set_option maxRecDepth 16384

noncomputable section

namespace Cert.Kernel6Ideal.Context

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row block that position `n` is in. -/
def startAt (n : ℕ) (hn : n < cfg0.N) : Fin cfg0.N := ⟨n - n % 4, lt_of_le_of_lt (Nat.sub_le _ _) hn⟩

/-- The same of a point. -/
abbrev start (t : Fin cfg0.N) : Fin cfg0.N := startAt t.val t.isLt

theorem start_of_first (t : Fin cfg0.N) (h : t.val % 4 = 0) : start t = t := Fin.ext (by unfold start startAt; simp only; omega)

theorem startAt_pred (n : ℕ) (hn : n < cfg0.N) (h : ¬n % 4 = 0) : startAt (n - 1) (lt_of_le_of_lt (Nat.sub_le _ _) hn) = startAt n hn :=
  Fin.ext (by unfold startAt; simp only; omega)

/-- The rows kept after a point. -/
def rowsAt (c : Dev nD) (s : Fin cfg0.N) : Vec F S1024x2048 .bf16 := rows (iblk m c 0 s) (iblk m c 1 s) (iblk m c 2 s)

/-- The gate lanes kept after a point. -/
def lanesAt (c : Dev nD) (s : Fin cfg0.N) : Vec F S1x1024x128 .f32 := lanes (iblk m c 0 s) (iblk m c 1 s) (iblk m c 2 s) (iblk m c 4 s) (iblk m c 5 s)

/-- The invariant before position `n`: the scratch buffer at the rows kept after the point before. -/
def PhiS (c : Dev nD) : (n : ℕ) → n ≤ cfg0.N → sProp 𝕄
  | 0, _ => Pipeline.ΦA spec0 c
  | n + 1, hn => iprop(owns (c : Thread nD τ) (Memref.whole cc0_scratch0) fullShare (rowsAt m c (startAt n hn)) ∗ (∃ r, prngReg c r))

theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

theorem PhiS_pos (c : Dev nD) (n : ℕ) (h : n ≤ cfg0.N) (hz : n ≠ 0) :
    PhiS m c n h = iprop(owns (c : Thread nD τ) (Memref.whole cc0_scratch0) fullShare (rowsAt m c (startAt (n - 1) (by omega))) ∗ (∃ r, prngReg c r)) := by
  cases n with
  | zero => exact absurd rfl hz
  | succ n => rfl

/-- Whatever the position, the invariant gives the scratch buffer at some contents. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_pos m c _ _ (Nat.succ_ne_zero n), PhiA_eq]
    iintro ⟨HS0, Hg⟩
    isplitl [HS0]
    · iexists _; iexact HS0
    iexact Hg

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (rowsAt m c (start t)) (iblk m c 3 t)
    | ⟨7, _⟩ => lanesAt m c (start t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay2 (rowsAt m c (start t)) (iblk m c 3 t) := by dsimp only [dats]
theorem after_7 (c : Dev nD) (t : Fin cfg0.N) : (dats m 0 c).after 7 t = lanesAt m c (start t) := by dsimp only [dats]

/-- The gate lanes' buffer is left alone at every point but a row block's first, -/
theorem idle_7 (t : Fin cfg0.N) : cfg0.idle 7 (grid0.coords t) = !decide (t.val % 4 = 0) := by
  have h : cfg0.idle 7 (grid0.coords t) = !(k0_cond1 (grid0.coords t) == 1#1) := rfl
  have hc : k0_cond1 (grid0.coords t) = 1#1 ↔ t.val % 4 = 0 := first_iff t
  rw [h]
  by_cases h0 : t.val % 4 = 0
  · rw [hc.mpr h0, decide_eq_true h0]; rfl
  · rw [decide_eq_false h0, beq_eq_false_iff_ne.mpr (fun e => h0 (hc.mp e))]

/-- and written back at its last. -/
theorem flush_7 (t : Fin cfg0.N) : (cfg0.win 7).flush t = decide (t.val % 4 = 3) :=
  (by decide +kernel : ∀ t : Fin grid0.N, win0_7.flush t = decide (t.val % 4 = 3)) t

theorem fresh_7 : ∀ (n : ℕ) (_ : n < cfg0.N) (_ : ¬n % 4 = 0), cfg0.fresh 7 n = false
  | 0, _, h => absurd (Nat.zero_mod _) h
  | n + 1, hn, h => by
    have hn' : n < cfg0.N := Nat.lt_of_succ_lt hn
    rw [Cfg.fresh_succ cfg0 7 n hn', show cfg0.grid.coords ⟨n, hn'⟩ = grid0.coords ⟨n, hn'⟩ from rfl, idle_7 ⟨n, hn'⟩, flush_7 ⟨n, hn'⟩]
    by_cases h0 : n % 4 = 0
    · simp [h0]
    · rw [fresh_7 n hn' h0]; simp; omega

/-- So at a later point of a row block the body finds the row block's lanes there. -/
theorem before_7 (c : Dev nD) (t : Fin cfg0.N) (h : ¬t.val % 4 = 0) (d) : (dats m 0 c).before 7 t d = lanesAt m c (start t) := by
  have e := (dats m 0 c).before_out_traj 7 rfl (fun _ _ => rfl) (fun t ht hi _ => by
    have h1 : ¬t.val % 4 = 0 := fun h0 => by
      rw [show cfg0.grid.coords t = grid0.coords t from rfl, idle_7 t, decide_eq_true h0] at hi
      exact Bool.noConfusion hi
    rw [after_7, after_7]
    exact congrArg (lanesAt m c) (startAt_pred t.val t.isLt h1).symm) t.val t rfl d
  rw [e, fresh_7 t.val t.isLt h, after_7]
  exact congrArg (lanesAt m c) (startAt_pred t.val t.isLt h)

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a point -/

/-- Window `w`'s staging buffer at point `t`. -/
abbrev stg (w : Fin cfg0.W) (t : Fin cfg0.N) := (cfg0.win w).stage (cfg0.slots t w)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg 0 t) fullShare ((dats m 0 c).before 0 t d))
    ∗ (∃ d, owns (c : Thread nD τ) (stg 1 t) fullShare ((dats m 0 c).before 1 t d))
    ∗ (∃ d, owns (c : Thread nD τ) (stg 2 t) fullShare ((dats m 0 c).before 2 t d))
    ∗ (∃ d, owns (c : Thread nD τ) (stg 3 t) fullShare ((dats m 0 c).before 3 t d))
    ∗ (∃ d, owns (c : Thread nD τ) (stg 4 t) fullShare ((dats m 0 c).before 4 t d))
    ∗ (∃ d, owns (c : Thread nD τ) (stg 5 t) fullShare ((dats m 0 c).before 5 t d))
    ∗ (∃ d, owns (c : Thread nD τ) (stg 6 t) fullShare ((dats m 0 c).before 6 t d))
    ∗ (∃ d, owns (c : Thread nD τ) (stg 7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (stg 0 t) fullShare ((dats m 0 c).after 0 t)
    ∗ owns (c : Thread nD τ) (stg 1 t) fullShare ((dats m 0 c).after 1 t)
    ∗ owns (c : Thread nD τ) (stg 2 t) fullShare ((dats m 0 c).after 2 t)
    ∗ owns (c : Thread nD τ) (stg 3 t) fullShare ((dats m 0 c).after 3 t)
    ∗ owns (c : Thread nD τ) (stg 4 t) fullShare ((dats m 0 c).after 4 t)
    ∗ owns (c : Thread nD τ) (stg 5 t) fullShare ((dats m 0 c).after 5 t)
    ∗ owns (c : Thread nD τ) (stg 6 t) fullShare ((dats m 0 c).after 6 t)
    ∗ (dats m 0 c).leavesExact 7 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.succ = PhiS m c (t.val + 1) t.isLt from rfl, PhiS_pos m c _ _ (Nat.succ_ne_zero _), PhiS_castSucc m c t]
  have hs : startAt (t.val + 1 - 1) (by have := t.isLt; omega) = start t := rfl
  rw [hs]
  by_cases h0 : t.val % 4 = 0
  · have hl : (dats m 0 c).leavesExact 7 t = owns (c : Thread nD τ) (stg 7 t) fullShare (lanesAt m c t) := by
      unfold Dat.leavesExact
      rw [show cfg0.grid.coords t = grid0.coords t from rfl, idle_7 t, decide_eq_true h0, after_7, start_of_first t h0]; rfl
    rw [hl, start_of_first t h0]
    unfold rowsAt lanesAt
    refine (sep_mono_left (PhiS_any m c _ _)).trans ?_
    rw [PhiA_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ ((first_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h])
    have hl : owns (c : Thread nD τ) (stg 7 t) fullShare (lanesAt m c (start t)) ⊢ (dats m 0 c).leavesExact 7 t := by
      unfold Dat.leavesExact
      rw [show cfg0.grid.coords t = grid0.coords t from rfl, idle_7 t, decide_eq_false h0, after_7]
      cases (cfg0.win 7).flush t
      · show _ ⊢ iprop(∃ d, owns (c : Thread nD τ) (stg 7 t) fullShare ((dats m 0 c).before 7 t d))
        simp only [before_7 m c t h0]
        iintro H
        iexists lanesAt m c (start t)
        iexact H
      · exact Idealize.SL.BI.Entails.refl _
    rw [PhiS_pos m c _ _ hz, startAt_pred t.val t.isLt h0]
    simp only [before_7 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ (fun h => h0 ((first_iff t).mp h)) (iblk m c 0 t) (iblk m c 1 t) (iblk m c 2 t) (iblk m c 3 t) (iblk m c 4 t) (iblk m c 5 t) (rowsAt m c (start t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply hl
    iexact H7

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  dsimp only [dats]; exact PhiS_any m c _ _

/-! ## The launch -/

set_option backward.isDefEq.respectTransparency.types false in
/-- The run: every array of the pipeline ends at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel6Ideal.Context

end
-- ==== Proof.ContextFrame.lean ====
/- The printed kernel's frame: its text is the idealized kernel's, so the idealized kernel's run is its run. -/
module

public import proofs.«01_k».proof.Proof.Gen.Kernel6
public import proofs.«01_k».proof.Proof.ContextRun

@[expose] public section

set_option maxRecDepth 65536

noncomputable section

namespace Cert.Kernel6.Context

open Cert.Kernel6 Cert.Kernel6.Gen
open Idealize.ShloMosaic Idealize.ShloMosaic.TcCoe Idealize.SL.Sem

variable {F : FTy → Type} [FloatOps F]

theorem defs₀_eq : Cert.Kernel6Ideal.defs₀ (F := F) = Cert.Kernel6.defs₀ (F := F) := by
  refine congrArg Defs.onTc ?_
  funext l a
  match l, a with
  | ⟨0, _⟩, (t, s) => rfl
  | ⟨_ + 1, h⟩, _ => exact absurd h (Nat.not_lt.2 (Nat.le_add_left _ _))

theorem defs_eq : Cert.Kernel6Ideal.defs (F := F) = Cert.Kernel6.defs (F := F) :=
  congrArg (Pipeline.defs (Cert.Kernel6Ideal.pcfgs (F := F))) defs₀_eq

variable (m : (ℓ : Loc nD τ sig) → Buf (Elt F) ℓ) (ρ : Dev nD → PrngReg)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have h := Cert.Kernel6Ideal.Context.frame (F := F) m ρ
  rw [defs_eq] at h
  exact h

end Cert.Kernel6.Context

end
-- ==== Proof.ContextCells.lean ====
/- The values the body of the context tokens' projection computes, entry by entry over the extended reals. -/
module

public import proofs.«01_k».proof.Proof.ContextBody
public import Idealize.ShloMosaic.Lib.Pointwise

@[expose] public section

set_option maxRecDepth 16384

noncomputable section

namespace Cert.Kernel6Ideal.Context

open Cert.Kernel6Ideal Cert.Kernel6Ideal.Gen
open Idealize.ShloMosaic Idealize.ShloMosaic.TcCoe

/-- One entry of a normalized and modulated row: the row `x`, its gain and its shift, at column `k`. -/
def entry (x g s : Fin 2048 → EReal) (k : Fin 2048) : EReal :=
  x k * Ideal.rsqrt (Ideal.div (∑ j, x j * x j) (Ideal.ofBits .f32 1157627904#32) + Ideal.ofBits .f32 897988541#32) * g k + s k

theorem rows_apply (x : Vec Ideal S1x1024x2048 .f32) (g s : Vec Ideal S1x1x2048 .f32) (r : Fin 1024) (k : Fin 2048) :
    rows x g s (ix2 r k) = entry (fun k => x (ix3 0 r k)) (fun k => g (ix3 0 0 k)) (fun k => s (ix3 0 0 k)) k := by
  pointwise [k0_pay4, k0_pay3]
  rfl

theorem prod_apply (h : Vec Ideal S1024x2048 .bf16) (w : Vec Ideal S1024x2048 .f32) (r n : Fin 1024) :
    k0_pay2 h w (ix3 0 r n) = ∑ k : Fin 2048, h (ix2 r k) * w (ix2 n k) := by
  pointwise [k0_pay2]

theorem lanes_apply (x : Vec Ideal S1x1024x2048 .f32) (g s : Vec Ideal S1x1x2048 .f32) (wg : Vec Ideal S32x2048 .f32) (b : Vec Ideal S1x128 .f32) (r : Fin 1024) (n : Fin 128) :
    lanes x g s wg b (ix3 0 r n)
      = (if h : n.val < 32 then ∑ k : Fin 2048, entry (fun k => x (ix3 0 r k)) (fun k => g (ix3 0 0 k)) (fun k => s (ix3 0 0 k)) k * wg (ix2 ⟨n.val, h⟩ k) else 0)
        + b (ix2 0 n) := by
  pointwise [k0_pay1, k0_pay5, k0_pay3]
  rfl

end Cert.Kernel6Ideal.Context

end
-- ==== Proof.ContextValue.lean ====
/- The two arrays the context tokens' projection leaves, entry by entry, as functions of the arrays its windows stage. -/
module

public import proofs.«01_k».proof.Proof.ContextRun
public import proofs.«01_k».proof.Proof.ContextCells
public import Idealize.ShloMosaic.Lib.Pipeline.Value

@[expose] public section

set_option maxRecDepth 16384

noncomputable section

namespace Cert.Kernel6Ideal.Context

open Cert.Kernel6Ideal Cert.Kernel6Ideal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Where each window's block lies -/

theorem idx_0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx_1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx_2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx_3 : ∀ t : Fin cfg0.N, win0_3.index t (0 : Fin 2) = t.val % 4 * 1024 + (if 3 ≤ t.val % 4 then 2080 else 0) ∧ win0_3.index t (1 : Fin 2) = 0 :=
  (by decide +kernel : ∀ t : Fin grid0.N, _)
theorem idx_4 : ∀ t : Fin cfg0.N, win0_4.index t (0 : Fin 2) = 160 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 3) = 0 ∧ win0_6.index t (1 : Fin 3) = 0 ∧ win0_6.index t (2 : Fin 3) = t.val % 4 :=
  (by decide +kernel : ∀ t : Fin grid0.N, _)
theorem idx_7 : ∀ t : Fin cfg0.N, win0_7.index t (0 : Fin 3) = 0 ∧ win0_7.index t (1 : Fin 3) = 0 ∧ win0_7.index t (2 : Fin 3) = 0 :=
  (by decide +kernel : ∀ t : Fin grid0.N, _)
theorem flush_6 : ∀ t : Fin cfg0.N, (cfg0.win 6).flush t = true :=
  (by decide +kernel : ∀ t : Fin grid0.N, win0_6.flush t = true)

theorem lt_4 (t : Fin cfg0.N) : t.val < 4 := lt_of_lt_of_eq t.isLt N_0

/-- Column `n` of point `t`'s output block, among the 4096 columns, -/
def col (t : Fin cfg0.N) (n : Fin 1024) : Fin 4096 := ⟨t.val % 4 * 1024 + n.val, by have := n.isLt; omega⟩
/-- and the projection's row that makes a column: the rows from 3072 to 5151 are skipped. -/
def wrow (n : Fin 4096) : Fin 11296 := ⟨n.val + (if 3072 ≤ n.val then 2080 else 0), by have := n.isLt; split <;> omega⟩
/-- The projection's row of a gate. -/
def grow (n : Fin 32) : Fin 11296 := ⟨5120 + n.val, by have := n.isLt; omega⟩

theorem blk_0 (c : Dev nD) (t : Fin cfg0.N) (r : Fin 1024) (k : Fin 2048) :
    (iblk m c 0 t : Vec Ideal S1x1024x2048 .f32) (ix3 0 r k) = (V m c main_v10 : Vec Ideal S1x1024x2048 .f32) (ix3 0 r k) := by
  obtain ⟨e0, e1, e2⟩ := idx_0 t
  refine congrArg (V m c main_v10 : Vec Ideal S1x1024x2048 .f32) (funext fun a => Fin.ext ?_)
  match a with
  | ⟨0, _⟩ => show win0_0.index t (0 : Fin 3) * 1 + 1 * 0 = 0; omega
  | ⟨1, _⟩ => show win0_0.index t (1 : Fin 3) * 1024 + 1 * r.val = r.val; omega
  | ⟨2, _⟩ => show win0_0.index t (2 : Fin 3) * 2048 + 1 * k.val = k.val; omega

theorem blk_1 (c : Dev nD) (t : Fin cfg0.N) (k : Fin 2048) :
    (iblk m c 1 t : Vec Ideal S1x1x2048 .f32) (ix3 0 0 k) = (V m c main_v13 : Vec Ideal S1x1x2048 .f32) (ix3 0 0 k) := by
  obtain ⟨e0, e1, e2⟩ := idx_1 t
  refine congrArg (V m c main_v13 : Vec Ideal S1x1x2048 .f32) (funext fun a => Fin.ext ?_)
  match a with
  | ⟨0, _⟩ => show win0_1.index t (0 : Fin 3) * 1 + 1 * 0 = 0; omega
  | ⟨1, _⟩ => show win0_1.index t (1 : Fin 3) * 1 + 1 * 0 = 0; omega
  | ⟨2, _⟩ => show win0_1.index t (2 : Fin 3) * 2048 + 1 * k.val = k.val; omega

theorem blk_2 (c : Dev nD) (t : Fin cfg0.N) (k : Fin 2048) :
    (iblk m c 2 t : Vec Ideal S1x1x2048 .f32) (ix3 0 0 k) = (V m c main_arg1 : Vec Ideal S1x1x2048 .f32) (ix3 0 0 k) := by
  obtain ⟨e0, e1, e2⟩ := idx_2 t
  refine congrArg (V m c main_arg1 : Vec Ideal S1x1x2048 .f32) (funext fun a => Fin.ext ?_)
  match a with
  | ⟨0, _⟩ => show win0_2.index t (0 : Fin 3) * 1 + 1 * 0 = 0; omega
  | ⟨1, _⟩ => show win0_2.index t (1 : Fin 3) * 1 + 1 * 0 = 0; omega
  | ⟨2, _⟩ => show win0_2.index t (2 : Fin 3) * 2048 + 1 * k.val = k.val; omega

theorem blk_3 (c : Dev nD) (t : Fin cfg0.N) (n : Fin 1024) (k : Fin 2048) :
    (iblk m c 3 t : Vec Ideal S1024x2048 .f32) (ix2 n k) = (V m c main_v1 : Vec Ideal S11296x2048 .f32) (ix2 (wrow (col t n)) k) := by
  obtain ⟨e0, e1⟩ := idx_3 t
  have hn := n.isLt
  refine congrArg (V m c main_v1 : Vec Ideal S11296x2048 .f32) (funext fun a => Fin.ext ?_)
  match a with
  | ⟨0, _⟩ =>
    show win0_3.index t (0 : Fin 2) + 1 * n.val = t.val % 4 * 1024 + n.val + (if 3072 ≤ t.val % 4 * 1024 + n.val then 2080 else 0)
    rw [e0]
    by_cases h : 3 ≤ t.val % 4
    · rw [if_pos h, if_pos (by omega)]; omega
    · rw [if_neg h, if_neg (by omega)]; omega
  | ⟨1, _⟩ => show win0_3.index t (1 : Fin 2) + 1 * k.val = k.val; omega

theorem blk_4 (c : Dev nD) (t : Fin cfg0.N) (n : Fin 32) (k : Fin 2048) :
    (iblk m c 4 t : Vec Ideal S32x2048 .f32) (ix2 n k) = (V m c main_v1 : Vec Ideal S11296x2048 .f32) (ix2 (grow n) k) := by
  obtain ⟨e0, e1⟩ := idx_4 t
  refine congrArg (V m c main_v1 : Vec Ideal S11296x2048 .f32) (funext fun a => Fin.ext ?_)
  match a with
  | ⟨0, _⟩ => show win0_4.index t (0 : Fin 2) * 32 + 1 * n.val = 5120 + n.val; omega
  | ⟨1, _⟩ => show win0_4.index t (1 : Fin 2) * 2048 + 1 * k.val = k.val; omega

theorem blk_5 (c : Dev nD) (t : Fin cfg0.N) (n : Fin 128) :
    (iblk m c 5 t : Vec Ideal S1x128 .f32) (ix2 0 n) = (V m c main_v7 : Vec Ideal S1x128 .f32) (ix2 0 n) := by
  obtain ⟨e0, e1⟩ := idx_5 t
  refine congrArg (V m c main_v7 : Vec Ideal S1x128 .f32) (funext fun a => Fin.ext ?_)
  match a with
  | ⟨0, _⟩ => show win0_5.index t (0 : Fin 2) * 1 + 1 * 0 = 0; omega
  | ⟨1, _⟩ => show win0_5.index t (1 : Fin 2) * 128 + 1 * n.val = n.val; omega

/-! ## The two arrays -/

/-- The normalized and modulated entry at batch `b`, row `r`, column `k`. -/
def hid (c : Dev nD) (b : Fin 1) (r : Fin 1024) (k : Fin 2048) : EReal :=
  entry (fun k => (V m c main_v10 : Vec Ideal S1x1024x2048 .f32) (ix3 b r k)) (fun k => (V m c main_v13 : Vec Ideal S1x1x2048 .f32) (ix3 b 0 k))
    (fun k => (V m c main_arg1 : Vec Ideal S1x1x2048 .f32) (ix3 b 0 k)) k

/-- The projected columns, -/
def G6 (c : Dev nD) : Vec Ideal S1x1024x4096 .bf16 := fun i =>
  ∑ k : Fin 2048, hid m c (i 0) (i 1) k * (V m c main_v1 : Vec Ideal S11296x2048 .f32) (ix2 (wrow (i 2)) k)

/-- and the gate lanes: the 32 gate columns and their bias, padded to 128. -/
def G7 (c : Dev nD) : Vec Ideal S1x1024x128 .f32 := fun i =>
  (if h : (i 2).val < 32 then ∑ k : Fin 2048, hid m c (i 0) (i 1) k * (V m c main_v1 : Vec Ideal S11296x2048 .f32) (ix2 (grow ⟨(i 2).val, h⟩) k) else 0)
    + (V m c main_v7 : Vec Ideal S1x128 .f32) (ix2 0 (i 2))

theorem entry_at (c : Dev nD) (t : Fin cfg0.N) (r : Fin 1024) (k : Fin 2048) :
    entry (fun k => (iblk m c 0 (start t) : Vec Ideal S1x1024x2048 .f32) (ix3 0 r k)) (fun k => (iblk m c 1 (start t) : Vec Ideal S1x1x2048 .f32) (ix3 0 0 k))
      (fun k => (iblk m c 2 (start t) : Vec Ideal S1x1x2048 .f32) (ix3 0 0 k)) k = hid m c 0 r k := by
  unfold hid
  simp only [blk_0, blk_1, blk_2]

theorem flushed_6 (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after_6]
  obtain ⟨e0, e1, e2⟩ := idx_6 t
  funext y
  obtain ⟨r, n, rfl⟩ : ∃ (r : Fin 1024) (n : Fin 1024), y = ix3 (0 : Fin 1) r n := ⟨y 1, y 2, funext fun a => by
    match a with
    | ⟨0, _⟩ => exact Fin.ext (by have : (y 0).val < 1 := (y 0).isLt; show (y 0).val = 0; omega)
    | ⟨1, _⟩ => rfl
    | ⟨2, _⟩ => rfl⟩
  have he : ((cfg0.win 6).blk t).view.emb (ix3 (0 : Fin 1) r n) = ix3 0 r (col t n) := by
    funext a; apply Fin.ext
    match a with
    | ⟨0, _⟩ => show win0_6.index t (0 : Fin 3) * 1 + 1 * 0 = 0; omega
    | ⟨1, _⟩ => show win0_6.index t (1 : Fin 3) * 1024 + 1 * r.val = r.val; omega
    | ⟨2, _⟩ => show win0_6.index t (2 : Fin 3) * 1024 + 1 * n.val = t.val % 4 * 1024 + n.val; omega
  show k0_pay2 (rowsAt m c (start t)) (iblk m c 3 t) (ix3 0 r n) = G6 m c (((cfg0.win 6).blk t).view.emb (ix3 (0 : Fin 1) r n))
  rw [he]
  refine (prod_apply _ _ r n).trans ?_
  show _ = ∑ k : Fin 2048, hid m c 0 r k * (V m c main_v1 : Vec Ideal S11296x2048 .f32) (ix2 (wrow (col t n)) k)
  refine Finset.sum_congr rfl fun k _ => ?_
  rw [blk_3]
  refine congrArg (· * _) ?_
  exact (rows_apply _ _ _ r k).trans (entry_at m c t r k)

theorem flushed_7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after_7]
  obtain ⟨e0, e1, e2⟩ := idx_7 t
  funext y
  obtain ⟨r, n, rfl⟩ : ∃ (r : Fin 1024) (n : Fin 128), y = ix3 (0 : Fin 1) r n := ⟨y 1, y 2, funext fun a => by
    match a with
    | ⟨0, _⟩ => exact Fin.ext (by have : (y 0).val < 1 := (y 0).isLt; show (y 0).val = 0; omega)
    | ⟨1, _⟩ => rfl
    | ⟨2, _⟩ => rfl⟩
  have he : ((cfg0.win 7).blk t).view.emb (ix3 (0 : Fin 1) r n) = ix3 0 r n := by
    funext a; apply Fin.ext
    match a with
    | ⟨0, _⟩ => show win0_7.index t (0 : Fin 3) * 1 + 1 * 0 = 0; omega
    | ⟨1, _⟩ => show win0_7.index t (1 : Fin 3) * 1024 + 1 * r.val = r.val; omega
    | ⟨2, _⟩ => show win0_7.index t (2 : Fin 3) * 128 + 1 * n.val = n.val; omega
  show lanesAt m c (start t) (ix3 0 r n) = G7 m c (((cfg0.win 7).blk t).view.emb (ix3 (0 : Fin 1) r n))
  rw [he]
  unfold lanesAt
  refine (lanes_apply _ _ _ _ _ r n).trans ?_
  show _ = (if h : n.val < 32 then ∑ k : Fin 2048, hid m c 0 r k * (V m c main_v1 : Vec Ideal S11296x2048 .f32) (ix2 (grow ⟨n.val, h⟩) k) else 0)
    + (V m c main_v7 : Vec Ideal S1x128 .f32) (ix2 0 n)
  rw [blk_5]
  simp only [entry_at, blk_4]

theorem cover_6 (i : S1x1024x4096.Idx) : ∃ t : Fin cfg0.N, (cfg0.win 6).flush t = true ∧ i ∈ ((cfg0.win 6).blk t).view.set := by
  have h0 : (i 0).val < 1 := (i 0).isLt
  have h1 : (i 1).val < 1024 := (i 1).isLt
  have h2 : (i 2).val < 4096 := (i 2).isLt
  let t : Fin cfg0.N := ⟨(i 2).val / 1024, lt_of_lt_of_eq (by omega) N_0.symm⟩
  have ht : t.val = (i 2).val / 1024 := rfl
  obtain ⟨e0, e1, e2⟩ := idx_6 t
  refine ⟨t, flush_6 t, ?_⟩
  show i ∈ ((View.whole main_v14_0).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 1024 ≤ (i 2).val ∧ (i 2).val < win0_6.index t (2 : Fin 3) * 1024 + 1024; omega

theorem cover_7 (i : S1x1024x128.Idx) : ∃ t : Fin cfg0.N, (cfg0.win 7).flush t = true ∧ i ∈ ((cfg0.win 7).blk t).view.set := by
  have h0 : (i 0).val < 1 := (i 0).isLt
  have h1 : (i 1).val < 1024 := (i 1).isLt
  have h2 : (i 2).val < 128 := (i 2).isLt
  let t : Fin cfg0.N := ⟨3, lt_of_lt_of_eq (by omega) N_0.symm⟩
  have ht : t.val = 3 := rfl
  obtain ⟨e0, e1, e2⟩ := idx_7 t
  refine ⟨t, by rw [flush_7]; exact decide_eq_true (by omega), ?_⟩
  show i ∈ ((View.whole main_v14_1).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 128 ≤ (i 2).val ∧ (i 2).val < win0_7.index t (2 : Fin 3) * 128 + 128; omega

theorem final_6 (c : Dev nD) : (dats m 0 c).arrAt 6 cfg0.N = G6 m c :=
  (dats m 0 c).arrAt_eq_of_cover 6 _ (fun t _ => flushed_6 m c t) cover_6
theorem final_7 (c : Dev nD) : (dats m 0 c).arrAt 7 cfg0.N = G7 m c :=
  (dats m 0 c).arrAt_eq_of_cover 7 _ (fun t _ => flushed_7 m c t) cover_7

/-- The run with both results named. -/
theorem run : θ_run defs (onTc (τ := τ) (main (F := Ideal))) ⟨m, fun _ => 0, ρ⟩ (fun r => ∀ c : Dev nD,
      r.2.mem ((c.tc : Thread nD τ).loc main_v14_0) = G6 m c ∧ r.2.mem ((c.tc : Thread nD τ).loc main_v14_1) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (final_6 m c), ((h.1 c).1 7).trans (final_7 m c), (h.2.1 c)⟩)
    (θ_run_and (run_main m ρ) (frame m ρ))

end Cert.Kernel6Ideal.Context

end
-- ==== Proof.ContextHost.lean ====
/- What the host code before the context tokens' projection leaves in the arrays its windows stage. -/
module

public import proofs.«01_k».proof.Proof.Gen.Kernel6Ideal.Frame
public import Idealize.ShloMosaic.Lib.Pointwise
public import Idealize.ShloMosaic.Lib.Routing.OpsPair
public import Idealize.ShloMosaic.Lib.Routing.OpsSet

@[expose] public section

set_option maxRecDepth 16384

noncomputable section

namespace Cert.Kernel6Ideal.Context

open Cert.Kernel6Ideal Cert.Kernel6Ideal.Gen
open Idealize.ShloMosaic Idealize.ShloMosaic.TcCoe

variable {F : FTy → Type} [FloatOps F]

/-! ## What the host code computes -/

/-- The projection, transposed. -/
def weights (w : Vec F S1x2048x11296 .f32) : Vec F S11296x2048 .f32 :=
  transpose S11296x2048 [1, 0] (shapeCast S2048x11296 w shapeCasts_S1x2048x11296_S2048x11296) transposes_S2048x11296_S11296x2048_1_0

/-- The norm's gain times one plus the scale. -/
def gain (g : Vec F S1x2048 .f32) (z : Vec F S1x1x2048 .f32) : Vec F S1x1x2048 .f32 :=
  mulf (broadcastInDim S1x1x2048 ![2] bcast_S2048_S1x1x2048_2 (shapeCast S2048 g shapeCasts_S1x2048_S2048))
    (addf (broadcastInDim S1x1x2048 ![] bcast_S_S1x1x2048 (constant S_ .f32 0x3F800000#32)) z)

/-- The position the gates' bias is stored at: row 0, lane 0. -/
def corner : IVec S2 32 :=
  concatenate S2 0 [⟨S1, broadcastInDim S1 ![] bcast_S_S1 (constantI S_ 32 0#32)⟩, ⟨S1, broadcastInDim S1 ![] bcast_S_S1 (constantI S_ 32 0#32)⟩] concatenates_S1_S1_S2_d0

/-- The gates' bias, padded to 128 lanes. -/
def bias (b : Vec F S1x32 .f32) : Vec F S1x128 .f32 :=
  Host.scatter scatter_S1x128_S2_S32_0_0_01_0 (fun _ b => b) (broadcastInDim S1x128 ![] bcast_S_S1x128 (constant S_ .f32 0x00000000#32 : FVec F S_ .f32)) corner
    (shapeCast S32 b shapeCasts_S1x32_S32)

section
variable (m : (ℓ : Loc nD τ sig) → Buf (Elt F) ℓ)

theorem V_rows (c : Dev nD) :
    V m c main_v10 = shapeCast S1x1024x2048 (m ((c.tc : Thread nD τ).loc main_arg0) : Vec F S4x256x2048 .f32) shapeCasts_S4x256x2048_S1x1024x2048 := by
  show StableHlo.after hostOps0 _ _ = _
  after_results_simp
  rfl

theorem V_weights (c : Dev nD) : V m c main_v1 = weights (m ((c.tc : Thread nD τ).loc main_arg4)) := by
  show StableHlo.after hostOps0 _ _ = _
  after_results_simp
  rfl

theorem V_gain (c : Dev nD) : V m c main_v13 = gain (m ((c.tc : Thread nD τ).loc main_arg3)) (m ((c.tc : Thread nD τ).loc main_arg2)) := by
  show StableHlo.after hostOps0 _ _ = _
  after_results_simp
  rfl

theorem V_bias (c : Dev nD) : V m c main_v7 = bias (m ((c.tc : Thread nD τ).loc main_arg5)) := by
  show StableHlo.after hostOps0 _ _ = _
  after_results_simp
  rfl
end

/-! ## Entry by entry -/

theorem weights_apply (w : Vec Ideal S1x2048x11296 .f32) (n : Fin 11296) (k : Fin 2048) : weights w (ix2 n k) = w (ix3 0 k n) := by
  pointwise [weights]

theorem gain_apply (g : Vec Ideal S1x2048 .f32) (z : Vec Ideal S1x1x2048 .f32) (b : Fin 1) (k : Fin 2048) :
    gain g z (ix3 b 0 k) = g (ix2 0 k) * (Ideal.ofBits .f32 0x3F800000#32 + z (ix3 b 0 k)) := by
  pointwise [gain]

theorem corner_zero (j : S2.Idx) : corner j = 0#32 := by
  obtain ⟨i, rfl⟩ : ∃ i : Fin 2, j = ix1 i := ⟨j 0, by funext a; match a with | ⟨0, _⟩ => rfl⟩
  fin_cases i <;> rfl

theorem start_zero (k : S32.Idx) (a : Fin 2) : scatter_S1x128_S2_S32_0_0_01_0.start k corner a = 0 := by
  unfold ScatterDims.start
  split
  · rw [corner_zero]; rfl
  · rfl

theorem lands (k : Fin 32) (n : Fin 128) :
    scatter_S1x128_S2_S32_0_0_01_0.resultIdx? (ix1 k) corner = some (ix2 0 n) ↔ k.val = n.val := by
  rw [Routing.resultIdx?_eq_some]
  constructor
  · intro h
    have h1 := h 1
    rw [start_zero] at h1
    have h2 : (scatter_S1x128_S2_S32_0_0_01_0.window (ix1 k) 1 : Int) = (k.val : Int) := rfl
    have h3 : ((ix2 (0 : Fin 1) n (1 : Fin 2)).val : Int) = (n.val : Int) := rfl
    rw [h2] at h1
    have h4 : (0 : Int) + (k.val : Int) = (n.val : Int) := h1
    omega
  · intro h a
    rw [start_zero]
    match a with
    | ⟨0, _⟩ => rfl
    | ⟨1, _⟩ => show (0 : Int) + (k.val : Int) = (n.val : Int); omega

/-- The 32 gates' bias, then zeros. -/
theorem bias_apply (w : Vec Ideal S1x32 .f32) (n : Fin 128) :
    bias w (ix2 0 n) = if h : n.val < 32 then w (ix2 0 ⟨n.val, h⟩) else Ideal.ofBits .f32 0x00000000#32 := by
  have hk : ∀ k : S32.Idx, ∃ i : Fin 32, k = ix1 i := fun k => ⟨k 0, by funext a; match a with | ⟨0, _⟩ => rfl⟩
  by_cases h : n.val < 32
  · rw [dif_pos h]
    refine Routing.scatter_set_hit _ _ _ _ _ _ (fun k e => ?_) (ix1 ⟨n.val, h⟩) ((lands _ _).mpr rfl)
    obtain ⟨i, rfl⟩ := hk k
    obtain rfl : i = ⟨n.val, h⟩ := Fin.ext ((lands _ _).mp e)
    pointwise []
  · rw [dif_neg h]
    refine (Routing.scatter_set_miss _ _ _ _ _ fun k e => ?_).trans ?_
    · obtain ⟨i, rfl⟩ := hk k
      exact h ((lands _ _).mp e ▸ i.isLt)
    · rfl

end Cert.Kernel6Ideal.Context

end
-- ==== Proof.ContextRef.lean ====
/- The reference's two results, entry by entry. -/
module

public import proofs.«01_k».proof.Proof.Gen.Reference6Ideal.Run
public import Idealize.ShloMosaic.Lib.Pointwise

@[expose] public section

set_option maxRecDepth 16384

noncomputable section

namespace Cert.Reference6Ideal.Context

open Cert.Reference6Ideal Cert.Reference6Ideal.Gen Cert.Reference6Ideal.Value
open Idealize.ShloMosaic Idealize.ShloMosaic.TcCoe Idealize.SL.Sem

variable {F : FTy → Type} [FloatOps F]

/-- The tokens of the four batches, row after row, -/
def rows (x : Vec F S4x256x2048 .f32) : Vec F S1x1024x2048 .f32 := shapeCast S1x1024x2048 x shapeCasts_S4x256x2048_S1x1024x2048

/-- normalized and modulated, -/
def hidden (x : Vec F S1x1024x2048 .f32) (sh sc : Vec F S1x1x2048 .f32) (g : Vec F S1x2048 .f32) : Vec F S1x1024x2048 .f32 :=
  addf (mulf (mulf (mulf x (broadcastInDim S1x1024x2048 ![0, 1, 2] bcast_S1x1024x1_S1x1024x2048_0_1_2 (Host.rsqrt (addf (Host.divf (broadcastInDim S1x1024x1 ![0, 1] bcast_S1x1024_S1x1024x1_0_1 (Host.reduceAdd (mulf x x) (constant S_ .f32 0x00000000#32) reducesTo_S1x1024x2048_S1x1024_d2 h_S_)) (broadcastInDim S1x1024x1 ![] bcast_S_S1x1024x1 (constant S_ .f32 0x45000000#32))) (broadcastInDim S1x1024x1 ![] bcast_S_S1x1024x1 (constant S_ .f32 0x358637BD#32)))))) (broadcastInDim S1x1024x2048 ![0, 1, 2] bcast_S1x1x2048_S1x1024x2048_0_1_2 (broadcastInDim S1x1x2048 ![2] bcast_S2048_S1x1x2048_2 (shapeCast S2048 g shapeCasts_S1x2048_S2048)))) (broadcastInDim S1x1024x2048 ![0, 1, 2] bcast_S1x1x2048_S1x1024x2048_0_1_2 (addf (broadcastInDim S1x1x2048 ![] bcast_S_S1x1x2048 (constant S_ .f32 0x3F800000#32)) sc))) (broadcastInDim S1x1024x2048 ![0, 1, 2] bcast_S1x1x2048_S1x1024x2048_0_1_2 sh)

/-- their projection, -/
def project (h : Vec F S1x1024x2048 .f32) (w : Vec F S1x2048x11296 .f32) : Vec F S1x1024x11296 .f32 :=
  Host.dotGeneral dot_S1x1024x2048_S2048x11296_S1x1024x11296_2_0_01_1_n_n none h (shapeCast S2048x11296 w shapeCasts_S1x2048x11296_S2048x11296)

/-- its columns that are read, -/
def columns (p : Vec F S1x1024x11296 .f32) : Vec F S1x1024x4096 .bf16 :=
  truncf .bf16 (fn_main_v37 (F := F)
    (extractStridedSlice S1x1024x1024 ![0, 0, 0] p slices_S1x1024x11296_S1x1024x1024_0_0_0)
    (extractStridedSlice S1x1024x1024 ![0, 0, 1024] p slices_S1x1024x11296_S1x1024x1024_0_0_1024)
    (extractStridedSlice S1x1024x1024 ![0, 0, 2048] p slices_S1x1024x11296_S1x1024x1024_0_0_2048)
    (extractStridedSlice S1x1024x1024 ![0, 0, 5152] p slices_S1x1024x11296_S1x1024x1024_0_0_5152)) bitsLt_bf16_f32

/-- and the gates with their bias, padded to 128 lanes. -/
def gates (p : Vec F S1x1024x11296 .f32) (b : Vec F S1x32 .f32) : Vec F S1x1024x128 .f32 :=
  fn_main_v39 (F := F) (addf (extractStridedSlice S1x1024x32 ![0, 0, 5120] p slices_S1x1024x11296_S1x1024x32_0_0_5120)
      (broadcastInDim S1x1024x32 ![0, 1, 2] bcast_S1x1x32_S1x1024x32_0_1_2 (broadcastInDim S1x1x32 ![2] bcast_S32_S1x1x32_2 (shapeCast S32 b shapeCasts_S1x32_S32))))
    (broadcastInDim S1x1024x96 ![] bcast_S_S1x1024x96 (constant S_ .f32 0x00000000#32))

theorem hidden_apply (x : Vec Ideal S1x1024x2048 .f32) (sh sc : Vec Ideal S1x1x2048 .f32) (g : Vec Ideal S1x2048 .f32) (b : Fin 1) (r : Fin 1024) (k : Fin 2048) :
    hidden x sh sc g (ix3 b r k)
      = x (ix3 b r k) * Ideal.rsqrt (Ideal.div (∑ j, x (ix3 b r j) * x (ix3 b r j)) (Ideal.ofBits .f32 1157627904#32) + Ideal.ofBits .f32 897988541#32)
          * g (ix2 0 k) * (Ideal.ofBits .f32 0x3F800000#32 + sc (ix3 b 0 k)) + sh (ix3 b 0 k) := by
  obtain rfl : b = 0 := Subsingleton.elim _ _
  pointwise [hidden]

theorem project_apply (h : Vec Ideal S1x1024x2048 .f32) (w : Vec Ideal S1x2048x11296 .f32) (b : Fin 1) (r : Fin 1024) (n : Fin 11296) :
    project h w (ix3 b r n) = ∑ k : Fin 2048, h (ix3 b r k) * w (ix3 0 k n) := by
  obtain rfl : b = 0 := Subsingleton.elim _ _
  pointwise [project]

theorem columns_apply (p : Vec Ideal S1x1024x11296 .f32) (b : Fin 1) (r : Fin 1024) (n : Fin 4096) :
    columns p (ix3 b r n) = p (ix3 b r ⟨n.val + (if 3072 ≤ n.val then 2080 else 0), by have := n.isLt; split <;> omega⟩) := by
  obtain rfl : b = 0 := Subsingleton.elim _ _
  generalize hq : (⟨n.val + (if 3072 ≤ n.val then 2080 else 0), _⟩ : Fin 11296) = q
  have hv : q.val = n.val + (if 3072 ≤ n.val then 2080 else 0) := by rw [← hq]
  clear hq
  have hn := n.isLt
  pointwise [columns, fn_main_v37]
  have leaf : ∀ a : Fin 11296, a.val = q.val → p (ix3 0 r a) = p (ix3 0 r q) := fun a e => congrArg (fun q => p (ix3 0 r q)) (Fin.ext e)
  by_cases h0 : n.val < 1024
  · refine (dif_pos h0).trans (leaf _ ?_); show n.val = q.val; rw [hv]; split <;> omega
  refine (dif_neg h0).trans ?_
  by_cases h1 : n.val - 1024 < 1024
  · refine (dif_pos h1).trans (leaf _ ?_); show 1024 + (n.val - 1024) = q.val; rw [hv]; split <;> omega
  refine (dif_neg h1).trans ?_
  by_cases h2 : n.val - 1024 - 1024 < 1024
  · refine (dif_pos h2).trans (leaf _ ?_); show 2048 + (n.val - 1024 - 1024) = q.val; rw [hv]; split <;> omega
  refine (dif_neg h2).trans ?_
  refine leaf _ ?_; show 5152 + (n.val - 1024 - 1024 - 1024) = q.val; rw [hv]; split <;> omega

theorem gates_apply (p : Vec Ideal S1x1024x11296 .f32) (w : Vec Ideal S1x32 .f32) (b : Fin 1) (r : Fin 1024) (n : Fin 128) :
    gates p w (ix3 b r n) = if h : n.val < 32 then p (ix3 b r ⟨5120 + n.val, by omega⟩) + w (ix2 0 ⟨n.val, h⟩) else 0 := by
  obtain rfl : b = 0 := Subsingleton.elim _ _
  pointwise [gates, fn_main_v39]

section
variable (m : (ℓ : Loc nD τ sig) → Buf (Elt F) ℓ) (ρ : Dev nD → PrngReg)

/-- The projection of the arguments. -/
def proj (c : Dev nD) : Vec F S1x1024x11296 .f32 :=
  project (hidden (rows (m ((c.tc : Thread nD τ).loc main_arg0))) (m ((c.tc : Thread nD τ).loc main_arg1)) (m ((c.tc : Thread nD τ).loc main_arg2)) (m ((c.tc : Thread nD τ).loc main_arg3)))
    (m ((c.tc : Thread nD τ).loc main_arg4))

theorem run : θ_run defs (onTc (τ := τ) (main (F := F))) ⟨m, fun _ => 0, ρ⟩ fun r => ∀ c : Dev nD,
      r.2.mem ((c.tc : Thread nD τ).loc main_v40) = columns (proj m c)
      ∧ r.2.mem ((c.tc : Thread nD τ).loc main_v39) = gates (proj m c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by unfold res_main_v40 columns proj project hidden rows fn_main_v37; rfl),
    (h c).2.1.trans (by unfold gates proj project hidden rows fn_main_v39; rfl), (h c).2.2⟩) (Value.run m ρ)
end

end Cert.Reference6Ideal.Context

end
-- ==== Proof.ContextEquation.lean ====
/- The context tokens' projection and its reference leave the same two arrays. -/
module

public import proofs.«01_k».proof.Proof.ContextValue
public import proofs.«01_k».proof.Proof.ContextHost
public import proofs.«01_k».proof.Proof.ContextRef

@[expose] public section

set_option maxRecDepth 16384

noncomputable section

namespace Cert.Context

open Idealize.ShloMosaic Idealize.ShloMosaic.TcCoe Idealize.SL.Sem

variable (m : (ℓ : Loc Kernel6Ideal.nD Kernel6Ideal.τ Kernel6Ideal.sig) → Buf (Elt Ideal) ℓ)
variable (m' : (ℓ : Loc Reference6Ideal.nD Reference6Ideal.τ Reference6Ideal.sig) → Buf (Elt Ideal) ℓ)

open Kernel6Ideal in
/-- The kernel's normalized entry of the arguments is the reference's. -/
theorem hid_eq (c : Dev nD) (b : Fin 1) (r : Fin 1024) (k : Fin 2048) :
    Kernel6Ideal.Context.hid m c b r k
      = Reference6Ideal.Context.hidden (Reference6Ideal.Context.rows (m ((c.tc : Thread nD τ).loc main_arg0))) (m ((c.tc : Thread nD τ).loc main_arg1)) (m ((c.tc : Thread nD τ).loc main_arg2))
          (m ((c.tc : Thread nD τ).loc main_arg3)) (ix3 b r k) := by
  unfold Kernel6Ideal.Context.hid Kernel6Ideal.Context.entry
  rw [Kernel6Ideal.Context.V_gain, Kernel6Ideal.Context.V_rows, Kernel6Ideal.Gen.V_main_arg1]
  unfold Reference6Ideal.Context.rows
  refine Eq.trans ?_ (Reference6Ideal.Context.hidden_apply _ _ _ _ b r k).symm
  dsimp only
  rw [Kernel6Ideal.Context.gain_apply]
  simp only [mul_assoc]

open Kernel6Ideal in
/-- The kernel's product of a row with one of the projection's rows is the reference's entry. -/
theorem dot_eq (c : Dev nD) (b : Fin 1) (r : Fin 1024) (n : Fin 11296) :
    ∑ k : Fin 2048, Kernel6Ideal.Context.hid m c b r k * (Kernel6Ideal.Gen.V m c main_v1 : Vec Ideal S11296x2048 .f32) (ix2 n k)
      = Reference6Ideal.Context.project (Reference6Ideal.Context.hidden (Reference6Ideal.Context.rows (m ((c.tc : Thread nD τ).loc main_arg0))) (m ((c.tc : Thread nD τ).loc main_arg1)) (m ((c.tc : Thread nD τ).loc main_arg2))
          (m ((c.tc : Thread nD τ).loc main_arg3))) (m ((c.tc : Thread nD τ).loc main_arg4)) (ix3 b r n) := by
  refine Eq.trans ?_ (Reference6Ideal.Context.project_apply _ _ b r n).symm
  refine Finset.sum_congr rfl fun k _ => ?_
  rw [hid_eq, Kernel6Ideal.Context.V_weights]
  exact congrArg _ (Kernel6Ideal.Context.weights_apply _ n k)

/-- The arguments of the two programs are the same. -/
def Agree : Prop := ∀ c : Dev Kernel6Ideal.nD,
  m' ((c.tc : Thread Reference6Ideal.nD Reference6Ideal.τ).loc Reference6Ideal.main_arg0) = m ((c.tc : Thread Kernel6Ideal.nD Kernel6Ideal.τ).loc Kernel6Ideal.main_arg0)
  ∧ m' ((c.tc : Thread Reference6Ideal.nD Reference6Ideal.τ).loc Reference6Ideal.main_arg1) = m ((c.tc : Thread Kernel6Ideal.nD Kernel6Ideal.τ).loc Kernel6Ideal.main_arg1)
  ∧ m' ((c.tc : Thread Reference6Ideal.nD Reference6Ideal.τ).loc Reference6Ideal.main_arg2) = m ((c.tc : Thread Kernel6Ideal.nD Kernel6Ideal.τ).loc Kernel6Ideal.main_arg2)
  ∧ m' ((c.tc : Thread Reference6Ideal.nD Reference6Ideal.τ).loc Reference6Ideal.main_arg3) = m ((c.tc : Thread Kernel6Ideal.nD Kernel6Ideal.τ).loc Kernel6Ideal.main_arg3)
  ∧ m' ((c.tc : Thread Reference6Ideal.nD Reference6Ideal.τ).loc Reference6Ideal.main_arg4) = m ((c.tc : Thread Kernel6Ideal.nD Kernel6Ideal.τ).loc Kernel6Ideal.main_arg4)
  ∧ m' ((c.tc : Thread Reference6Ideal.nD Reference6Ideal.τ).loc Reference6Ideal.main_arg5) = m ((c.tc : Thread Kernel6Ideal.nD Kernel6Ideal.τ).loc Kernel6Ideal.main_arg5)

variable {m m'}

open Kernel6Ideal in
theorem proj_eq (h : Agree m m') (c : Dev nD) (b : Fin 1) (r : Fin 1024) (n : Fin 11296) :
    Reference6Ideal.Context.proj m' c (ix3 b r n)
      = ∑ k : Fin 2048, Kernel6Ideal.Context.hid m c b r k * (Kernel6Ideal.Gen.V m c main_v1 : Vec Ideal S11296x2048 .f32) (ix2 n k) := by
  obtain ⟨h0, h1, h2, h3, h4, h5⟩ := h c
  rw [dot_eq]
  unfold Reference6Ideal.Context.proj
  rw [h0, h1, h2, h3, h4]

theorem columns_eq (h : Agree m m') (c : Dev Kernel6Ideal.nD) :
    Reference6Ideal.Context.columns (Reference6Ideal.Context.proj m' c) = Kernel6Ideal.Context.G6 m c := by
  funext i
  obtain ⟨b, r, n, rfl⟩ : ∃ (b : Fin 1) (r : Fin 1024) (n : Fin 4096), i = ix3 b r n := ⟨i 0, i 1, i 2, eq_ix3 i⟩
  exact (Reference6Ideal.Context.columns_apply _ b r n).trans (proj_eq h c b r _)

theorem gates_eq (h : Agree m m') (c : Dev Kernel6Ideal.nD) :
    Reference6Ideal.Context.gates (Reference6Ideal.Context.proj m' c) (m' ((c.tc : Thread Reference6Ideal.nD Reference6Ideal.τ).loc Reference6Ideal.main_arg5))
      = Kernel6Ideal.Context.G7 m c := by
  obtain ⟨h0, h1, h2, h3, h4, h5⟩ := h c
  funext i
  obtain ⟨b, r, n, rfl⟩ : ∃ (b : Fin 1) (r : Fin 1024) (n : Fin 128), i = ix3 b r n := ⟨i 0, i 1, i 2, eq_ix3 i⟩
  refine (Reference6Ideal.Context.gates_apply _ _ b r n).trans ?_
  unfold Kernel6Ideal.Context.G7
  show _ = (if h : n.val < 32 then _ else _) + _
  rw [Kernel6Ideal.Context.V_bias]
  have hb := Kernel6Ideal.Context.bias_apply (m ((c.tc : Thread Kernel6Ideal.nD Kernel6Ideal.τ).loc Kernel6Ideal.main_arg5)) n
  by_cases hn : n.val < 32
  · rw [dif_pos hn, dif_pos hn]
    rw [dif_pos hn] at hb
    refine congrArg₂ (· + ·) (proj_eq h c b r _) ?_
    refine Eq.trans ?_ hb.symm
    rw [h5]
  · rw [dif_neg hn, dif_neg hn]
    rw [dif_neg hn] at hb
    refine Eq.trans ?_ (congrArg (fun z : EReal => 0 + z) hb.symm)
    show (0 : EReal) = 0 + Ideal.ofBits .f32 0x00000000#32
    simp

end Cert.Context

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.InprojFrame
public import proofs.«01_k».proof.Proof.InprojEquation
public import proofs.«01_k».proof.Proof.FinalEquation
public import proofs.«01_k».proof.Proof.OutprojEquation
public import proofs.«01_k».proof.Proof.ModulationEquation
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.RglruRun
public import proofs.«01_k».proof.Proof.RglruRoundedRun
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.ContextFrame
public import proofs.«01_k».proof.Proof.ContextEquation
public import Idealize.ShloMosaic.Adequacy
public import Idealize.ShloMosaic.Init
public import proofs.«01_k».proof.Proof.Gen.ReferenceIdeal.Run

@[expose] public section

noncomputable section

namespace Cert.Proof

open Idealize.ShloMosaic Idealize.SL.Sem Cert.Kernel

theorem quiescent_Reference : Cert.quiescent_ReferenceIdeal := fun m g _ =>
  (θ_run _ _ _).mono (fun r h => ⟨fun c => (h c).2.2, Idealize.ShloMosaic.sem_eq_zero_of_no_sems (by decide) r.2⟩) (Cert.ReferenceIdeal.Inproj.run m g)

theorem algebraic : Cert.algebraic_KernelIdeal_ReferenceIdeal := fun m g m' g' _ h =>
  ⟨fun c => Cert.KernelIdeal.Inproj.G6 m c, fun c => Cert.KernelIdeal.Inproj.G7 m c, Cert.KernelIdeal.Inproj.run m g,
    (θ_run _ _ _).mono (fun _ q c => ⟨(q c).1.trans (Cert.Inproj.columns_eq h c), (q c).2.1.trans (Cert.Inproj.gates_eq h c), (q c).2.2⟩)
      (Cert.ReferenceIdeal.Inproj.run m' g')⟩

theorem quiescent_Reference2 : Cert.quiescent_Reference2Ideal := fun m g _ =>
  (θ_run _ _ _).mono (fun r h => ⟨fun c => (h c).2.2.2, Idealize.ShloMosaic.sem_eq_zero_of_no_sems (by decide) r.2⟩) (Cert.Reference2Ideal.Value.run m g)

theorem algebraic2 : Cert.algebraic_Kernel2Ideal_Reference2Ideal_pre_finite := fun m g m' g' p h =>
  have args : ∀ c, Cert.Kernel2Ideal.Outproj.Args m c := fun c => Cert.Pre_finite.Outproj.reals _ _ _ _ _ _ _ _ _ _ _ _ _ _ (p c)
  have same : ∀ c, Cert.Outproj.Same m m' c := fun c => by
    obtain ⟨h0, h1, h2, h3, h4, h5, h6, h7, h8, h9, h10, h11, h12, h13⟩ := h c
    exact ⟨h0, h1, h2, h3, h4, h5, h6, h7, h8, h9, h10, h11, h12, h13⟩
  ⟨fun c => Cert.Kernel2Ideal.Outproj.GX m c, fun c => Cert.Kernel2Ideal.Outproj.GH m c, fun c => Cert.Kernel2Ideal.Outproj.GR m c, Cert.Kernel2Ideal.Outproj.run g args,
    (θ_run _ _ _).mono (fun _ q c => ⟨(q c).1.trans (Cert.Outproj.X_eq (same c)), (q c).2.1.trans (Cert.Outproj.H_eq (same c)),
      (q c).2.2.1.trans (Cert.Outproj.R_eq (same c) (args c)), (q c).2.2.2⟩) (Cert.Reference2Ideal.Outproj.run m' g')⟩

theorem quiescent_Reference3 : Cert.quiescent_Reference3Ideal := fun m g _ =>
  (θ_run _ _ _).mono (fun r h => ⟨fun c => (h c).2, Idealize.ShloMosaic.sem_eq_zero_of_no_sems (by decide) r.2⟩) (Cert.Reference3Ideal.Final.run m g)

theorem algebraic3 : Cert.algebraic_Kernel3Ideal_Reference3Ideal := fun m g m' g' _ h =>
  ⟨fun c => Cert.Kernel3Ideal.Final.G m c, Cert.Kernel3Ideal.Final.run m g,
    (θ_run _ _ _).mono (fun _ q c => ⟨(q c).1.trans (by
      obtain ⟨h0, h1, h2, h3, h4⟩ := h c
      rw [h0, h1, h2, h3, h4]
      exact (Cert.Final.G_eq c).symm), (q c).2⟩) (Cert.Reference3Ideal.Final.run m' g')⟩

theorem quiescent_Reference4 : Cert.quiescent_Reference4Ideal := fun m g _ =>
  (θ_run _ _ _).mono (fun r h => ⟨fun c => (h c).2, Idealize.ShloMosaic.sem_eq_zero_of_no_sems (by decide) r.2⟩) (Cert.Reference4Ideal.Modulation.run m g)

theorem algebraic4 : Cert.algebraic_Kernel4Ideal_Reference4Ideal := fun m g m' g' _ h =>
  ⟨fun c => Cert.Kernel4Ideal.Modulation.G m c, Cert.Kernel4Ideal.Modulation.run m g,
    (θ_run _ _ _).mono (fun _ q c => ⟨(q c).1.trans (by
      obtain ⟨h0, h1, h2, h3⟩ := h c
      rw [h0, h1, h2, h3]
      exact Cert.Reference4Ideal.Modulation.proj_silu _ _ _ _), (q c).2⟩) (Cert.Reference4Ideal.Modulation.run m' g')⟩

theorem quiescent_Reference5 : Cert.quiescent_Reference5Ideal := fun m g _ =>
  (θ_run _ _ _).mono (fun r h => ⟨fun c => (h c).2, Idealize.ShloMosaic.sem_eq_zero_of_no_sems (by decide) r.2⟩) (Cert.Reference5Ideal.Value.run m g)

theorem named : Cert.preserves_Kernel5_Kernel5Ideal :=
  IdealRules.named_const.statement Cert.Kernel5Ideal.κ "half_k" .f32 0xC0B8AA3B#32 (((-4) * (Real.log 2)⁻¹ : ℝ) : EReal) rfl

theorem quiescent_Reference6 : Cert.quiescent_Reference6Ideal := fun m g _ =>
  (θ_run _ _ _).mono (fun r h => ⟨fun c => (h c).2.2, Idealize.ShloMosaic.sem_eq_zero_of_no_sems (by decide) r.2⟩) (Cert.Reference6Ideal.Context.run m g)

theorem algebraic6 : Cert.algebraic_Kernel6Ideal_Reference6Ideal := fun m g m' g' _ h =>
  ⟨fun c => Cert.Kernel6Ideal.Context.G6 m c, fun c => Cert.Kernel6Ideal.Context.G7 m c, Cert.Kernel6Ideal.Context.run m g,
    (θ_run _ _ _).mono (fun _ q c => ⟨(q c).1.trans (Cert.Context.columns_eq h c), (q c).2.1.trans (Cert.Context.gates_eq h c), (q c).2.2⟩)
      (Cert.Reference6Ideal.Context.run m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Outproj.facts,
  fun m g _ => Cert.Kernel.Inproj.frame m g, fun m g _ => Cert.KernelIdeal.Inproj.frame m g, quiescent_Reference,
  fun m g _ => Cert.Kernel2.Gen.frame m g, fun m g _ => Cert.Kernel2Ideal.Gen.frame m g, fun m g _ => Cert.Kernel2Ideal.Gen.frame m g,
  quiescent_Reference2, fun m g _ => quiescent_Reference2 m g trivial,
  fun m g _ => Cert.Kernel3.Gen.frame m g, fun m g _ => Cert.Kernel3Ideal.Gen.frame m g, quiescent_Reference3,
  fun m g _ => Cert.Kernel4.Gen.frame m g, fun m g _ => Cert.Kernel4Ideal.Gen.frame m g, quiescent_Reference4,
  fun m g _ => Cert.Kernel5.Rglru.frame m g, fun m g _ => Cert.Kernel5Ideal.Rglru.frame m g, quiescent_Reference5,
  fun m g _ => Cert.Kernel6.Context.frame m g, fun m g _ => Cert.Kernel6Ideal.Context.frame m g, quiescent_Reference6,
  trivial, algebraic, trivial, algebraic2, trivial, algebraic3, trivial, algebraic4, named, trivial, algebraic6⟩

end Cert.Proof

end
